-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 [hPre_routed : Cert.Pre_routed.Facts] (m : (ℓ : Loc Cert.Kernel3.nD Cert.Kernel3.τ Cert.Kernel3.sig) → Buf (Elt Bits) ℓ) : Prop :=
  ∀ c : Dev Cert.Kernel3.nD,
    (Cert.Pre_routed.fn (F := Bits) (m ((c.tc : Thread Cert.Kernel3.nD Cert.Kernel3.τ).loc Cert.Kernel3.main_arg0)) (m ((c.tc : Thread Cert.Kernel3.nD Cert.Kernel3.τ).loc Cert.Kernel3.main_arg1)) (m ((c.tc : Thread Cert.Kernel3.nD Cert.Kernel3.τ).loc Cert.Kernel3.main_arg2)) (m ((c.tc : Thread Cert.Kernel3.nD Cert.Kernel3.τ).loc Cert.Kernel3.main_arg3)) (m ((c.tc : Thread Cert.Kernel3.nD Cert.Kernel3.τ).loc Cert.Kernel3.main_arg4)) (m ((c.tc : Thread Cert.Kernel3.nD Cert.Kernel3.τ).loc Cert.Kernel3.main_arg5))).1 = (fun _ => 1#1)
    ∧ (Cert.Pre_routed.fn (F := Bits) (m ((c.tc : Thread Cert.Kernel3.nD Cert.Kernel3.τ).loc Cert.Kernel3.main_arg0)) (m ((c.tc : Thread Cert.Kernel3.nD Cert.Kernel3.τ).loc Cert.Kernel3.main_arg1)) (m ((c.tc : Thread Cert.Kernel3.nD Cert.Kernel3.τ).loc Cert.Kernel3.main_arg2)) (m ((c.tc : Thread Cert.Kernel3.nD Cert.Kernel3.τ).loc Cert.Kernel3.main_arg3)) (m ((c.tc : Thread Cert.Kernel3.nD Cert.Kernel3.τ).loc Cert.Kernel3.main_arg4)) (m ((c.tc : Thread Cert.Kernel3.nD Cert.Kernel3.τ).loc Cert.Kernel3.main_arg5))).2 = (fun _ => 1#1)

def Pre_Kernel3Ideal [hPre_routed : Cert.Pre_routed.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_routed.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))).1 = (fun _ => 1#1)
    ∧ (Cert.Pre_routed.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))).2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_routed [hPre_routed : Cert.Pre_routed.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_routed.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))).1 = (fun _ => 1#1)
    ∧ (Cert.Pre_routed.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))).2 = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] [hPre_routed : Cert.Pre_routed.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] [hPre_routed : Cert.Pre_routed.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Reference3Ideal_pre_routed [hReference3Ideal : Cert.Reference3Ideal.Facts] [hPre_routed : Cert.Pre_routed.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_routed m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v11) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] [hPre_routed : Cert.Pre_routed.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v39) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v30_0)) (v1 : (c : Dev Cert.Kernel4Ideal.nD) → Buf (Elt Ideal) ((c.tc : Thread Cert.Kernel4Ideal.nD Cert.Kernel4Ideal.τ).loc Cert.Kernel4Ideal.main_v30_1)) (v2 : (c : Dev Cert.Kernel4Ideal.nD) → Buf (Elt Ideal) ((c.tc : Thread Cert.Kernel4Ideal.nD Cert.Kernel4Ideal.τ).loc Cert.Kernel4Ideal.main_v30_2)) (v3 : (c : Dev Cert.Kernel4Ideal.nD) → Buf (Elt Ideal) ((c.tc : Thread Cert.Kernel4Ideal.nD Cert.Kernel4Ideal.τ).loc Cert.Kernel4Ideal.main_v30_3)) (v4 : (c : Dev Cert.Kernel4Ideal.nD) → Buf (Elt Ideal) ((c.tc : Thread Cert.Kernel4Ideal.nD Cert.Kernel4Ideal.τ).loc Cert.Kernel4Ideal.main_v30_4)) (v5 : (c : Dev Cert.Kernel4Ideal.nD) → Buf (Elt Ideal) ((c.tc : Thread Cert.Kernel4Ideal.nD Cert.Kernel4Ideal.τ).loc Cert.Kernel4Ideal.main_v30_5)) (v6 : (c : Dev Cert.Kernel4Ideal.nD) → Buf (Elt Ideal) ((c.tc : Thread Cert.Kernel4Ideal.nD Cert.Kernel4Ideal.τ).loc Cert.Kernel4Ideal.main_v30_6)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v30_0) = v0 c
          ∧ r.2.mem ((c.tc : Thread Cert.Kernel4Ideal.nD Cert.Kernel4Ideal.τ).loc Cert.Kernel4Ideal.main_v30_1) = v1 c
          ∧ r.2.mem ((c.tc : Thread Cert.Kernel4Ideal.nD Cert.Kernel4Ideal.τ).loc Cert.Kernel4Ideal.main_v30_2) = v2 c
          ∧ r.2.mem ((c.tc : Thread Cert.Kernel4Ideal.nD Cert.Kernel4Ideal.τ).loc Cert.Kernel4Ideal.main_v30_3) = v3 c
          ∧ r.2.mem ((c.tc : Thread Cert.Kernel4Ideal.nD Cert.Kernel4Ideal.τ).loc Cert.Kernel4Ideal.main_v30_4) = v4 c
          ∧ r.2.mem ((c.tc : Thread Cert.Kernel4Ideal.nD Cert.Kernel4Ideal.τ).loc Cert.Kernel4Ideal.main_v30_5) = v5 c
          ∧ r.2.mem ((c.tc : Thread Cert.Kernel4Ideal.nD Cert.Kernel4Ideal.τ).loc Cert.Kernel4Ideal.main_v30_6) = v6 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v79) = v0 c
          ∧ r.2.mem ((c.tc : Thread Cert.Reference4Ideal.nD Cert.Reference4Ideal.τ).loc Cert.Reference4Ideal.main_v81) = v1 c
          ∧ r.2.mem ((c.tc : Thread Cert.Reference4Ideal.nD Cert.Reference4Ideal.τ).loc Cert.Reference4Ideal.main_v83) = v2 c
          ∧ r.2.mem ((c.tc : Thread Cert.Reference4Ideal.nD Cert.Reference4Ideal.τ).loc Cert.Reference4Ideal.main_v85) = v3 c
          ∧ r.2.mem ((c.tc : Thread Cert.Reference4Ideal.nD Cert.Reference4Ideal.τ).loc Cert.Reference4Ideal.main_v87) = v4 c
          ∧ r.2.mem ((c.tc : Thread Cert.Reference4Ideal.nD Cert.Reference4Ideal.τ).loc Cert.Reference4Ideal.main_v89) = v5 c
          ∧ r.2.mem ((c.tc : Thread Cert.Reference4Ideal.nD Cert.Reference4Ideal.τ).loc Cert.Reference4Ideal.main_v90) = v6 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)) →
    ∃ (v0 : (c : Dev Cert.Kernel5Ideal.nD) → Buf (Elt Ideal) ((c.tc : Thread Cert.Kernel5Ideal.nD Cert.Kernel5Ideal.τ).loc Cert.Kernel5Ideal.main_v6_0)) (v1 : (c : Dev Cert.Kernel5Ideal.nD) → Buf (Elt Ideal) ((c.tc : Thread Cert.Kernel5Ideal.nD Cert.Kernel5Ideal.τ).loc Cert.Kernel5Ideal.main_v6_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v6_0) = v0 c
          ∧ r.2.mem ((c.tc : Thread Cert.Kernel5Ideal.nD Cert.Kernel5Ideal.τ).loc Cert.Kernel5Ideal.main_v6_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v44) = v0 c
          ∧ r.2.mem ((c.tc : Thread Cert.Reference5Ideal.nD Cert.Reference5Ideal.τ).loc Cert.Reference5Ideal.main_v58) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6))

def preserves_Kernel6_Kernel6Ideal : Prop :=
  IdealRules.named_const.Statement Cert.Kernel6Ideal.κ "scale_log2e" .f32 0x3E38AA3B#32 (((8 * (Real.log 2))⁻¹ : ℝ) : EReal)
  ∧ IdealRules.named_const.Statement Cert.Kernel6Ideal.κ "masked" .f32 0xC6616BCD#32 ⊥
  ∧ IdealRules.named_const.Statement Cert.Kernel6Ideal.κ "inv_ln2" .f32 0x3FB8AA3B#32 (((Real.log 2)⁻¹ : ℝ) : EReal)
  ∧ IdealRules.named_const.Statement Cert.Kernel6Ideal.κ "underflow" .f32 0x43160A50#32 ⊤

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v10)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v10) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v28) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite : Cert.Pre_finite.Facts) (hPre_routed : Cert.Pre_routed.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3) (hPre_routed := hPre_routed)
    ∧ quiescent_Kernel3Ideal (hKernel3Ideal := hKernel3Ideal) (hPre_routed := hPre_routed)
    ∧ quiescent_Reference3Ideal (hReference3Ideal := hReference3Ideal)
    ∧ quiescent_Reference3Ideal_pre_routed (hReference3Ideal := hReference3Ideal) (hPre_routed := hPre_routed)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal) (hPre_routed := hPre_routed)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Pre_finite.lean ====
abbrev S16384x512 : Shape := ⟨2, ![16384, 512]⟩
abbrev S8x257 : Shape := ⟨2, ![8, 257]⟩
abbrev S_ : Shape := ⟨0, ![]⟩

class Facts : Prop where
  bcast_S_S16384x512 : S_.BroadcastsInDim S16384x512 (![] : Fin 0 → Fin S16384x512.rank)
  bcast_S_S8x257 : S_.BroadcastsInDim S8x257 (![] : Fin 0 → Fin S8x257.rank)

variable [Facts]

def fn {F : FTy → Type} [FloatOps F] (main_arg0 : FVec F S16384x512 .f32) (main_arg1 : FVec F S16384x512 .f32) (main_arg2 : FVec F S16384x512 .f32) (main_arg3 : FVec F S8x257 .f32) : IVec S16384x512 1 × IVec S16384x512 1 × IVec S8x257 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_v3 : FVec F S16384x512 .f32 := Host.absf main_arg1
  let main_cst_0 : FVec F S_ .f32 := constant S_ .f32 0x7F800000#32
  let main_v4 : FVec F S16384x512 .f32 := broadcastInDim S16384x512 ![] bcast_S_S16384x512 main_cst_0
  let main_v5 : IVec S16384x512 1 := cmpf .olt main_v3 main_v4
  let main_v6 : FVec F S8x257 .f32 := Host.absf main_arg3
  let main_cst_1 : FVec F S_ .f32 := constant S_ .f32 0x7F800000#32
  let main_v7 : FVec F S8x257 .f32 := broadcastInDim S8x257 ![] bcast_S_S8x257 main_cst_1
  let main_v8 : IVec S8x257 1 := cmpf .olt main_v6 main_v7
  (main_v2, main_v5, main_v8)
-- ==== Pre_routed.lean ====
abbrev S36864x1024 : Shape := ⟨2, ![36864, 1024]⟩
abbrev S72 : Shape := ⟨1, ![72]⟩
abbrev S1 : Shape := ⟨1, ![1]⟩
abbrev S2x8x1024x2816 : Shape := ⟨4, ![2, 8, 1024, 2816]⟩
abbrev S2x8x2816x1024 : Shape := ⟨4, ![2, 8, 2816, 1024]⟩
abbrev S_ : Shape := ⟨0, ![]⟩

class Facts : Prop where
  bcast_S_S72 : S_.BroadcastsInDim S72 (![] : Fin 0 → Fin S72.rank)
  bcast_S_S1 : S_.BroadcastsInDim S1 (![] : Fin 0 → Fin S1.rank)

variable [Facts]

def fn {F : FTy → Type} [FloatOps F] (main_arg0 : FVec F S36864x1024 .f32) (main_arg1 : IVec S72 32) (main_arg2 : IVec S1 32) (main_arg3 : FVec F S2x8x1024x2816 .f32) (main_arg4 : FVec F S2x8x1024x2816 .f32) (main_arg5 : FVec F S2x8x2816x1024 .f32) : IVec S72 1 × IVec S1 1 :=
  let main_c : IVec S_ 32 := constantI S_ 32 0#32
  let main_v0 : IVec S72 32 := broadcastInDim S72 ![] bcast_S_S72 main_c
  let main_v1 : IVec S72 1 := cmpi .sge main_arg1 main_v0
  let main_c_0 : IVec S_ 32 := constantI S_ 32 8#32
  let main_v2 : IVec S72 32 := broadcastInDim S72 ![] bcast_S_S72 main_c_0
  let main_v3 : IVec S72 1 := cmpi .slt main_arg1 main_v2
  let main_v4 : IVec S72 1 := andi main_v1 main_v3
  let main_c_1 : IVec S_ 32 := constantI S_ 32 1#32
  let main_v5 : IVec S1 32 := broadcastInDim S1 ![] bcast_S_S1 main_c_1
  let main_v6 : IVec S1 1 := cmpi .sge main_arg2 main_v5
  (main_v4, main_v6)
-- ==== Kernel.lean ====
abbrev S16384x512 : Shape := ⟨2, ![16384, 512]⟩
abbrev S8x257 : Shape := ⟨2, ![8, 257]⟩
abbrev S1024 : Shape := ⟨1, ![1024]⟩
abbrev S_ : Shape := ⟨0, ![]⟩
abbrev S1024x1 : Shape := ⟨2, ![1024, 1]⟩
abbrev S8x1024 : Shape := ⟨2, ![8, 1024]⟩
abbrev S8x1x1024 : Shape := ⟨3, ![8, 1, 1024]⟩
abbrev S8x256x768 : Shape := ⟨3, ![8, 256, 768]⟩
abbrev S1x1x1024 : Shape := ⟨3, ![1, 1, 1024]⟩
abbrev S1x256x768 : Shape := ⟨3, ![1, 256, 768]⟩
abbrev S1x1024 : Shape := ⟨2, ![1, 1024]⟩
abbrev S256x1024 : Shape := ⟨2, ![256, 1024]⟩
abbrev S256x768 : Shape := ⟨2, ![256, 768]⟩
abbrev S256x512 : Shape := ⟨2, ![256, 512]⟩
abbrev S256x128 : Shape := ⟨2, ![256, 128]⟩
abbrev S256x256 : Shape := ⟨2, ![256, 256]⟩
abbrev S1x256x256 : Shape := ⟨3, ![1, 256, 256]⟩
abbrev S256 : Shape := ⟨1, ![256]⟩
abbrev S256x1 : Shape := ⟨2, ![256, 1]⟩

abbrev nBuf : Space → Nat
  | .hbm => 21
  | .vmem => 21
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384x512, .f32⟩
  | .hbm, ⟨3, _⟩ => ⟨S8x257, .f32⟩
  | .hbm, ⟨4, _⟩ => ⟨S1024, .i32⟩
  | .hbm, ⟨5, _⟩ => ⟨S1024, .i1⟩
  | .hbm, ⟨6, _⟩ => ⟨S_, .f32⟩
  | .hbm, ⟨7, _⟩ => ⟨S16384x512, .f32⟩
  | .hbm, ⟨8, _⟩ => ⟨S16384x512, .f32⟩
  | .hbm, ⟨9, _⟩ => ⟨S16384x512, .bf16⟩
  | .hbm, ⟨10, _⟩ => ⟨S16384x512, .bf16⟩
  | .hbm, ⟨11, _⟩ => ⟨S16384x512, .bf16⟩
  | .hbm, ⟨12, _⟩ => ⟨S_, .i32⟩
  | .hbm, ⟨13, _⟩ => ⟨S1024, .i32⟩
  | .hbm, ⟨14, _⟩ => ⟨S1024, .i32⟩
  | .hbm, ⟨15, _⟩ => ⟨S1024, .i32⟩
  | .hbm, ⟨16, _⟩ => ⟨S1024x1, .i32⟩
  | .hbm, ⟨17, _⟩ => ⟨S8x1024, .f32⟩
  | .hbm, ⟨18, _⟩ => ⟨S8x1x1024, .f32⟩
  | .hbm, ⟨19, _⟩ => ⟨S8x256x768, .f32⟩
  | .hbm, ⟨20, _⟩ => ⟨S16384x512, .bf16⟩
  | .local _ .vmem, ⟨0, _⟩ => ⟨S1x1x1024, .f32⟩
  | .local _ .vmem, ⟨1, _⟩ => ⟨S1x1x1024, .f32⟩
  | .local _ .vmem, ⟨2, _⟩ => ⟨S1x256x768, .f32⟩
  | .local _ .vmem, ⟨3, _⟩ => ⟨S1x256x768, .f32⟩
  | .local _ .vmem, ⟨4, _⟩ => ⟨S256x512, .bf16⟩
  | .local _ .vmem, ⟨5, _⟩ => ⟨S256x512, .bf16⟩
  | .local _ .vmem, ⟨6, _⟩ => ⟨S256x512, .bf16⟩
  | .local _ .vmem, ⟨7, _⟩ => ⟨S256x512, .bf16⟩
  | .local _ .vmem, ⟨8, _⟩ => ⟨S256x512, .bf16⟩
  | .local _ .vmem, ⟨9, _⟩ => ⟨S256x512, .bf16⟩
  | .local _ .vmem, ⟨10, _⟩ => ⟨S256x512, .bf16⟩
  | .local _ .vmem, ⟨11, _⟩ => ⟨S256x512, .bf16⟩
  | .local _ .vmem, ⟨12, _⟩ => ⟨S256x512, .bf16⟩
  | .local _ .vmem, ⟨13, _⟩ => ⟨S256x512, .bf16⟩
  | .local _ .vmem, ⟨14, _⟩ => ⟨S256x512, .bf16⟩
  | .local _ .vmem, ⟨15, _⟩ => ⟨S256x512, .bf16⟩
  | .local _ .vmem, ⟨16, _⟩ => ⟨S256x512, .bf16⟩
  | .local _ .vmem, ⟨17, _⟩ => ⟨S256x512, .bf16⟩
  | .local _ .vmem, ⟨18, _⟩ => ⟨S8x256x768, .f32⟩
  | .local _ .vmem, ⟨19, _⟩ => ⟨S256x512, .bf16⟩
  | .local _ .vmem, ⟨20, _⟩ => ⟨S256x512, .bf16⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg5_1 : Ref sig .tc := ⟨.vmem, 15, rfl⟩
abbrev cc1_stg6_0 : Ref sig .tc := ⟨.vmem, 16, rfl⟩
abbrev cc1_stg6_1 : Ref sig .tc := ⟨.vmem, 17, rfl⟩
abbrev cc1_stg7_0 : Ref sig .tc := ⟨.vmem, 18, rfl⟩
abbrev cc1_stg8_0 : Ref sig .tc := ⟨.vmem, 19, rfl⟩
abbrev cc1_stg8_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11
abbrev cc1_sem4_0 : DmaSem sig := 12
abbrev cc1_sem4_1 : DmaSem sig := 13
abbrev cc1_sem5_0 : DmaSem sig := 14
abbrev cc1_sem5_1 : DmaSem sig := 15
abbrev cc1_sem6_0 : DmaSem sig := 16
abbrev cc1_sem6_1 : DmaSem sig := 17
abbrev cc1_sem7_0 : DmaSem sig := 18
abbrev cc1_sem8_0 : DmaSem sig := 19
abbrev cc1_sem8_1 : DmaSem sig := 20

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let v1 : BitVec 32 := Scalar.maxsi v0 c0_i32_0
  let c0_i32_1 : BitVec 32 := 0#32
  let c0_i32_2 : BitVec 32 := 0#32
  ![v1.toNat, c0_i32_1.toNat]

def cc1_transform_1 (i : grid1.Coords) : Fin 2 → Nat :=
  let arg0 : BitVec 32 := BitVec.ofNat 32 (i 0).val
  let c2_i32 : BitVec 32 := 2#32
  let v0 : BitVec 32 := Scalar.subi arg0 c2_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc1_transform_2 (i : grid1.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc1_transform_3 (i : grid1.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let v1 : BitVec 32 := Scalar.maxsi v0 c0_i32_0
  let c0_i32_1 : BitVec 32 := 0#32
  let c0_i32_2 : BitVec 32 := 0#32
  ![v1.toNat, c0_i32_1.toNat]

def cc1_transform_4 (i : grid1.Coords) : Fin 2 → Nat :=
  let arg0 : BitVec 32 := BitVec.ofNat 32 (i 0).val
  let c2_i32 : BitVec 32 := 2#32
  let v0 : BitVec 32 := Scalar.subi arg0 c2_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc1_transform_5 (i : grid1.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc1_transform_6 (i : grid1.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let v1 : BitVec 32 := Scalar.maxsi v0 c0_i32_0
  let c0_i32_1 : BitVec 32 := 0#32
  let c0_i32_2 : BitVec 32 := 0#32
  ![v1.toNat, c0_i32_1.toNat]

def cc1_transform_7 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_8 (i : grid1.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let v1 : BitVec 32 := Scalar.maxsi v0 c0_i32_0
  let c0_i32_1 : BitVec 32 := 0#32
  let c0_i32_2 : BitVec 32 := 0#32
  ![v1.toNat, c0_i32_1.toNat]

abbrev stage1_0 : Fin 2 → Memref sig .tc .vmem S256x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S256x512 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S256x512 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S256x512 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S256x512 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 1 → Memref sig .tc .vmem S8x256x768 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S256x512 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]
-- ==== KernelIdeal.lean ====
variable {F : FTy → Type} [FloatOps F] [Named F]
def κ : String → Option EReal := fun
  | "mask" => some ⊥
  | _ => none
-- ==== ReferenceIdeal.lean ====
abbrev S16384x512 : Shape := ⟨2, ![16384, 512]⟩
abbrev S8x257 : Shape := ⟨2, ![8, 257]⟩
abbrev S256x64x8x64 : Shape := ⟨4, ![256, 64, 8, 64]⟩
abbrev S16384x8x64 : Shape := ⟨3, ![16384, 8, 64]⟩
abbrev S_ : Shape := ⟨0, ![]⟩
abbrev S16896x8x64 : Shape := ⟨3, ![16896, 8, 64]⟩
abbrev S264x64x8x64 : Shape := ⟨4, ![264, 64, 8, 64]⟩
abbrev S256 : Shape := ⟨1, ![256]⟩
abbrev S256x1 : Shape := ⟨2, ![256, 1]⟩
abbrev S9 : Shape := ⟨1, ![9]⟩
abbrev S1x9 : Shape := ⟨2, ![1, 9]⟩
abbrev S256x9 : Shape := ⟨2, ![256, 9]⟩
abbrev S256x9x1 : Shape := ⟨3, ![256, 9, 1]⟩
abbrev S256x9x64x8x64 : Shape := ⟨5, ![256, 9, 64, 8, 64]⟩
abbrev S256x576x8x64 : Shape := ⟨4, ![256, 576, 8, 64]⟩
abbrev S256x8x64x576 : Shape := ⟨4, ![256, 8, 64, 576]⟩
abbrev S64 : Shape := ⟨1, ![64]⟩
abbrev S64x1 : Shape := ⟨2, ![64, 1]⟩
abbrev S576 : Shape := ⟨1, ![576]⟩
abbrev S1x576 : Shape := ⟨2, ![1, 576]⟩
abbrev S64x576 : Shape := ⟨2, ![64, 576]⟩
abbrev S64x576x1 : Shape := ⟨3, ![64, 576, 1]⟩
abbrev S8x64x576 : Shape := ⟨3, ![8, 64, 576]⟩
abbrev S256x576 : Shape := ⟨2, ![256, 576]⟩
abbrev S256x1x1x576 : Shape := ⟨4, ![256, 1, 1, 576]⟩
abbrev S1x8x64x576 : Shape := ⟨4, ![1, 8, 64, 576]⟩
abbrev S256x8x64 : Shape := ⟨3, ![256, 8, 64]⟩
abbrev S256x8x64x1 : Shape := ⟨4, ![256, 8, 64, 1]⟩
abbrev S256x8x64x64 : Shape := ⟨4, ![256, 8, 64, 64]⟩

abbrev nBuf : Space → Nat
  | .hbm => 134
  | .vmem => 0
  | .smem => 0
  | _ => 0

abbrev hbmTy0_0 (i : Nat) : BufTy := match i % 128 with
  | 0 => ⟨S16384x512, .f32⟩
  | 1 => ⟨S16384x512, .f32⟩
  | 2 => ⟨S16384x512, .f32⟩
  | 3 => ⟨S8x257, .f32⟩
  | 4 => ⟨S256x64x8x64, .f32⟩
  | 5 => ⟨S16384x8x64, .f32⟩
  | 6 => ⟨S_, .i32⟩
  | 7 => ⟨S_, .f32⟩
  | 8 => ⟨S16896x8x64, .f32⟩
  | 9 => ⟨S264x64x8x64, .f32⟩
  | 10 => ⟨S16384x8x64, .f32⟩
  | 11 => ⟨S_, .i32⟩
  | 12 => ⟨S_, .f32⟩
  | 13 => ⟨S16896x8x64, .f32⟩
  | 14 => ⟨S264x64x8x64, .f32⟩
  | 15 => ⟨S256, .i32⟩
  | 16 => ⟨S256x1, .i32⟩
  | 17 => ⟨S9, .i32⟩
  | 18 => ⟨S1x9, .i32⟩
  | 19 => ⟨S256x9, .i32⟩
  | 20 => ⟨S256x9, .i32⟩
  | 21 => ⟨S256x9, .i32⟩
  | 22 => ⟨S_, .i32⟩
  | 23 => ⟨S256x9, .i32⟩
  | 24 => ⟨S256x9, .i1⟩
  | 25 => ⟨S_, .i32⟩
  | 26 => ⟨S256x9, .i32⟩
  | 27 => ⟨S256x9, .i32⟩
  | 28 => ⟨S256x9, .i32⟩
  | 29 => ⟨S256x9x1, .i32⟩
  | 30 => ⟨S256x9x64x8x64, .f32⟩
  | 31 => ⟨S256x576x8x64, .f32⟩
  | 32 => ⟨S_, .i32⟩
  | 33 => ⟨S256x9, .i32⟩
  | 34 => ⟨S256x9, .i1⟩
  | 35 => ⟨S_, .i32⟩
  | 36 => ⟨S256x9, .i32⟩
  | 37 => ⟨S256x9, .i32⟩
  | 38 => ⟨S256x9, .i32⟩
  | 39 => ⟨S256x9x1, .i32⟩
  | 40 => ⟨S256x9x64x8x64, .f32⟩
  | 41 => ⟨S256x576x8x64, .f32⟩
  | 42 => ⟨S256x8x64x576, .f32⟩
  | 43 => ⟨S_, .f32⟩
  | 44 => ⟨S256x8x64x576, .f32⟩
  | 45 => ⟨S256x8x64x576, .f32⟩
  | 46 => ⟨S64, .i32⟩
  | 47 => ⟨S64x1, .i32⟩
  | 48 => ⟨S576, .i32⟩
  | 49 => ⟨S1x576, .i32⟩
  | 50 => ⟨S_, .i32⟩
  | 51 => ⟨S64x1, .i32⟩
  | 52 => ⟨S64x1, .i32⟩
  | 53 => ⟨S64x576, .i32⟩
  | 54 => ⟨S64x576, .i32⟩
  | 55 => ⟨S64x576, .i32⟩
  | 56 => ⟨S_, .i32⟩
  | 57 => ⟨S_, .i32⟩
  | 58 => ⟨S_, .i32⟩
  | 59 => ⟨S64x576, .i32⟩
  | 60 => ⟨S64x576, .i32⟩
  | 61 => ⟨S_, .i32⟩
  | 62 => ⟨S64x576, .i32⟩
  | 63 => ⟨S64x576, .i32⟩
  | 64 => ⟨S_, .i32⟩
  | 65 => ⟨S64x576, .i32⟩
  | 66 => ⟨S64x576, .i32⟩
  | 67 => ⟨S_, .i32⟩
  | 68 => ⟨S64x576, .i32⟩
  | 69 => ⟨S64x576, .i1⟩
  | 70 => ⟨S_, .i32⟩
  | 71 => ⟨S64x576, .i32⟩
  | 72 => ⟨S64x576, .i32⟩
  | 73 => ⟨S64x576, .i32⟩
  | 74 => ⟨S64x576x1, .i32⟩
  | 75 => ⟨S8x64x576, .f32⟩
  | 76 => ⟨S256, .i32⟩
  | 77 => ⟨S256x1, .i32⟩
  | 78 => ⟨S_, .i32⟩
  | 79 => ⟨S256x1, .i32⟩
  | 80 => ⟨S256x1, .i32⟩
  | 81 => ⟨S576, .i32⟩
  | 82 => ⟨S_, .i32⟩
  | 83 => ⟨S_, .i32⟩
  | 84 => ⟨S576, .i32⟩
  | 85 => ⟨S576, .i32⟩
  | 86 => ⟨S576, .i32⟩
  | 87 => ⟨S_, .i32⟩
  | 88 => ⟨S576, .i32⟩
  | 89 => ⟨S576, .i1⟩
  | 90 => ⟨S576, .i32⟩
  | 91 => ⟨S576, .i32⟩
  | 92 => ⟨S_, .i32⟩
  | 93 => ⟨S576, .i32⟩
  | 94 => ⟨S576, .i1⟩
  | 95 => ⟨S576, .i1⟩
  | 96 => ⟨S_, .i32⟩
  | 97 => ⟨S576, .i32⟩
  | 98 => ⟨S576, .i32⟩
  | 99 => ⟨S576, .i32⟩
  | 100 => ⟨S1x576, .i32⟩
  | 101 => ⟨S256x576, .i32⟩
  | 102 => ⟨S256x576, .i32⟩
  | 103 => ⟨S256x576, .i32⟩
  | 104 => ⟨S_, .i32⟩
  | 105 => ⟨S256x576, .i32⟩
  | 106 => ⟨S256x576, .i1⟩
  | 107 => ⟨S256x1x1x576, .i1⟩
  | 108 => ⟨S1x8x64x576, .f32⟩
  | 109 => ⟨S256x8x64x576, .f32⟩
  | 110 => ⟨S256x8x64x576, .f32⟩
  | 111 => ⟨S_, .f32⟩
  | 112 => ⟨S_, .f32⟩
  | 113 => ⟨S256x8x64x576, .i1⟩
  | 114 => ⟨S256x8x64x576, .f32⟩
  | 115 => ⟨S256x8x64x576, .f32⟩
  | 116 => ⟨S_, .f32⟩
  | 117 => ⟨S256x8x64, .f32⟩
  | 118 => ⟨S_, .f32⟩
  | 119 => ⟨S256x8x64, .f32⟩
  | 120 => ⟨S256x8x64, .f32⟩
  | 121 => ⟨S256x8x64x1, .f32⟩
  | 122 => ⟨S256x8x64x576, .f32⟩
  | 123 => ⟨S256x8x64x576, .f32⟩
  | 124 => ⟨S256x8x64x576, .f32⟩
  | 125 => ⟨S_, .f32⟩
  | 126 => ⟨S256x8x64, .f32⟩
  | 127 => ⟨S256x8x64x1, .f32⟩
  | _ => ⟨S16384x512, .f32⟩

abbrev hbmTy0_1 (i : Nat) : BufTy := match i % 128 with
  | 0 => ⟨S256x8x64x576, .f32⟩
  | 1 => ⟨S256x8x64x576, .f32⟩
  | 2 => ⟨S256x8x64x64, .f32⟩
  | 3 => ⟨S256x64x8x64, .f32⟩
  | 4 => ⟨S16384x512, .f32⟩
  | 5 => ⟨S16384x512, .bf16⟩
  | _ => ⟨S16384x512, .f32⟩

abbrev hbmTy (i : Nat) : BufTy := match i / 128 with
  | 0 => hbmTy0_0 i
  | 1 => hbmTy0_1 i
  | _ => ⟨S16384x512, .f32⟩

abbrev bufTy : (tb : Table) → Fin (tcTables nBuf tb) → BufTy
  | .hbm, ⟨i, _⟩ => hbmTy i
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_call1_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c_1 : Ref sig .tc := ⟨.hbm, 22, rfl⟩
abbrev main_v14 : Ref sig .tc := ⟨.hbm, 23, rfl⟩
abbrev main_v15 : Ref sig .tc := ⟨.hbm, 24, rfl⟩
abbrev main_c_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_c_3 : Ref sig .tc := ⟨.hbm, 32, rfl⟩
abbrev main_v22 : Ref sig .tc := ⟨.hbm, 33, rfl⟩
abbrev main_v23 : Ref sig .tc := ⟨.hbm, 34, rfl⟩
abbrev main_c_4 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_c_5 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_c_6 : Ref sig .tc := ⟨.hbm, 56, rfl⟩
abbrev main_c_7 : Ref sig .tc := ⟨.hbm, 57, rfl⟩
abbrev main_call2_v0 : Ref sig .tc := ⟨.hbm, 58, rfl⟩
abbrev main_call2_v1 : Ref sig .tc := ⟨.hbm, 59, rfl⟩
abbrev main_call2_v2 : Ref sig .tc := ⟨.hbm, 60, rfl⟩
abbrev main_call2_v3 : Ref sig .tc := ⟨.hbm, 61, rfl⟩
abbrev main_call2_v4 : Ref sig .tc := ⟨.hbm, 62, rfl⟩
abbrev main_v42 : Ref sig .tc := ⟨.hbm, 63, rfl⟩
abbrev main_c_8 : Ref sig .tc := ⟨.hbm, 64, rfl⟩
abbrev main_v43 : Ref sig .tc := ⟨.hbm, 65, rfl⟩
abbrev main_v44 : Ref sig .tc := ⟨.hbm, 66, rfl⟩
abbrev main_c_9 : Ref sig .tc := ⟨.hbm, 67, rfl⟩
abbrev main_v45 : Ref sig .tc := ⟨.hbm, 68, rfl⟩
abbrev main_v46 : Ref sig .tc := ⟨.hbm, 69, rfl⟩
abbrev main_c_10 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_c_11 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_c_12 : Ref sig .tc := ⟨.hbm, 82, rfl⟩
abbrev main_call3_v0 : Ref sig .tc := ⟨.hbm, 83, rfl⟩
abbrev main_call3_v1 : Ref sig .tc := ⟨.hbm, 84, rfl⟩
abbrev main_call3_v2 : Ref sig .tc := ⟨.hbm, 85, rfl⟩
abbrev main_call3_v3 : Ref sig .tc := ⟨.hbm, 86, rfl⟩
abbrev main_call3_v4 : Ref sig .tc := ⟨.hbm, 87, rfl⟩
abbrev main_call3_v5 : Ref sig .tc := ⟨.hbm, 88, rfl⟩
abbrev main_call3_v6 : Ref sig .tc := ⟨.hbm, 89, rfl⟩
abbrev main_call3_v7 : Ref sig .tc := ⟨.hbm, 90, rfl⟩
abbrev main_call3_v8 : Ref sig .tc := ⟨.hbm, 91, rfl⟩
abbrev main_call3_c : Ref sig .tc := ⟨.hbm, 92, rfl⟩
abbrev main_call3_v9 : Ref sig .tc := ⟨.hbm, 93, rfl⟩
abbrev main_call3_v10 : Ref sig .tc := ⟨.hbm, 94, rfl⟩
abbrev main_call3_v11 : Ref sig .tc := ⟨.hbm, 95, rfl⟩
abbrev main_call3_c_0 : Ref sig .tc := ⟨.hbm, 96, rfl⟩
abbrev main_call3_v12 : Ref sig .tc := ⟨.hbm, 97, rfl⟩
abbrev main_call3_v13 : Ref sig .tc := ⟨.hbm, 98, rfl⟩
abbrev main_v57 : Ref sig .tc := ⟨.hbm, 99, rfl⟩
abbrev main_v58 : Ref sig .tc := ⟨.hbm, 100, rfl⟩
abbrev main_v59 : Ref sig .tc := ⟨.hbm, 101, rfl⟩
abbrev main_v60 : Ref sig .tc := ⟨.hbm, 102, rfl⟩
abbrev main_v61 : Ref sig .tc := ⟨.hbm, 103, rfl⟩
abbrev main_c_13 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_cst_14 : Ref sig .tc := ⟨.hbm, 111, rfl⟩
abbrev main_call4_v0 : Ref sig .tc := ⟨.hbm, 112, rfl⟩
abbrev main_call4_v1 : Ref sig .tc := ⟨.hbm, 113, rfl⟩
abbrev main_call4_v2 : Ref sig .tc := ⟨.hbm, 114, rfl⟩
abbrev main_v68 : Ref sig .tc := ⟨.hbm, 115, rfl⟩
abbrev main_cst_15 : Ref sig .tc := ⟨.hbm, 116, rfl⟩
abbrev main_v69 : Ref sig .tc := ⟨.hbm, 117, rfl⟩
abbrev main_cst_16 : Ref sig .tc := ⟨.hbm, 118, rfl⟩
abbrev main_v70 : Ref sig .tc := ⟨.hbm, 119, rfl⟩
abbrev main_v71 : Ref sig .tc := ⟨.hbm, 120, rfl⟩
abbrev main_v72 : Ref sig .tc := ⟨.hbm, 121, rfl⟩
abbrev main_v73 : Ref sig .tc := ⟨.hbm, 122, rfl⟩
abbrev main_v74 : Ref sig .tc := ⟨.hbm, 123, rfl⟩
abbrev main_v75 : Ref sig .tc := ⟨.hbm, 124, rfl⟩
abbrev main_cst_17 : Ref sig .tc := ⟨.hbm, 125, rfl⟩
abbrev main_v76 : Ref sig .tc := ⟨.hbm, 126, rfl⟩
abbrev main_v77 : Ref sig .tc := ⟨.hbm, 127, rfl⟩
abbrev main_v78 : Ref sig .tc := ⟨.hbm, 128, rfl⟩
abbrev main_v79 : Ref sig .tc := ⟨.hbm, 129, rfl⟩
abbrev main_v80 : Ref sig .tc := ⟨.hbm, 130, rfl⟩
abbrev main_v81 : Ref sig .tc := ⟨.hbm, 131, rfl⟩
abbrev main_v82 : Ref sig .tc := ⟨.hbm, 132, rfl⟩
abbrev main_v83 : Ref sig .tc := ⟨.hbm, 133, rfl⟩

abbrev nD : Nat := 1
abbrev τ : Topo := Topo.v7x

variable {F : FTy → Type} [FloatOps F]
-- ==== Kernel2.lean ====
abbrev S16384x1024 : Shape := ⟨2, ![16384, 1024]⟩
abbrev S2x1024x2816 : Shape := ⟨3, ![2, 1024, 2816]⟩
abbrev S2x2816x1024 : Shape := ⟨3, ![2, 2816, 1024]⟩
abbrev S512x1024 : Shape := ⟨2, ![512, 1024]⟩
abbrev S1x1024x2816 : Shape := ⟨3, ![1, 1024, 2816]⟩
abbrev S1x2816x1024 : Shape := ⟨3, ![1, 2816, 1024]⟩
abbrev S1024x2816 : Shape := ⟨2, ![1024, 2816]⟩
abbrev S1024x1024 : Shape := ⟨2, ![1024, 1024]⟩
abbrev S2816x1024 : Shape := ⟨2, ![2816, 1024]⟩
abbrev S1024x768 : Shape := ⟨2, ![1024, 768]⟩
abbrev S768x1024 : Shape := ⟨2, ![768, 1024]⟩
abbrev S512x768 : Shape := ⟨2, ![512, 768]⟩

abbrev nBuf : Space → Nat
  | .hbm => 7
  | .vmem => 9
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S2x1024x2816, .f32⟩
  | .hbm, ⟨3, _⟩ => ⟨S2x1024x2816, .f32⟩
  | .hbm, ⟨4, _⟩ => ⟨S2x2816x1024, .f32⟩
  | .hbm, ⟨5, _⟩ => ⟨S16384x1024, .bf16⟩
  | .hbm, ⟨6, _⟩ => ⟨S16384x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S1x1024x2816, .f32⟩
  | .local _ .vmem, ⟨5, _⟩ => ⟨S1x1024x2816, .f32⟩
  | .local _ .vmem, ⟨6, _⟩ => ⟨S1x2816x1024, .f32⟩
  | .local _ .vmem, ⟨7, _⟩ => ⟨S512x1024, .f32⟩
  | .local _ .vmem, ⟨8, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024x2816 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024x2816 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2816x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference2Ideal.lean ====
abbrev S16384x1024 : Shape := ⟨2, ![16384, 1024]⟩
abbrev S2x1024x2816 : Shape := ⟨3, ![2, 1024, 2816]⟩
abbrev S2x2816x1024 : Shape := ⟨3, ![2, 2816, 1024]⟩
abbrev S1x1024x2816 : Shape := ⟨3, ![1, 1024, 2816]⟩
abbrev S1024x2816 : Shape := ⟨2, ![1024, 2816]⟩
abbrev S1x2816x1024 : Shape := ⟨3, ![1, 2816, 1024]⟩
abbrev S2816x1024 : Shape := ⟨2, ![2816, 1024]⟩
abbrev S16384x2816 : Shape := ⟨2, ![16384, 2816]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S2x1024x2816, .f32⟩
  | .hbm, ⟨3, _⟩ => ⟨S2x1024x2816, .f32⟩
  | .hbm, ⟨4, _⟩ => ⟨S2x2816x1024, .f32⟩
  | .hbm, ⟨5, _⟩ => ⟨S1x1024x2816, .f32⟩
  | .hbm, ⟨6, _⟩ => ⟨S1024x2816, .f32⟩
  | .hbm, ⟨7, _⟩ => ⟨S1x1024x2816, .f32⟩
  | .hbm, ⟨8, _⟩ => ⟨S1024x2816, .f32⟩
  | .hbm, ⟨9, _⟩ => ⟨S1x2816x1024, .f32⟩
  | .hbm, ⟨10, _⟩ => ⟨S2816x1024, .f32⟩
  | .hbm, ⟨11, _⟩ => ⟨S16384x2816, .f32⟩
  | .hbm, ⟨12, _⟩ => ⟨S16384x2816, .f32⟩
  | .hbm, ⟨13, _⟩ => ⟨S16384x2816, .f32⟩
  | .hbm, ⟨14, _⟩ => ⟨S_, .f32⟩
  | .hbm, ⟨15, _⟩ => ⟨S16384x2816, .f32⟩
  | .hbm, ⟨16, _⟩ => ⟨S16384x2816, .f32⟩
  | .hbm, ⟨17, _⟩ => ⟨S_, .f32⟩
  | .hbm, ⟨18, _⟩ => ⟨S16384x2816, .f32⟩
  | .hbm, ⟨19, _⟩ => ⟨S16384x2816, .f32⟩
  | .hbm, ⟨20, _⟩ => ⟨S16384x2816, .f32⟩
  | .hbm, ⟨21, _⟩ => ⟨S16384x2816, .f32⟩
  | .hbm, ⟨22, _⟩ => ⟨S16384x2816, .f32⟩
  | .hbm, ⟨23, _⟩ => ⟨S16384x1024, .f32⟩
  | .hbm, ⟨24, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_call0_v5 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩

abbrev nD : Nat := 1
abbrev τ : Topo := Topo.v7x

variable {F : FTy → Type} [FloatOps F]
-- ==== Kernel3.lean ====
abbrev S36864x1024 : Shape := ⟨2, ![36864, 1024]⟩
abbrev S72 : Shape := ⟨1, ![72]⟩
abbrev S1 : Shape := ⟨1, ![1]⟩
abbrev S2x8x1024x2816 : Shape := ⟨4, ![2, 8, 1024, 2816]⟩
abbrev S2x8x2816x1024 : Shape := ⟨4, ![2, 8, 2816, 1024]⟩
abbrev S512x1024 : Shape := ⟨2, ![512, 1024]⟩
abbrev S1x1x1024x2816 : Shape := ⟨4, ![1, 1, 1024, 2816]⟩
abbrev S1x1x2816x1024 : Shape := ⟨4, ![1, 1, 2816, 1024]⟩
abbrev S1024x2816 : Shape := ⟨2, ![1024, 2816]⟩
abbrev S1024x1024 : Shape := ⟨2, ![1024, 1024]⟩
abbrev S2816x1024 : Shape := ⟨2, ![2816, 1024]⟩
abbrev S1024x768 : Shape := ⟨2, ![1024, 768]⟩
abbrev S768x1024 : Shape := ⟨2, ![768, 1024]⟩
abbrev S512x768 : Shape := ⟨2, ![512, 768]⟩

abbrev nBuf : Space → Nat
  | .hbm => 5
  | .vmem => 7
  | .smem => 2
  | _ => 0

abbrev bufTy : (tb : Table) → Fin (tcTables nBuf tb) → BufTy
  | .hbm, ⟨0, _⟩ => ⟨S36864x1024, .f32⟩
  | .hbm, ⟨1, _⟩ => ⟨S2x8x1024x2816, .f32⟩
  | .hbm, ⟨2, _⟩ => ⟨S2x8x1024x2816, .f32⟩
  | .hbm, ⟨3, _⟩ => ⟨S2x8x2816x1024, .f32⟩
  | .hbm, ⟨4, _⟩ => ⟨S36864x1024, .f32⟩
  | .local _ .vmem, ⟨0, _⟩ => ⟨S512x1024, .f32⟩
  | .local _ .vmem, ⟨1, _⟩ => ⟨S512x1024, .f32⟩
  | .local _ .vmem, ⟨2, _⟩ => ⟨S1x1x1024x2816, .f32⟩
  | .local _ .vmem, ⟨3, _⟩ => ⟨S1x1x1024x2816, .f32⟩
  | .local _ .vmem, ⟨4, _⟩ => ⟨S1x1x2816x1024, .f32⟩
  | .local _ .vmem, ⟨5, _⟩ => ⟨S512x1024, .f32⟩
  | .local _ .vmem, ⟨6, _⟩ => ⟨S512x1024, .f32⟩
  | .local _ .smem, ⟨0, _⟩ => ⟨S72, .i32⟩
  | .local _ .smem, ⟨1, _⟩ => ⟨S1, .i32⟩
  | _, _ => ⟨S36864x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_arg1 : Ref sig .tc := ⟨.smem, 0, rfl⟩
abbrev main_arg2 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![72], ![false]⟩

abbrev pre0 : Pipeline.Prefetch sig := ⟨2, ![main_arg1.idx, main_arg2.idx], fun | 0 => main_arg1.names | 1 => main_arg2.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond2 (i : grid0.Coords) (v4 : BitVec 32) : BitVec 1 :=
  let arg0 : BitVec 32 := BitVec.ofNat 32 (i 0).val
  let v5 : BitVec 1 := Scalar.cmpi .sge arg0 v4
  let v6 : BitVec 32 := Scalar.extui v5
  let c0_i32_1 : BitVec 32 := 0#32
  let v7 : BitVec 1 := Scalar.cmpi .ne v6 c0_i32_1
  v7

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S72.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S72) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_2 (k0_off1_inb : ∀ i : grid0.Coords, ∀ a, (k0_off1 i) a + S1.size a ≤ S72.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S72) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_3 (k0_off1_inb : ∀ i : grid0.Coords, ∀ a, (k0_off1 i) a + S1.size a ≤ S72.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S72) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x1024x2816 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1x1024x2816 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1x2816x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference3Ideal.lean ====
abbrev S36864x1024 : Shape := ⟨2, ![36864, 1024]⟩
abbrev S72 : Shape := ⟨1, ![72]⟩
abbrev S1 : Shape := ⟨1, ![1]⟩
abbrev S2x8x1024x2816 : Shape := ⟨4, ![2, 8, 1024, 2816]⟩
abbrev S2x8x2816x1024 : Shape := ⟨4, ![2, 8, 2816, 1024]⟩
abbrev S72x512x1024 : Shape := ⟨3, ![72, 512, 1024]⟩
abbrev S1x8x1024x2816 : Shape := ⟨4, ![1, 8, 1024, 2816]⟩
abbrev S8x1024x2816 : Shape := ⟨3, ![8, 1024, 2816]⟩
abbrev S_ : Shape := ⟨0, ![]⟩
abbrev S72x1 : Shape := ⟨2, ![72, 1]⟩
abbrev S72x1024x2816 : Shape := ⟨3, ![72, 1024, 2816]⟩
abbrev S1x8x2816x1024 : Shape := ⟨4, ![1, 8, 2816, 1024]⟩
abbrev S8x2816x1024 : Shape := ⟨3, ![8, 2816, 1024]⟩
abbrev S72x2816x1024 : Shape := ⟨3, ![72, 2816, 1024]⟩
abbrev S72x512x2816 : Shape := ⟨3, ![72, 512, 2816]⟩
abbrev S72x1x1 : Shape := ⟨3, ![72, 1, 1]⟩

abbrev nBuf : Space → Nat
  | .hbm => 64
  | .vmem => 0
  | .smem => 0
  | _ => 0

abbrev bufTy : (tb : Table) → Fin (tcTables nBuf tb) → BufTy
  | .hbm, ⟨0, _⟩ => ⟨S36864x1024, .f32⟩
  | .hbm, ⟨1, _⟩ => ⟨S72, .i32⟩
  | .hbm, ⟨2, _⟩ => ⟨S1, .i32⟩
  | .hbm, ⟨3, _⟩ => ⟨S2x8x1024x2816, .f32⟩
  | .hbm, ⟨4, _⟩ => ⟨S2x8x1024x2816, .f32⟩
  | .hbm, ⟨5, _⟩ => ⟨S2x8x2816x1024, .f32⟩
  | .hbm, ⟨6, _⟩ => ⟨S72x512x1024, .f32⟩
  | .hbm, ⟨7, _⟩ => ⟨S1x8x1024x2816, .f32⟩
  | .hbm, ⟨8, _⟩ => ⟨S8x1024x2816, .f32⟩
  | .hbm, ⟨9, _⟩ => ⟨S_, .i32⟩
  | .hbm, ⟨10, _⟩ => ⟨S72, .i32⟩
  | .hbm, ⟨11, _⟩ => ⟨S72, .i1⟩
  | .hbm, ⟨12, _⟩ => ⟨S_, .i32⟩
  | .hbm, ⟨13, _⟩ => ⟨S72, .i32⟩
  | .hbm, ⟨14, _⟩ => ⟨S72, .i32⟩
  | .hbm, ⟨15, _⟩ => ⟨S72, .i32⟩
  | .hbm, ⟨16, _⟩ => ⟨S72x1, .i32⟩
  | .hbm, ⟨17, _⟩ => ⟨S72x1024x2816, .f32⟩
  | .hbm, ⟨18, _⟩ => ⟨S1x8x1024x2816, .f32⟩
  | .hbm, ⟨19, _⟩ => ⟨S8x1024x2816, .f32⟩
  | .hbm, ⟨20, _⟩ => ⟨S_, .i32⟩
  | .hbm, ⟨21, _⟩ => ⟨S72, .i32⟩
  | .hbm, ⟨22, _⟩ => ⟨S72, .i1⟩
  | .hbm, ⟨23, _⟩ => ⟨S_, .i32⟩
  | .hbm, ⟨24, _⟩ => ⟨S72, .i32⟩
  | .hbm, ⟨25, _⟩ => ⟨S72, .i32⟩
  | .hbm, ⟨26, _⟩ => ⟨S72, .i32⟩
  | .hbm, ⟨27, _⟩ => ⟨S72x1, .i32⟩
  | .hbm, ⟨28, _⟩ => ⟨S72x1024x2816, .f32⟩
  | .hbm, ⟨29, _⟩ => ⟨S1x8x2816x1024, .f32⟩
  | .hbm, ⟨30, _⟩ => ⟨S8x2816x1024, .f32⟩
  | .hbm, ⟨31, _⟩ => ⟨S_, .i32⟩
  | .hbm, ⟨32, _⟩ => ⟨S72, .i32⟩
  | .hbm, ⟨33, _⟩ => ⟨S72, .i1⟩
  | .hbm, ⟨34, _⟩ => ⟨S_, .i32⟩
  | .hbm, ⟨35, _⟩ => ⟨S72, .i32⟩
  | .hbm, ⟨36, _⟩ => ⟨S72, .i32⟩
  | .hbm, ⟨37, _⟩ => ⟨S72, .i32⟩
  | .hbm, ⟨38, _⟩ => ⟨S72x1, .i32⟩
  | .hbm, ⟨39, _⟩ => ⟨S72x2816x1024, .f32⟩
  | .hbm, ⟨40, _⟩ => ⟨S72x512x2816, .f32⟩
  | .hbm, ⟨41, _⟩ => ⟨S72x512x2816, .f32⟩
  | .hbm, ⟨42, _⟩ => ⟨S72x512x2816, .f32⟩
  | .hbm, ⟨43, _⟩ => ⟨S_, .f32⟩
  | .hbm, ⟨44, _⟩ => ⟨S72x512x2816, .f32⟩
  | .hbm, ⟨45, _⟩ => ⟨S72x512x2816, .f32⟩
  | .hbm, ⟨46, _⟩ => ⟨S_, .f32⟩
  | .hbm, ⟨47, _⟩ => ⟨S72x512x2816, .f32⟩
  | .hbm, ⟨48, _⟩ => ⟨S72x512x2816, .f32⟩
  | .hbm, ⟨49, _⟩ => ⟨S72x512x2816, .f32⟩
  | .hbm, ⟨50, _⟩ => ⟨S72x512x2816, .f32⟩
  | .hbm, ⟨51, _⟩ => ⟨S72x512x2816, .f32⟩
  | .hbm, ⟨52, _⟩ => ⟨S72x512x1024, .f32⟩
  | .hbm, ⟨53, _⟩ => ⟨S72, .i32⟩
  | .hbm, ⟨54, _⟩ => ⟨S_, .i32⟩
  | .hbm, ⟨55, _⟩ => ⟨S72, .i32⟩
  | .hbm, ⟨56, _⟩ => ⟨S72, .i1⟩
  | .hbm, ⟨57, _⟩ => ⟨S72x1x1, .i1⟩
  | .hbm, ⟨58, _⟩ => ⟨S_, .f32⟩
  | .hbm, ⟨59, _⟩ => ⟨S_, .f32⟩
  | .hbm, ⟨60, _⟩ => ⟨S72x512x1024, .i1⟩
  | .hbm, ⟨61, _⟩ => ⟨S72x512x1024, .f32⟩
  | .hbm, ⟨62, _⟩ => ⟨S72x512x1024, .f32⟩
  | .hbm, ⟨63, _⟩ => ⟨S36864x1024, .f32⟩
  | _, _ => ⟨S36864x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_c_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c_1 : Ref sig .tc := ⟨.hbm, 20, rfl⟩
abbrev main_v12 : Ref sig .tc := ⟨.hbm, 21, rfl⟩
abbrev main_v13 : Ref sig .tc := ⟨.hbm, 22, rfl⟩
abbrev main_c_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_c_3 : Ref sig .tc := ⟨.hbm, 31, rfl⟩
abbrev main_v21 : Ref sig .tc := ⟨.hbm, 32, rfl⟩
abbrev main_v22 : Ref sig .tc := ⟨.hbm, 33, rfl⟩
abbrev main_c_4 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_call0_v0 : Ref sig .tc := ⟨.hbm, 41, rfl⟩
abbrev main_call0_v1 : Ref sig .tc := ⟨.hbm, 42, rfl⟩
abbrev main_call0_cst : Ref sig .tc := ⟨.hbm, 43, rfl⟩
abbrev main_call0_v2 : Ref sig .tc := ⟨.hbm, 44, rfl⟩
abbrev main_call0_v3 : Ref sig .tc := ⟨.hbm, 45, rfl⟩
abbrev main_call0_cst_0 : Ref sig .tc := ⟨.hbm, 46, rfl⟩
abbrev main_call0_v4 : Ref sig .tc := ⟨.hbm, 47, rfl⟩
abbrev main_call0_v5 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst : Ref sig .tc := ⟨.hbm, 58, rfl⟩
abbrev main_call1_v0 : Ref sig .tc := ⟨.hbm, 59, rfl⟩
abbrev main_call1_v1 : Ref sig .tc := ⟨.hbm, 60, rfl⟩
abbrev main_call1_v2 : Ref sig .tc := ⟨.hbm, 61, rfl⟩
abbrev main_v38 : Ref sig .tc := ⟨.hbm, 62, rfl⟩
abbrev main_v39 : Ref sig .tc := ⟨.hbm, 63, rfl⟩

abbrev nD : Nat := 1
abbrev τ : Topo := Topo.v7x

variable {F : FTy → Type} [FloatOps F]
-- ==== Kernel4.lean ====
abbrev S16384x1024 : Shape := ⟨2, ![16384, 1024]⟩
abbrev S1024 : Shape := ⟨1, ![1024]⟩
abbrev S1024x2560 : Shape := ⟨2, ![1024, 2560]⟩
abbrev S64 : Shape := ⟨1, ![64]⟩
abbrev S256 : Shape := ⟨1, ![256]⟩
abbrev S_ : Shape := ⟨0, ![]⟩
abbrev S256x1 : Shape := ⟨2, ![256, 1]⟩
abbrev S1x256 : Shape := ⟨2, ![1, 256]⟩
abbrev S256x256 : Shape := ⟨2, ![256, 256]⟩
abbrev S1x1024 : Shape := ⟨2, ![1, 1024]⟩
abbrev S1x64 : Shape := ⟨2, ![1, 64]⟩
abbrev S4x64 : Shape := ⟨2, ![4, 64]⟩
abbrev S8x64 : Shape := ⟨2, ![8, 64]⟩
abbrev S512 : Shape := ⟨1, ![512]⟩
abbrev S1x512 : Shape := ⟨2, ![1, 512]⟩
abbrev S16384x256 : Shape := ⟨2, ![16384, 256]⟩
abbrev S16384x512 : Shape := ⟨2, ![16384, 512]⟩
abbrev S512x1024 : Shape := ⟨2, ![512, 1024]⟩
abbrev S512x256 : Shape := ⟨2, ![512, 256]⟩
abbrev S512x512 : Shape := ⟨2, ![512, 512]⟩
abbrev S512x1 : Shape := ⟨2, ![512, 1]⟩
abbrev S512x2560 : Shape := ⟨2, ![512, 2560]⟩

abbrev nBuf : Space → Nat
  | .hbm => 63
  | .vmem => 23
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2560, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S256, .i32⟩
  | .hbm, ⟨8, _⟩ => ⟨S_, .i32⟩
  | .hbm, ⟨9, _⟩ => ⟨S_, .i32⟩
  | .hbm, ⟨10, _⟩ => ⟨S256, .i32⟩
  | .hbm, ⟨11, _⟩ => ⟨S256, .i32⟩
  | .hbm, ⟨12, _⟩ => ⟨S256, .i32⟩
  | .hbm, ⟨13, _⟩ => ⟨S_, .i32⟩
  | .hbm, ⟨14, _⟩ => ⟨S256, .i32⟩
  | .hbm, ⟨15, _⟩ => ⟨S256, .i1⟩
  | .hbm, ⟨16, _⟩ => ⟨S256, .i32⟩
  | .hbm, ⟨17, _⟩ => ⟨S256, .i32⟩
  | .hbm, ⟨18, _⟩ => ⟨S_, .i32⟩
  | .hbm, ⟨19, _⟩ => ⟨S256, .i32⟩
  | .hbm, ⟨20, _⟩ => ⟨S256, .i1⟩
  | .hbm, ⟨21, _⟩ => ⟨S256, .i1⟩
  | .hbm, ⟨22, _⟩ => ⟨S_, .i32⟩
  | .hbm, ⟨23, _⟩ => ⟨S256, .i32⟩
  | .hbm, ⟨24, _⟩ => ⟨S256, .i32⟩
  | .hbm, ⟨25, _⟩ => ⟨S256, .i32⟩
  | .hbm, ⟨26, _⟩ => ⟨S256x1, .i32⟩
  | .hbm, ⟨27, _⟩ => ⟨S1x256, .i32⟩
  | .hbm, ⟨28, _⟩ => ⟨S256x256, .i32⟩
  | .hbm, ⟨29, _⟩ => ⟨S256x256, .i32⟩
  | .hbm, ⟨30, _⟩ => ⟨S256x256, .i1⟩
  | .hbm, ⟨31, _⟩ => ⟨S256x256, .bf16⟩
  | .hbm, ⟨32, _⟩ => ⟨S1x1024, .f32⟩
  | .hbm, ⟨33, _⟩ => ⟨S1024x2560, .bf16⟩
  | .hbm, ⟨34, _⟩ => ⟨S1x64, .f32⟩
  | .hbm, ⟨35, _⟩ => ⟨S4x64, .f32⟩
  | .hbm, ⟨36, _⟩ => ⟨S256, .f32⟩
  | .hbm, ⟨37, _⟩ => ⟨S1x256, .f32⟩
  | .hbm, ⟨38, _⟩ => ⟨S_, .f32⟩
  | .hbm, ⟨39, _⟩ => ⟨S1x256, .f32⟩
  | .hbm, ⟨40, _⟩ => ⟨S1x256, .f32⟩
  | .hbm, ⟨41, _⟩ => ⟨S1x64, .f32⟩
  | .hbm, ⟨42, _⟩ => ⟨S4x64, .f32⟩
  | .hbm, ⟨43, _⟩ => ⟨S256, .f32⟩
  | .hbm, ⟨44, _⟩ => ⟨S1x256, .f32⟩
  | .hbm, ⟨45, _⟩ => ⟨S1x64, .f32⟩
  | .hbm, ⟨46, _⟩ => ⟨S8x64, .f32⟩
  | .hbm, ⟨47, _⟩ => ⟨S512, .f32⟩
  | .hbm, ⟨48, _⟩ => ⟨S1x512, .f32⟩
  | .hbm, ⟨49, _⟩ => ⟨S_, .f32⟩
  | .hbm, ⟨50, _⟩ => ⟨S1x512, .f32⟩
  | .hbm, ⟨51, _⟩ => ⟨S1x512, .f32⟩
  | .hbm, ⟨52, _⟩ => ⟨S1x64, .f32⟩
  | .hbm, ⟨53, _⟩ => ⟨S8x64, .f32⟩
  | .hbm, ⟨54, _⟩ => ⟨S512, .f32⟩
  | .hbm, ⟨55, _⟩ => ⟨S1x512, .f32⟩
  | .hbm, ⟨56, _⟩ => ⟨S16384x256, .bf16⟩
  | .hbm, ⟨57, _⟩ => ⟨S16384x256, .bf16⟩
  | .hbm, ⟨58, _⟩ => ⟨S16384x256, .bf16⟩
  | .hbm, ⟨59, _⟩ => ⟨S16384x512, .bf16⟩
  | .hbm, ⟨60, _⟩ => ⟨S16384x512, .bf16⟩
  | .hbm, ⟨61, _⟩ => ⟨S16384x512, .bf16⟩
  | .hbm, ⟨62, _⟩ => ⟨S16384x256, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2560, .bf16⟩
  | .local _ .vmem, ⟨4, _⟩ => ⟨S1x256, .f32⟩
  | .local _ .vmem, ⟨5, _⟩ => ⟨S1x256, .f32⟩
  | .local _ .vmem, ⟨6, _⟩ => ⟨S1x512, .f32⟩
  | .local _ .vmem, ⟨7, _⟩ => ⟨S1x512, .f32⟩
  | .local _ .vmem, ⟨8, _⟩ => ⟨S256x256, .bf16⟩
  | .local _ .vmem, ⟨9, _⟩ => ⟨S512x256, .bf16⟩
  | .local _ .vmem, ⟨10, _⟩ => ⟨S512x256, .bf16⟩
  | .local _ .vmem, ⟨11, _⟩ => ⟨S512x256, .bf16⟩
  | .local _ .vmem, ⟨12, _⟩ => ⟨S512x256, .bf16⟩
  | .local _ .vmem, ⟨13, _⟩ => ⟨S512x256, .bf16⟩
  | .local _ .vmem, ⟨14, _⟩ => ⟨S512x256, .bf16⟩
  | .local _ .vmem, ⟨15, _⟩ => ⟨S512x512, .bf16⟩
  | .local _ .vmem, ⟨16, _⟩ => ⟨S512x512, .bf16⟩
  | .local _ .vmem, ⟨17, _⟩ => ⟨S512x512, .bf16⟩
  | .local _ .vmem, ⟨18, _⟩ => ⟨S512x512, .bf16⟩
  | .local _ .vmem, ⟨19, _⟩ => ⟨S512x512, .bf16⟩
  | .local _ .vmem, ⟨20, _⟩ => ⟨S512x512, .bf16⟩
  | .local _ .vmem, ⟨21, _⟩ => ⟨S512x256, .f32⟩
  | .local _ .vmem, ⟨22, _⟩ => ⟨S512x256, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_cst : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_cst_0 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30_0 : Ref sig .tc := ⟨.hbm, 56, rfl⟩
abbrev main_v30_1 : Ref sig .tc := ⟨.hbm, 57, rfl⟩
abbrev main_v30_2 : Ref sig .tc := ⟨.hbm, 58, rfl⟩
abbrev main_v30_3 : Ref sig .tc := ⟨.hbm, 59, rfl⟩
abbrev main_v30_4 : Ref sig .tc := ⟨.hbm, 60, rfl⟩
abbrev main_v30_5 : Ref sig .tc := ⟨.hbm, 61, rfl⟩
abbrev main_v30_6 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2560 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Reference4Ideal.lean ====
abbrev S16384x1024 : Shape := ⟨2, ![16384, 1024]⟩
abbrev S1024 : Shape := ⟨1, ![1024]⟩
abbrev S1024x2560 : Shape := ⟨2, ![1024, 2560]⟩
abbrev S64 : Shape := ⟨1, ![64]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x2560 : Shape := ⟨2, ![16384, 2560]⟩
abbrev S16384x256 : Shape := ⟨2, ![16384, 256]⟩
abbrev S16384x4x64 : Shape := ⟨3, ![16384, 4, 64]⟩
abbrev S16384x4 : Shape := ⟨2, ![16384, 4]⟩
abbrev S16384x4x1 : Shape := ⟨3, ![16384, 4, 1]⟩
abbrev S1x1x64 : Shape := ⟨3, ![1, 1, 64]⟩
abbrev S16384x512 : Shape := ⟨2, ![16384, 512]⟩
abbrev S16384x8x64 : Shape := ⟨3, ![16384, 8, 64]⟩
abbrev S16384x8 : Shape := ⟨2, ![16384, 8]⟩
abbrev S16384x8x1 : Shape := ⟨3, ![16384, 8, 1]⟩

abbrev nBuf : Space → Nat
  | .hbm => 115
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2560, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S16384x1024, .f32⟩
  | .hbm, ⟨8, _⟩ => ⟨S_, .f32⟩
  | .hbm, ⟨9, _⟩ => ⟨S16384, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S16384x1, .f32⟩
  | .hbm, ⟨18, _⟩ => ⟨S16384x1024, .f32⟩
  | .hbm, ⟨19, _⟩ => ⟨S16384x1024, .f32⟩
  | .hbm, ⟨20, _⟩ => ⟨S1x1024, .f32⟩
  | .hbm, ⟨21, _⟩ => ⟨S16384x1024, .f32⟩
  | .hbm, ⟨22, _⟩ => ⟨S16384x1024, .f32⟩
  | .hbm, ⟨23, _⟩ => ⟨S16384x2560, .f32⟩
  | .hbm, ⟨24, _⟩ => ⟨S16384x256, .f32⟩
  | .hbm, ⟨25, _⟩ => ⟨S16384x4x64, .f32⟩
  | .hbm, ⟨26, _⟩ => ⟨S16384x4x64, .f32⟩
  | .hbm, ⟨27, _⟩ => ⟨S_, .f32⟩
  | .hbm, ⟨28, _⟩ => ⟨S16384x4, .f32⟩
  | .hbm, ⟨29, _⟩ => ⟨S16384x4x1, .f32⟩
  | .hbm, ⟨30, _⟩ => ⟨S_, .f32⟩
  | .hbm, ⟨31, _⟩ => ⟨S16384x4x1, .f32⟩
  | .hbm, ⟨32, _⟩ => ⟨S16384x4x1, .f32⟩
  | .hbm, ⟨33, _⟩ => ⟨S_, .f32⟩
  | .hbm, ⟨34, _⟩ => ⟨S16384x4x1, .f32⟩
  | .hbm, ⟨35, _⟩ => ⟨S16384x4x1, .f32⟩
  | .hbm, ⟨36, _⟩ => ⟨S16384x4x1, .f32⟩
  | .hbm, ⟨37, _⟩ => ⟨S16384x4x64, .f32⟩
  | .hbm, ⟨38, _⟩ => ⟨S16384x4x64, .f32⟩
  | .hbm, ⟨39, _⟩ => ⟨S1x1x64, .f32⟩
  | .hbm, ⟨40, _⟩ => ⟨S16384x4x64, .f32⟩
  | .hbm, ⟨41, _⟩ => ⟨S16384x4x64, .f32⟩
  | .hbm, ⟨42, _⟩ => ⟨S_, .f32⟩
  | .hbm, ⟨43, _⟩ => ⟨S16384x4x64, .f32⟩
  | .hbm, ⟨44, _⟩ => ⟨S16384x4x64, .f32⟩
  | .hbm, ⟨45, _⟩ => ⟨S16384x256, .f32⟩
  | .hbm, ⟨46, _⟩ => ⟨S16384x4x64, .f32⟩
  | .hbm, ⟨47, _⟩ => ⟨S16384x4x64, .f32⟩
  | .hbm, ⟨48, _⟩ => ⟨S_, .f32⟩
  | .hbm, ⟨49, _⟩ => ⟨S16384x4, .f32⟩
  | .hbm, ⟨50, _⟩ => ⟨S16384x4x1, .f32⟩
  | .hbm, ⟨51, _⟩ => ⟨S_, .f32⟩
  | .hbm, ⟨52, _⟩ => ⟨S16384x4x1, .f32⟩
  | .hbm, ⟨53, _⟩ => ⟨S16384x4x1, .f32⟩
  | .hbm, ⟨54, _⟩ => ⟨S_, .f32⟩
  | .hbm, ⟨55, _⟩ => ⟨S16384x4x1, .f32⟩
  | .hbm, ⟨56, _⟩ => ⟨S16384x4x1, .f32⟩
  | .hbm, ⟨57, _⟩ => ⟨S16384x4x1, .f32⟩
  | .hbm, ⟨58, _⟩ => ⟨S16384x4x64, .f32⟩
  | .hbm, ⟨59, _⟩ => ⟨S16384x4x64, .f32⟩
  | .hbm, ⟨60, _⟩ => ⟨S1x1x64, .f32⟩
  | .hbm, ⟨61, _⟩ => ⟨S16384x4x64, .f32⟩
  | .hbm, ⟨62, _⟩ => ⟨S16384x4x64, .f32⟩
  | .hbm, ⟨63, _⟩ => ⟨S16384x512, .f32⟩
  | .hbm, ⟨64, _⟩ => ⟨S16384x8x64, .f32⟩
  | .hbm, ⟨65, _⟩ => ⟨S16384x8x64, .f32⟩
  | .hbm, ⟨66, _⟩ => ⟨S_, .f32⟩
  | .hbm, ⟨67, _⟩ => ⟨S16384x8, .f32⟩
  | .hbm, ⟨68, _⟩ => ⟨S16384x8x1, .f32⟩
  | .hbm, ⟨69, _⟩ => ⟨S_, .f32⟩
  | .hbm, ⟨70, _⟩ => ⟨S16384x8x1, .f32⟩
  | .hbm, ⟨71, _⟩ => ⟨S16384x8x1, .f32⟩
  | .hbm, ⟨72, _⟩ => ⟨S_, .f32⟩
  | .hbm, ⟨73, _⟩ => ⟨S16384x8x1, .f32⟩
  | .hbm, ⟨74, _⟩ => ⟨S16384x8x1, .f32⟩
  | .hbm, ⟨75, _⟩ => ⟨S16384x8x1, .f32⟩
  | .hbm, ⟨76, _⟩ => ⟨S16384x8x64, .f32⟩
  | .hbm, ⟨77, _⟩ => ⟨S16384x8x64, .f32⟩
  | .hbm, ⟨78, _⟩ => ⟨S1x1x64, .f32⟩
  | .hbm, ⟨79, _⟩ => ⟨S16384x8x64, .f32⟩
  | .hbm, ⟨80, _⟩ => ⟨S16384x8x64, .f32⟩
  | .hbm, ⟨81, _⟩ => ⟨S_, .f32⟩
  | .hbm, ⟨82, _⟩ => ⟨S16384x8x64, .f32⟩
  | .hbm, ⟨83, _⟩ => ⟨S16384x8x64, .f32⟩
  | .hbm, ⟨84, _⟩ => ⟨S16384x512, .f32⟩
  | .hbm, ⟨85, _⟩ => ⟨S16384x8x64, .f32⟩
  | .hbm, ⟨86, _⟩ => ⟨S16384x8x64, .f32⟩
  | .hbm, ⟨87, _⟩ => ⟨S_, .f32⟩
  | .hbm, ⟨88, _⟩ => ⟨S16384x8, .f32⟩
  | .hbm, ⟨89, _⟩ => ⟨S16384x8x1, .f32⟩
  | .hbm, ⟨90, _⟩ => ⟨S_, .f32⟩
  | .hbm, ⟨91, _⟩ => ⟨S16384x8x1, .f32⟩
  | .hbm, ⟨92, _⟩ => ⟨S16384x8x1, .f32⟩
  | .hbm, ⟨93, _⟩ => ⟨S_, .f32⟩
  | .hbm, ⟨94, _⟩ => ⟨S16384x8x1, .f32⟩
  | .hbm, ⟨95, _⟩ => ⟨S16384x8x1, .f32⟩
  | .hbm, ⟨96, _⟩ => ⟨S16384x8x1, .f32⟩
  | .hbm, ⟨97, _⟩ => ⟨S16384x8x64, .f32⟩
  | .hbm, ⟨98, _⟩ => ⟨S16384x8x64, .f32⟩
  | .hbm, ⟨99, _⟩ => ⟨S1x1x64, .f32⟩
  | .hbm, ⟨100, _⟩ => ⟨S16384x8x64, .f32⟩
  | .hbm, ⟨101, _⟩ => ⟨S16384x8x64, .f32⟩
  | .hbm, ⟨102, _⟩ => ⟨S16384x256, .f32⟩
  | .hbm, ⟨103, _⟩ => ⟨S16384x256, .bf16⟩
  | .hbm, ⟨104, _⟩ => ⟨S16384x256, .f32⟩
  | .hbm, ⟨105, _⟩ => ⟨S16384x256, .bf16⟩
  | .hbm, ⟨106, _⟩ => ⟨S16384x256, .f32⟩
  | .hbm, ⟨107, _⟩ => ⟨S16384x256, .bf16⟩
  | .hbm, ⟨108, _⟩ => ⟨S16384x512, .f32⟩
  | .hbm, ⟨109, _⟩ => ⟨S16384x512, .bf16⟩
  | .hbm, ⟨110, _⟩ => ⟨S16384x512, .f32⟩
  | .hbm, ⟨111, _⟩ => ⟨S16384x512, .bf16⟩
  | .hbm, ⟨112, _⟩ => ⟨S16384x512, .f32⟩
  | .hbm, ⟨113, _⟩ => ⟨S16384x512, .bf16⟩
  | .hbm, ⟨114, _⟩ => ⟨S16384x256, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_cst_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_5 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_6 : Ref sig .tc := ⟨.hbm, 48, rfl⟩
abbrev main_v34 : Ref sig .tc := ⟨.hbm, 49, rfl⟩
abbrev main_v35 : Ref sig .tc := ⟨.hbm, 50, rfl⟩
abbrev main_cst_7 : Ref sig .tc := ⟨.hbm, 51, rfl⟩
abbrev main_v36 : Ref sig .tc := ⟨.hbm, 52, rfl⟩
abbrev main_v37 : Ref sig .tc := ⟨.hbm, 53, rfl⟩
abbrev main_cst_8 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_cst_9 : Ref sig .tc := ⟨.hbm, 66, rfl⟩
abbrev main_v49 : Ref sig .tc := ⟨.hbm, 67, rfl⟩
abbrev main_v50 : Ref sig .tc := ⟨.hbm, 68, rfl⟩
abbrev main_cst_10 : Ref sig .tc := ⟨.hbm, 69, rfl⟩
abbrev main_v51 : Ref sig .tc := ⟨.hbm, 70, rfl⟩
abbrev main_v52 : Ref sig .tc := ⟨.hbm, 71, rfl⟩
abbrev main_cst_11 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_cst_12 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_cst_13 : Ref sig .tc := ⟨.hbm, 87, rfl⟩
abbrev main_v66 : Ref sig .tc := ⟨.hbm, 88, rfl⟩
abbrev main_v67 : Ref sig .tc := ⟨.hbm, 89, rfl⟩
abbrev main_cst_14 : Ref sig .tc := ⟨.hbm, 90, rfl⟩
abbrev main_v68 : Ref sig .tc := ⟨.hbm, 91, rfl⟩
abbrev main_v69 : Ref sig .tc := ⟨.hbm, 92, rfl⟩
abbrev main_cst_15 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩

abbrev nD : Nat := 1
abbrev τ : Topo := Topo.v7x

variable {F : FTy → Type} [FloatOps F]
-- ==== Kernel5.lean ====
abbrev S16384x256 : Shape := ⟨2, ![16384, 256]⟩
abbrev S16384x512 : Shape := ⟨2, ![16384, 512]⟩
abbrev S16384x1024 : Shape := ⟨2, ![16384, 1024]⟩
abbrev S1024 : Shape := ⟨1, ![1024]⟩
abbrev S1024x1024 : Shape := ⟨2, ![1024, 1024]⟩
abbrev S1x1024 : Shape := ⟨2, ![1, 1024]⟩
abbrev S512x256 : Shape := ⟨2, ![512, 256]⟩
abbrev S512x512 : Shape := ⟨2, ![512, 512]⟩
abbrev S512x1024 : Shape := ⟨2, ![512, 1024]⟩
abbrev S1x256 : Shape := ⟨2, ![1, 256]⟩
abbrev S512 : Shape := ⟨1, ![512]⟩
abbrev S512x1 : Shape := ⟨2, ![512, 1]⟩
abbrev S1x512 : Shape := ⟨2, ![1, 512]⟩

abbrev nBuf : Space → Nat
  | .hbm => 15
  | .vmem => 15
  | .smem => 0
  | _ => 0

abbrev bufTy : (tb : Table) → Fin (tcTables nBuf tb) → BufTy
  | .hbm, ⟨0, _⟩ => ⟨S16384x256, .f32⟩
  | .hbm, ⟨1, _⟩ => ⟨S16384x512, .f32⟩
  | .hbm, ⟨2, _⟩ => ⟨S16384x256, .f32⟩
  | .hbm, ⟨3, _⟩ => ⟨S16384x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S16384x256, .bf16⟩
  | .hbm, ⟨8, _⟩ => ⟨S16384x512, .bf16⟩
  | .hbm, ⟨9, _⟩ => ⟨S16384x256, .bf16⟩
  | .hbm, ⟨10, _⟩ => ⟨S1x1024, .f32⟩
  | .hbm, ⟨11, _⟩ => ⟨S1024x1024, .bf16⟩
  | .hbm, ⟨12, _⟩ => ⟨S1x1024, .f32⟩
  | .hbm, ⟨13, _⟩ => ⟨S16384x1024, .f32⟩
  | .hbm, ⟨14, _⟩ => ⟨S16384x1024, .bf16⟩
  | .local _ .vmem, ⟨0, _⟩ => ⟨S512x256, .bf16⟩
  | .local _ .vmem, ⟨1, _⟩ => ⟨S512x256, .bf16⟩
  | .local _ .vmem, ⟨2, _⟩ => ⟨S512x512, .bf16⟩
  | .local _ .vmem, ⟨3, _⟩ => ⟨S512x512, .bf16⟩
  | .local _ .vmem, ⟨4, _⟩ => ⟨S512x256, .bf16⟩
  | .local _ .vmem, ⟨5, _⟩ => ⟨S512x256, .bf16⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S1024x1024, .bf16⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x1024, .bf16⟩
  | _, _ => ⟨S16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference5Ideal.lean ====
abbrev S16384x256 : Shape := ⟨2, ![16384, 256]⟩
abbrev S16384x512 : Shape := ⟨2, ![16384, 512]⟩
abbrev S16384x1024 : Shape := ⟨2, ![16384, 1024]⟩
abbrev S1024 : Shape := ⟨1, ![1024]⟩
abbrev S1024x1024 : Shape := ⟨2, ![1024, 1024]⟩
abbrev S256 : Shape := ⟨1, ![256]⟩
abbrev S_ : Shape := ⟨0, ![]⟩
abbrev S16384 : Shape := ⟨1, ![16384]⟩
abbrev S16384x1 : Shape := ⟨2, ![16384, 1]⟩
abbrev S1x256 : Shape := ⟨2, ![1, 256]⟩
abbrev S512 : Shape := ⟨1, ![512]⟩
abbrev S1x512 : Shape := ⟨2, ![1, 512]⟩
abbrev S1x1024 : Shape := ⟨2, ![1, 1024]⟩

abbrev nBuf : Space → Nat
  | .hbm => 78
  | .vmem => 0
  | .smem => 0
  | _ => 0

abbrev bufTy : (tb : Table) → Fin (tcTables nBuf tb) → BufTy
  | .hbm, ⟨0, _⟩ => ⟨S16384x256, .f32⟩
  | .hbm, ⟨1, _⟩ => ⟨S16384x512, .f32⟩
  | .hbm, ⟨2, _⟩ => ⟨S16384x256, .f32⟩
  | .hbm, ⟨3, _⟩ => ⟨S16384x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S256, .f32⟩
  | .hbm, ⟨8, _⟩ => ⟨S16384x256, .f32⟩
  | .hbm, ⟨9, _⟩ => ⟨S_, .f32⟩
  | .hbm, ⟨10, _⟩ => ⟨S16384, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S16384x1, .f32⟩
  | .hbm, ⟨19, _⟩ => ⟨S16384x256, .f32⟩
  | .hbm, ⟨20, _⟩ => ⟨S16384x256, .f32⟩
  | .hbm, ⟨21, _⟩ => ⟨S1x256, .f32⟩
  | .hbm, ⟨22, _⟩ => ⟨S16384x256, .f32⟩
  | .hbm, ⟨23, _⟩ => ⟨S16384x256, .f32⟩
  | .hbm, ⟨24, _⟩ => ⟨S512, .f32⟩
  | .hbm, ⟨25, _⟩ => ⟨S16384x512, .f32⟩
  | .hbm, ⟨26, _⟩ => ⟨S_, .f32⟩
  | .hbm, ⟨27, _⟩ => ⟨S16384, .f32⟩
  | .hbm, ⟨28, _⟩ => ⟨S16384x1, .f32⟩
  | .hbm, ⟨29, _⟩ => ⟨S_, .f32⟩
  | .hbm, ⟨30, _⟩ => ⟨S16384x1, .f32⟩
  | .hbm, ⟨31, _⟩ => ⟨S16384x1, .f32⟩
  | .hbm, ⟨32, _⟩ => ⟨S_, .f32⟩
  | .hbm, ⟨33, _⟩ => ⟨S16384x1, .f32⟩
  | .hbm, ⟨34, _⟩ => ⟨S16384x1, .f32⟩
  | .hbm, ⟨35, _⟩ => ⟨S16384x1, .f32⟩
  | .hbm, ⟨36, _⟩ => ⟨S16384x512, .f32⟩
  | .hbm, ⟨37, _⟩ => ⟨S16384x512, .f32⟩
  | .hbm, ⟨38, _⟩ => ⟨S1x512, .f32⟩
  | .hbm, ⟨39, _⟩ => ⟨S16384x512, .f32⟩
  | .hbm, ⟨40, _⟩ => ⟨S16384x512, .f32⟩
  | .hbm, ⟨41, _⟩ => ⟨S256, .f32⟩
  | .hbm, ⟨42, _⟩ => ⟨S16384x256, .f32⟩
  | .hbm, ⟨43, _⟩ => ⟨S_, .f32⟩
  | .hbm, ⟨44, _⟩ => ⟨S16384, .f32⟩
  | .hbm, ⟨45, _⟩ => ⟨S16384x1, .f32⟩
  | .hbm, ⟨46, _⟩ => ⟨S_, .f32⟩
  | .hbm, ⟨47, _⟩ => ⟨S16384x1, .f32⟩
  | .hbm, ⟨48, _⟩ => ⟨S16384x1, .f32⟩
  | .hbm, ⟨49, _⟩ => ⟨S_, .f32⟩
  | .hbm, ⟨50, _⟩ => ⟨S16384x1, .f32⟩
  | .hbm, ⟨51, _⟩ => ⟨S16384x1, .f32⟩
  | .hbm, ⟨52, _⟩ => ⟨S16384x1, .f32⟩
  | .hbm, ⟨53, _⟩ => ⟨S16384x256, .f32⟩
  | .hbm, ⟨54, _⟩ => ⟨S16384x256, .f32⟩
  | .hbm, ⟨55, _⟩ => ⟨S1x256, .f32⟩
  | .hbm, ⟨56, _⟩ => ⟨S16384x256, .f32⟩
  | .hbm, ⟨57, _⟩ => ⟨S16384x256, .f32⟩
  | .hbm, ⟨58, _⟩ => ⟨S16384x1024, .f32⟩
  | .hbm, ⟨59, _⟩ => ⟨S16384x1024, .f32⟩
  | .hbm, ⟨60, _⟩ => ⟨S16384x1024, .f32⟩
  | .hbm, ⟨61, _⟩ => ⟨S16384x1024, .f32⟩
  | .hbm, ⟨62, _⟩ => ⟨S_, .f32⟩
  | .hbm, ⟨63, _⟩ => ⟨S16384, .f32⟩
  | .hbm, ⟨64, _⟩ => ⟨S16384x1, .f32⟩
  | .hbm, ⟨65, _⟩ => ⟨S_, .f32⟩
  | .hbm, ⟨66, _⟩ => ⟨S16384x1, .f32⟩
  | .hbm, ⟨67, _⟩ => ⟨S16384x1, .f32⟩
  | .hbm, ⟨68, _⟩ => ⟨S_, .f32⟩
  | .hbm, ⟨69, _⟩ => ⟨S16384x1, .f32⟩
  | .hbm, ⟨70, _⟩ => ⟨S16384x1, .f32⟩
  | .hbm, ⟨71, _⟩ => ⟨S16384x1, .f32⟩
  | .hbm, ⟨72, _⟩ => ⟨S16384x1024, .f32⟩
  | .hbm, ⟨73, _⟩ => ⟨S16384x1024, .f32⟩
  | .hbm, ⟨74, _⟩ => ⟨S1x1024, .f32⟩
  | .hbm, ⟨75, _⟩ => ⟨S16384x1024, .f32⟩
  | .hbm, ⟨76, _⟩ => ⟨S16384x1024, .f32⟩
  | .hbm, ⟨77, _⟩ => ⟨S16384x1024, .bf16⟩
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_5 : Ref sig .tc := ⟨.hbm, 43, rfl⟩
abbrev main_v30 : Ref sig .tc := ⟨.hbm, 44, rfl⟩
abbrev main_v31 : Ref sig .tc := ⟨.hbm, 45, rfl⟩
abbrev main_cst_6 : Ref sig .tc := ⟨.hbm, 46, rfl⟩
abbrev main_v32 : Ref sig .tc := ⟨.hbm, 47, rfl⟩
abbrev main_v33 : Ref sig .tc := ⟨.hbm, 48, rfl⟩
abbrev main_cst_7 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_8 : Ref sig .tc := ⟨.hbm, 62, rfl⟩
abbrev main_v46 : Ref sig .tc := ⟨.hbm, 63, rfl⟩
abbrev main_v47 : Ref sig .tc := ⟨.hbm, 64, rfl⟩
abbrev main_cst_9 : Ref sig .tc := ⟨.hbm, 65, rfl⟩
abbrev main_v48 : Ref sig .tc := ⟨.hbm, 66, rfl⟩
abbrev main_v49 : Ref sig .tc := ⟨.hbm, 67, rfl⟩
abbrev main_cst_10 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩

abbrev nD : Nat := 1
abbrev τ : Topo := Topo.v7x

variable {F : FTy → Type} [FloatOps F]
-- ==== Kernel6.lean ====
abbrev S16384x256 : Shape := ⟨2, ![16384, 256]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S256x128 : Shape := ⟨2, ![256, 128]⟩
abbrev S1x256x1 : Shape := ⟨3, ![1, 256, 1]⟩
abbrev S1 : Shape := ⟨1, ![1]⟩
abbrev S1x1x1 : Shape := ⟨3, ![1, 1, 1]⟩

abbrev nBuf : Space → Nat
  | .hbm => 14
  | .vmem => 7
  | .smem => 0
  | _ => 0

abbrev bufTy : (tb : Table) → Fin (tcTables nBuf tb) → BufTy
  | .hbm, ⟨0, _⟩ => ⟨S16384x256, .f32⟩
  | .hbm, ⟨1, _⟩ => ⟨S16384x256, .f32⟩
  | .hbm, ⟨2, _⟩ => ⟨S16384x256, .f32⟩
  | .hbm, ⟨3, _⟩ => ⟨S256, .i32⟩
  | .hbm, ⟨4, _⟩ => ⟨S256x1, .i32⟩
  | .hbm, ⟨5, _⟩ => ⟨S1x256, .i32⟩
  | .hbm, ⟨6, _⟩ => ⟨S256x256, .i32⟩
  | .hbm, ⟨7, _⟩ => ⟨S256x256, .i32⟩
  | .hbm, ⟨8, _⟩ => ⟨S256x256, .i1⟩
  | .hbm, ⟨9, _⟩ => ⟨S256x256, .bf16⟩
  | .hbm, ⟨10, _⟩ => ⟨S16384x256, .bf16⟩
  | .hbm, ⟨11, _⟩ => ⟨S16384x256, .bf16⟩
  | .hbm, ⟨12, _⟩ => ⟨S16384x256, .bf16⟩
  | .hbm, ⟨13, _⟩ => ⟨S16384x256, .bf16⟩
  | .local _ .vmem, ⟨0, _⟩ => ⟨S256x256, .bf16⟩
  | .local _ .vmem, ⟨1, _⟩ => ⟨S256x256, .bf16⟩
  | .local _ .vmem, ⟨2, _⟩ => ⟨S16384x256, .bf16⟩
  | .local _ .vmem, ⟨3, _⟩ => ⟨S16384x256, .bf16⟩
  | .local _ .vmem, ⟨4, _⟩ => ⟨S256x256, .bf16⟩
  | .local _ .vmem, ⟨5, _⟩ => ⟨S256x256, .bf16⟩
  | .local _ .vmem, ⟨6, _⟩ => ⟨S256x256, .bf16⟩
  | _, _ => ⟨S16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![64], ![false]⟩

def k0_mult1 (arg6 : BitVec 32) : BitVec 32 :=
  let c0_i32_26 : BitVec 32 := 0#32
  let v59 : BitVec 32 := Scalar.subi arg6 c0_i32_26
  let c0_i32_27 : BitVec 32 := 0#32
  let v60 : BitVec 32 := Scalar.maxsi v59 c0_i32_27
  let c256_i32 : BitVec 32 := 256#32
  let v61 : BitVec 32 := Scalar.muli v60 c256_i32
  v61

def k0_mult2 (arg6 : BitVec 32) : BitVec 32 :=
  let c1_i32 : BitVec 32 := 1#32
  let v63 : BitVec 32 := Scalar.subi arg6 c1_i32
  let c0_i32_28 : BitVec 32 := 0#32
  let v64 : BitVec 32 := Scalar.maxsi v63 c0_i32_28
  let c256_i32_29 : BitVec 32 := 256#32
  let v65 : BitVec 32 := Scalar.muli v64 c256_i32_29
  v65
def k0_off1 (arg6 : BitVec 32) (c0_i32_26 : BitVec 32) : Fin 2 → Nat :=
  let v59 : BitVec 32 := Scalar.subi arg6 c0_i32_26
  let c0_i32_27 : BitVec 32 := 0#32
  let v60 : BitVec 32 := Scalar.maxsi v59 c0_i32_27
  let c256_i32 : BitVec 32 := 256#32
  let v61 : BitVec 32 := Scalar.muli v60 c256_i32
  let v62 : BitVec 32 := v61
  let v85 : Index := Scalar.indexCast v62
  let c0_38 : Index := 0#32
  ![v85.toNat, 0]
def k0_off2 (arg6 : BitVec 32) (c0_i32_26 : BitVec 32) : Fin 2 → Nat :=
  let v59 : BitVec 32 := Scalar.subi arg6 c0_i32_26
  let c0_i32_27 : BitVec 32 := 0#32
  let v60 : BitVec 32 := Scalar.maxsi v59 c0_i32_27
  let c256_i32 : BitVec 32 := 256#32
  let v61 : BitVec 32 := Scalar.muli v60 c256_i32
  let v62 : BitVec 32 := v61
  let v88 : Index := Scalar.indexCast v62
  let c128_39 : Index := 128#32
  ![v88.toNat, 128]

def k0_chk1 (arg6 : BitVec 32) : Prop :=
  (256 ∣ (k0_mult1 arg6).toNat) ∧
  (256 ∣ (k0_mult2 arg6).toNat) ∧
  (∀ (r : Fin 2), ∀ a, (k0_off1 arg6 (BitVec.ofNat 32 r.val)) a + S256x128.size a ≤ S16384x256.size a) ∧
  (∀ (r : Fin 2), ∀ a, (k0_off2 arg6 (BitVec.ofNat 32 r.val)) a + S256x128.size a ≤ S16384x256.size a)
theorem k0_mult1_dvd : ∀ (arg6 : BitVec 32) (k0_hw1 : k0_chk1 arg6), 256 ∣ (k0_mult1 arg6).toNat := fun arg6 k0_hw1 => k0_hw1.1
theorem k0_mult2_dvd : ∀ (arg6 : BitVec 32) (k0_hw1 : k0_chk1 arg6), 256 ∣ (k0_mult2 arg6).toNat := fun arg6 k0_hw1 => k0_hw1.2.1
theorem k0_off1_inb : ∀ (arg6 : BitVec 32) (k0_hw1 : k0_chk1 arg6), ∀ (r : Fin 2), ∀ a, (k0_off1 arg6 (BitVec.ofNat 32 r.val)) a + S256x128.size a ≤ S16384x256.size a := fun arg6 k0_hw1 r => k0_hw1.2.2.1 r
theorem k0_off2_inb : ∀ (arg6 : BitVec 32) (k0_hw1 : k0_chk1 arg6), ∀ (r : Fin 2), ∀ a, (k0_off2 arg6 (BitVec.ofNat 32 r.val)) a + S256x128.size a ≤ S16384x256.size a := fun arg6 k0_hw1 r => k0_hw1.2.2.2 r

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16384x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16384x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Kernel6Ideal.lean ====
variable {F : FTy → Type} [FloatOps F] [Named F]
def κ : String → Option EReal := fun
  | "inv_ln2" => some (((Real.log 2)⁻¹ : ℝ) : EReal)
  | "masked" => some ⊥
  | "scale_log2e" => some (((8 * (Real.log 2))⁻¹ : ℝ) : EReal)
  | "underflow" => some ⊤
  | _ => none
-- ==== Reference6Ideal.lean ====
abbrev S16384x256 : Shape := ⟨2, ![16384, 256]⟩
abbrev S16384x4x64 : Shape := ⟨3, ![16384, 4, 64]⟩
abbrev S4x16384x16384 : Shape := ⟨3, ![4, 16384, 16384]⟩
abbrev S_ : Shape := ⟨0, ![]⟩
abbrev S16384 : Shape := ⟨1, ![16384]⟩
abbrev S1x16384 : Shape := ⟨2, ![1, 16384]⟩
abbrev S16384x1 : Shape := ⟨2, ![16384, 1]⟩
abbrev S16384x16384 : Shape := ⟨2, ![16384, 16384]⟩
abbrev S4x64x16384 : Shape := ⟨3, ![4, 64, 16384]⟩

abbrev nBuf : Space → Nat
  | .hbm => 52
  | .vmem => 0
  | .smem => 0
  | _ => 0

abbrev bufTy : (tb : Table) → Fin (tcTables nBuf tb) → BufTy
  | .hbm, ⟨0, _⟩ => ⟨S16384x256, .f32⟩
  | .hbm, ⟨1, _⟩ => ⟨S16384x256, .f32⟩
  | .hbm, ⟨2, _⟩ => ⟨S16384x256, .f32⟩
  | .hbm, ⟨3, _⟩ => ⟨S16384x4x64, .f32⟩
  | .hbm, ⟨4, _⟩ => ⟨S16384x4x64, .f32⟩
  | .hbm, ⟨5, _⟩ => ⟨S16384x4x64, .f32⟩
  | .hbm, ⟨6, _⟩ => ⟨S4x16384x16384, .f32⟩
  | .hbm, ⟨7, _⟩ => ⟨S_, .f32⟩
  | .hbm, ⟨8, _⟩ => ⟨S4x16384x16384, .f32⟩
  | .hbm, ⟨9, _⟩ => ⟨S4x16384x16384, .f32⟩
  | .hbm, ⟨10, _⟩ => ⟨S16384, .i32⟩
  | .hbm, ⟨11, _⟩ => ⟨S1x16384, .i32⟩
  | .hbm, ⟨12, _⟩ => ⟨S16384x1, .i32⟩
  | .hbm, ⟨13, _⟩ => ⟨S16384x16384, .i32⟩
  | .hbm, ⟨14, _⟩ => ⟨S16384x16384, .i32⟩
  | .hbm, ⟨15, _⟩ => ⟨S16384x16384, .i1⟩
  | .hbm, ⟨16, _⟩ => ⟨S_, .f32⟩
  | .hbm, ⟨17, _⟩ => ⟨S_, .f32⟩
  | .hbm, ⟨18, _⟩ => ⟨S4x16384x16384, .i1⟩
  | .hbm, ⟨19, _⟩ => ⟨S4x16384x16384, .f32⟩
  | .hbm, ⟨20, _⟩ => ⟨S4x16384x16384, .f32⟩
  | .hbm, ⟨21, _⟩ => ⟨S4x16384x16384, .f32⟩
  | .hbm, ⟨22, _⟩ => ⟨S4x16384x16384, .f32⟩
  | .hbm, ⟨23, _⟩ => ⟨S_, .f32⟩
  | .hbm, ⟨24, _⟩ => ⟨S4x16384x16384, .f32⟩
  | .hbm, ⟨25, _⟩ => ⟨S4x16384x16384, .f32⟩
  | .hbm, ⟨26, _⟩ => ⟨S4x16384x16384, .f32⟩
  | .hbm, ⟨27, _⟩ => ⟨S4x16384x16384, .f32⟩
  | .hbm, ⟨28, _⟩ => ⟨S4x16384x16384, .i1⟩
  | .hbm, ⟨29, _⟩ => ⟨S4x16384x16384, .f32⟩
  | .hbm, ⟨30, _⟩ => ⟨S4x16384x16384, .f32⟩
  | .hbm, ⟨31, _⟩ => ⟨S4x16384x16384, .f32⟩
  | .hbm, ⟨32, _⟩ => ⟨S4x16384x16384, .f32⟩
  | .hbm, ⟨33, _⟩ => ⟨S4x16384x16384, .f32⟩
  | .hbm, ⟨34, _⟩ => ⟨S4x16384x16384, .f32⟩
  | .hbm, ⟨35, _⟩ => ⟨S4x16384x16384, .f32⟩
  | .hbm, ⟨36, _⟩ => ⟨S4x16384x16384, .f32⟩
  | .hbm, ⟨37, _⟩ => ⟨S4x16384x16384, .f32⟩
  | .hbm, ⟨38, _⟩ => ⟨S16384x1, .i32⟩
  | .hbm, ⟨39, _⟩ => ⟨S1x16384, .i32⟩
  | .hbm, ⟨40, _⟩ => ⟨S16384x16384, .i32⟩
  | .hbm, ⟨41, _⟩ => ⟨S16384x16384, .i32⟩
  | .hbm, ⟨42, _⟩ => ⟨S16384x16384, .i1⟩
  | .hbm, ⟨43, _⟩ => ⟨S16384x16384, .f32⟩
  | .hbm, ⟨44, _⟩ => ⟨S4x16384x16384, .f32⟩
  | .hbm, ⟨45, _⟩ => ⟨S4x16384x16384, .f32⟩
  | .hbm, ⟨46, _⟩ => ⟨S4x16384x16384, .f32⟩
  | .hbm, ⟨47, _⟩ => ⟨S4x16384x16384, .f32⟩
  | .hbm, ⟨48, _⟩ => ⟨S4x64x16384, .f32⟩
  | .hbm, ⟨49, _⟩ => ⟨S16384x4x64, .f32⟩
  | .hbm, ⟨50, _⟩ => ⟨S16384x256, .f32⟩
  | .hbm, ⟨51, _⟩ => ⟨S16384x256, .bf16⟩
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_v12 : Ref sig .tc := ⟨.hbm, 20, rfl⟩
abbrev main_v13 : Ref sig .tc := ⟨.hbm, 21, rfl⟩
abbrev main_call1_v0 : Ref sig .tc := ⟨.hbm, 22, rfl⟩
abbrev main_call1_call0_cst : Ref sig .tc := ⟨.hbm, 23, rfl⟩
abbrev main_call1_call0_v0 : Ref sig .tc := ⟨.hbm, 24, rfl⟩
abbrev main_call1_call0_v1 : Ref sig .tc := ⟨.hbm, 25, rfl⟩
abbrev main_call1_call0_v2 : Ref sig .tc := ⟨.hbm, 26, rfl⟩
abbrev main_call1_call0_v3 : Ref sig .tc := ⟨.hbm, 27, rfl⟩
abbrev main_call1_call0_v4 : Ref sig .tc := ⟨.hbm, 28, rfl⟩
abbrev main_call1_call0_v5 : Ref sig .tc := ⟨.hbm, 29, rfl⟩
abbrev main_call1_call0_v6 : Ref sig .tc := ⟨.hbm, 30, rfl⟩
abbrev main_call1_call0_v7 : Ref sig .tc := ⟨.hbm, 31, rfl⟩
abbrev main_call1_call0_v8 : Ref sig .tc := ⟨.hbm, 32, rfl⟩
abbrev main_call1_call0_v9 : Ref sig .tc := ⟨.hbm, 33, rfl⟩
abbrev main_call1_call0_v10 : Ref sig .tc := ⟨.hbm, 34, rfl⟩
abbrev main_call1_call0_v11 : Ref sig .tc := ⟨.hbm, 35, rfl⟩
abbrev main_call1_v1 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩

abbrev nD : Nat := 1
abbrev τ : Topo := Topo.v7x

variable {F : FTy → Type} [FloatOps F]
-- ==== Proof.Softmax.lean ====
/- Extended-real identities behind the attention: sums scaled by a nonnegative real, a windowed sum,
   and a softmax-weighted mean divided once at its end against one whose weights are divided. -/
module

public import Idealize.ShloMosaic.Lib.Pointwise

@[expose] public section

noncomputable section

namespace Cert.Attn

open Idealize.ShloMosaic

/-- Multiplying by a nonnegative real distributes over a finite sum of extended reals. -/
theorem sum_mul_real {ι : Type} (s : Finset ι) (f : ι → EReal) (r : ℝ) (hr : 0 ≤ r) :
    (∑ i ∈ s, f i) * (r : EReal) = ∑ i ∈ s, f i * (r : EReal) := by
  classical
  induction s using Finset.induction_on with
  | empty => simp
  | insert a s ha ih =>
    rw [Finset.sum_insert ha, Finset.sum_insert ha,
      EReal.right_distrib_of_nonneg_of_ne_top (EReal.coe_nonneg.2 hr) (EReal.coe_ne_top r), ih]

/-- A finite sum of reals, taken in the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The exponential of a score that is not `⊤` less a real maximum is a nonnegative real. -/
theorem exp_real (x : EReal) (hx : x ≠ ⊤) (m : ℝ) : ∃ r : ℝ, 0 ≤ r ∧ Ideal.exp (x - (m : EReal)) = (r : EReal) ∧ (x ≠ ⊥ → 0 < r) := by
  induction x with
  | bot => exact ⟨0, le_rfl, by simp, fun h => absurd rfl h⟩
  | top => exact absurd rfl hx
  | coe x =>
    refine ⟨Real.exp (x - m), (Real.exp_pos _).le, ?_, fun _ => Real.exp_pos _⟩
    rw [← EReal.coe_sub]; rfl

/-- The largest of finitely many scores, `⊥` for none: the fold of `max` from `⊥` is the supremum. -/
theorem fold_max_eq_sup {ι : Type} (s : Finset ι) (f : ι → EReal) : s.fold max ⊥ f = s.sup f := rfl

/-- Column `kk` of a 576-wide band that starts at `64 * a` within 768 columns. -/
def band (a : Fin 4) (kk : Fin 576) : Fin 768 := ⟨64 * a.val + kk.val, by omega⟩

theorem band_injective (a : Fin 4) : Function.Injective (band a) := fun x y h => by
  have := congrArg Fin.val h
  simp only [band] at this
  exact Fin.ext (by omega)

/-- A column lies in the band exactly when it is one of the band's columns. -/
theorem mem_band (a : Fin 4) (C : Fin 768) (h : 64 * a.val ≤ C.val) (h' : C.val < 64 * a.val + 576) : C ∈ Set.range (band a) :=
  ⟨⟨C.val - 64 * a.val, by omega⟩, Fin.ext (by simp only [band]; omega)⟩

/-- SOFTMAX OVER A BAND. Scores `S` on 768 columns that are `⊥` outside a band of 576 columns and `T` on it, `T` nowhere
    `⊤` and somewhere not `⊥`: the weights' sum with the values, divided once by the sum of the weights, is the sum of the
    divided weights with the band's values. The values need agree only where the score is not `⊥`. -/
theorem softmax_band (a : Fin 4) (S V : Fin 768 → EReal) (T U : Fin 576 → EReal)
    (hin : ∀ kk, S (band a kk) = T kk) (hout : ∀ C, C ∉ Set.range (band a) → S C = ⊥)
    (hv : ∀ kk, T kk ≠ ⊥ → V (band a kk) = U kk) (htop : ∀ kk, T kk ≠ ⊤) (hbot : ∃ kk, T kk ≠ ⊥) :
    Ideal.div (∑ C, Ideal.exp (S C - Finset.univ.sup S) * V C) (∑ C, Ideal.exp (S C - Finset.univ.sup S))
      = ∑ kk, Ideal.div (Ideal.exp (T kk - Finset.univ.sup T)) (∑ jj, Ideal.exp (T jj - Finset.univ.sup T)) * U kk := by
  have hsup : Finset.univ.sup S = Finset.univ.sup T := by
    apply le_antisymm
    · refine Finset.sup_le fun C _ => ?_
      by_cases hC : C ∈ Set.range (band a)
      · obtain ⟨kk, rfl⟩ := hC
        rw [hin]; exact Finset.le_sup (Finset.mem_univ kk)
      · rw [hout C hC]; exact bot_le
    · refine Finset.sup_le fun kk _ => ?_
      rw [← hin]; exact Finset.le_sup (f := S) (Finset.mem_univ (band a kk))
  rw [hsup]
  have hmt : Finset.univ.sup T ≠ ⊤ := ne_of_lt ((Finset.sup_lt_iff bot_lt_top).2 fun kk _ => lt_top_iff_ne_top.2 (htop kk))
  have hmb : Finset.univ.sup T ≠ ⊥ := by
    obtain ⟨kk, hk⟩ := hbot
    exact fun h => hk (le_bot_iff.1 (h ▸ Finset.le_sup (f := T) (Finset.mem_univ kk)))
  obtain ⟨m, hm⟩ : ∃ m : ℝ, Finset.univ.sup T = (m : EReal) := ⟨_, (EReal.coe_toReal hmt hmb).symm⟩
  rw [hm]
  have h0 : ∀ C, C ∉ Set.range (band a) → Ideal.exp (S C - (m : EReal)) = 0 := fun C hC => by
    rw [hout C hC, EReal.bot_sub]; rfl
  have hnum : (∑ C, Ideal.exp (S C - (m : EReal)) * V C) = ∑ kk, Ideal.exp (T kk - (m : EReal)) * U kk := by
    refine (Fintype.sum_of_injective (band a) (band_injective a) _ _ (fun C hC => ?_) fun kk => ?_).symm
    · rw [h0 C hC, zero_mul]
    · rw [hin]
      by_cases hT : T kk = ⊥
      · rw [hT, EReal.bot_sub, Ideal.exp_bot, zero_mul, zero_mul]
      · rw [hv kk hT]
  have hden : (∑ C, Ideal.exp (S C - (m : EReal))) = ∑ kk, Ideal.exp (T kk - (m : EReal)) :=
    (Fintype.sum_of_injective (band a) (band_injective a) _ _ (fun C hC => h0 C hC) fun kk => by rw [hin]).symm
  rw [hnum, hden]
  choose e he0 he hepos using fun kk => exp_real (T kk) (htop kk) m
  have hD : (∑ kk, Ideal.exp (T kk - (m : EReal))) = ((∑ kk, e kk : ℝ) : EReal) := by
    rw [coe_sum]; exact Finset.sum_congr rfl fun kk _ => he kk
  have hpos : (0 : ℝ) < ∑ kk, e kk := by
    obtain ⟨kk, hk⟩ := hbot
    exact Finset.sum_pos' (fun i _ => he0 i) ⟨kk, Finset.mem_univ _, hepos kk hk⟩
  rw [hD, Ideal.div_coe hpos.ne', sum_mul_real _ _ _ (by positivity)]
  refine Finset.sum_congr rfl fun kk _ => ?_
  rw [Ideal.div_coe hpos.ne', mul_assoc, mul_assoc, mul_comm (U kk)]

/-- A contraction over 128 lanes whose left operand is zeroed off the lower 64 lanes is the contraction over those. -/
theorem dot_lower (f g : Fin 128 → EReal) :
    (∑ l : Fin 128, (if l.val < 64 then f l else 0) * g l)
      = ∑ d : Fin 64, f ⟨d.val, by omega⟩ * g ⟨d.val, by omega⟩ := by
  rw [Fin.sum_univ_two_halves 64 64 rfl]
  have h2 : ∀ d : Fin 64, ¬ (64 + d.val < 64) := fun d => by omega
  simp [h2]

/-- The same for the upper 64 lanes. -/
theorem dot_upper (f g : Fin 128 → EReal) :
    (∑ l : Fin 128, (if 64 ≤ l.val then f l else 0) * g l)
      = ∑ d : Fin 64, f ⟨64 + d.val, by omega⟩ * g ⟨64 + d.val, by omega⟩ := by
  rw [Fin.sum_univ_two_halves 64 64 rfl]
  have h2 : ∀ d : Fin 64, ¬ (64 ≤ d.val) := fun d => by omega
  simp [h2]

/-- The bias column of a clipped distance, by the distance's entry in a table of `1024` read around its end: entry `m` is the
    distance `512 − m`, clipped to `±128` and shifted by `128`. -/
def distCol (m : Nat) : Nat := if m < 384 then 256 else if m < 640 then 640 - m else if m < 768 then 0 else 256

theorem distCol_lt (m : Nat) : distCol m < 257 := by unfold distCol; split_ifs <;> omega

end Cert.Attn

end
-- ==== Proof.AttnBlock.lean ====
/- One grid point of the band attention: the block the body stores, as four lane slices of one shape,
   each for a pair of heads. -/
module

public import proofs.«01_k».proof.Proof.Gen.KernelIdeal.Frame
public import proofs.«01_k».proof.Proof.Softmax

@[expose] public section

set_option maxRecDepth 16384

noncomputable section

namespace Cert.KernelIdeal.Attn

open Idealize.ShloMosaic Idealize.ShloMosaic.TcCoe Idealize.SL.Sem
open Cert.KernelIdeal Cert.KernelIdeal.Gen

variable {F : FTy → Type} [FloatOps F] [Named F]

/-- The queries of a lane slice, the lanes of the other head zeroed. -/
def queryV (M : IVec S256x128 1) (Q : Vec F S256x128 .bf16) : FVec F S256x128 .bf16 :=
  truncf .bf16 (select M (extf .f32 (shapeCast S256x128 Q shapeCasts_S256x128_S256x128) bitsLt_bf16_f32)
    (broadcast S256x128 (Scalar.ofBits .f32 0x00000000#32))) bitsLt_bf16_f32

/-- The scores of a key tile: the contraction plus the bias, or the mask where the tile lies before the first key. -/
def scoreV (M : IVec S256x128 1) (i jj : BitVec 32) (Q K : Vec F S256x128 .bf16) (B : Vec F S1x256x256 .f32) : FVec F S256x256 .f32 :=
  Scalar.select (Scalar.cmpi .sge (Scalar.addi i jj) 2#32)
    (addf (matmul dot_S256x128_S256x128_S256x256_1_1_0_0_n_n none (queryV M Q) (shapeCast S256x128 K shapeCasts_S256x128_S256x128)
      (constant S256x256 .f32 0x00000000#32)) (shapeCast S256x256 B shapeCasts_S1x256x256_S256x256))
    (broadcast S256x256 (Named.named κ "mask" 0xF149F2CA#32))

/-- A column of row maxima of one tile. -/
def rowMaxV (S : FVec F S256x256 .f32) : FVec F S256x1 .f32 :=
  shapeCast S256x1 (multiReduction .maximumf [1] S256 S 0xFF800000#32 reduces_S256x256_S256 (.inl rfl) rfl) shapeCasts_S256_S256x1

/-- A column of row sums of one tile. -/
def rowSumV (S : FVec F S256x256 .f32) : FVec F S256x1 .f32 :=
  shapeCast S256x1 (multiReduction .add [1] S256 S 0x00000000#32 reduces_S256x256_S256 (.inl rfl) rfl) shapeCasts_S256_S256x1

/-- The maximum over the three tiles. -/
def maxV (S0 S1 S2 : FVec F S256x256 .f32) : FVec F S256x1 .f32 :=
  maximumf (maximumf (rowMaxV S0) (rowMaxV S1)) (rowMaxV S2)

/-- The unnormalised weights of one tile. -/
def probV (S : FVec F S256x256 .f32) (m : FVec F S256x1 .f32) : FVec F S256x256 .f32 :=
  exp (subf S (broadcastTo S256x256 m broadcasts_S256x1_S256x256))

/-- The weights' product with one tile of values. -/
def pvV (P : FVec F S256x256 .f32) (V : Vec F S256x128 .bf16) : FVec F S256x128 .f32 :=
  matmul dot_S256x256_S256x128_S256x128_1_0_0_1_n_n none (truncf .bf16 P bitsLt_bf16_f32)
    (shapeCast S256x128 V shapeCasts_S256x128_S256x128) (constant S256x128 .f32 0x00000000#32)

/-- One head's mean over its three tiles, zero on the other head's lanes. -/
def headV (M : IVec S256x128 1) (S0 S1 S2 : FVec F S256x256 .f32) (V0 V1 V2 : Vec F S256x128 .bf16) : FVec F S256x128 .f32 :=
  select M
    (divf (addf (addf (pvV (probV S0 (maxV S0 S1 S2)) V0) (pvV (probV S1 (maxV S0 S1 S2)) V1)) (pvV (probV S2 (maxV S0 S1 S2)) V2))
      (broadcastTo S256x128 (addf (addf (rowSumV (probV S0 (maxV S0 S1 S2))) (rowSumV (probV S1 (maxV S0 S1 S2))))
        (rowSumV (probV S2 (maxV S0 S1 S2)))) broadcasts_S256x1_S256x128))
    (broadcast S256x128 (Scalar.ofBits .f32 0x00000000#32))

/-- A lane slice of the block: the two heads that share it. -/
def pairV (i : BitVec 32) (Q K0 K1 K2 V0 V1 V2 : Vec F S256x128 .bf16) (B00 B01 B02 B10 B11 B12 : Vec F S1x256x256 .f32) :
    FVec F S256x128 .bf16 :=
  truncf .bf16 (addf
    (headV k1_pay2 (scoreV k1_pay2 i 0#32 Q K0 B00) (scoreV k1_pay2 i 1#32 Q K1 B01) (scoreV k1_pay2 i 2#32 Q K2 B02) V0 V1 V2)
    (headV k1_pay3 (scoreV k1_pay3 i 0#32 Q K0 B10) (scoreV k1_pay3 i 1#32 Q K1 B11) (scoreV k1_pay3 i 2#32 Q K2 B12) V0 V1 V2))
    bitsLt_bf16_f32

/-- The stored block is its four lane slices. -/
theorem out1_8_eq (i : grid1.Coords) (x0 x1 x2 x3 x4 x5 x6 : Vec F S256x512 .bf16) (x7 : Vec F S8x256x768 .f32) :
    out1_8 i x0 x1 x2 x3 x4 x5 x6 x7 = View.canon
      [⟨r1_15, pairV (BitVec.ofNat 32 (i 0).val) (View.ld x0 r1_15) (View.ld x1 r1_15) (View.ld x2 r1_15) (View.ld x3 r1_15)
          (View.ld x4 r1_15) (View.ld x5 r1_15) (View.ld x6 r1_15)
          (View.ld x7 r1_22) (View.ld x7 r1_23) (View.ld x7 r1_24) (View.ld x7 r1_25) (View.ld x7 r1_26) (View.ld x7 r1_27)⟩,
       ⟨r1_14, pairV (BitVec.ofNat 32 (i 0).val) (View.ld x0 r1_14) (View.ld x1 r1_14) (View.ld x2 r1_14) (View.ld x3 r1_14)
          (View.ld x4 r1_14) (View.ld x5 r1_14) (View.ld x6 r1_14)
          (View.ld x7 r1_16) (View.ld x7 r1_17) (View.ld x7 r1_18) (View.ld x7 r1_19) (View.ld x7 r1_20) (View.ld x7 r1_21)⟩,
       ⟨r1_1, pairV (BitVec.ofNat 32 (i 0).val) (View.ld x0 r1_1) (View.ld x1 r1_1) (View.ld x2 r1_1) (View.ld x3 r1_1)
          (View.ld x4 r1_1) (View.ld x5 r1_1) (View.ld x6 r1_1)
          (View.ld x7 r1_8) (View.ld x7 r1_9) (View.ld x7 r1_10) (View.ld x7 r1_11) (View.ld x7 r1_12) (View.ld x7 r1_13)⟩,
       ⟨r1_0, pairV (BitVec.ofNat 32 (i 0).val) (View.ld x0 r1_0) (View.ld x1 r1_0) (View.ld x2 r1_0) (View.ld x3 r1_0)
          (View.ld x4 r1_0) (View.ld x5 r1_0) (View.ld x6 r1_0)
          (View.ld x7 r1_2) (View.ld x7 r1_3) (View.ld x7 r1_4) (View.ld x7 r1_5) (View.ld x7 r1_6) (View.ld x7 r1_7)⟩] := rfl

end Cert.KernelIdeal.Attn

end
-- ==== Proof.AttnPoint.lean ====
/- One grid point of the band attention at the ideal numbers: every lane of the stored block is a softmax-weighted
   mean over the 768 columns of the three key tiles. -/
module

public import proofs.«01_k».proof.Proof.AttnBlock
public import Idealize.ShloMosaic.Lib.Pointwise
public import Idealize.ShloMosaic.Lib.Pipeline.ValueKit.Tiles
public import Idealize.ShloMosaic.PureOps.IdealRules

@[expose] public section

set_option maxRecDepth 16384

noncomputable section

namespace Cert.Attn

open Idealize.ShloMosaic

/-- The mean of the values `V` weighted by `exp (S - max S)`, divided once at the end. -/
def wmean (S V : Fin 768 → EReal) : EReal :=
  Ideal.div (∑ C, Ideal.exp (S C - Finset.univ.sup S) * V C) (∑ C, Ideal.exp (S C - Finset.univ.sup S))

/-- Column `c` of tile `jj` among the 768 columns. -/
def tcol (jj : Fin 3) (c : Fin 256) : Fin 768 := ⟨256 * jj.val + c.val, by omega⟩

/-- A sum over the 768 columns, tile by tile. -/
theorem sum_tcol (f : Fin 768 → EReal) :
    ∑ c, f (tcol 0 c) + ∑ c, f (tcol 1 c) + ∑ c, f (tcol 2 c) = ∑ C, f C := by
  rw [Fin.sum_univ_tiles 3 256 rfl f, Fin.sum_univ_three]
  rfl

/-- A maximum over the 768 columns, tile by tile. -/
theorem sup_tcol (f : Fin 768 → EReal) :
    max (max (Finset.univ.sup fun c => f (tcol 0 c)) (Finset.univ.sup fun c => f (tcol 1 c))) (Finset.univ.sup fun c => f (tcol 2 c))
      = Finset.univ.sup f := by
  apply le_antisymm
  · refine max_le (max_le ?_ ?_) ?_ <;> exact Finset.sup_le fun c _ => Finset.le_sup (f := f) (Finset.mem_univ _)
  · refine Finset.sup_le fun C _ => ?_
    have key : ∀ jj : Fin 3, ∀ c : Fin 256, C = tcol jj c → f C ≤ Finset.univ.sup fun c => f (tcol jj c) := fun jj c h =>
      h ▸ Finset.le_sup (f := fun c => f (tcol jj c)) (Finset.mem_univ c)
    by_cases h0 : C.val < 256
    · exact le_max_of_le_left (le_max_of_le_left (key 0 ⟨C.val, h0⟩ (Fin.ext (by simp [tcol]))))
    · by_cases h1 : C.val < 512
      · exact le_max_of_le_left (le_max_of_le_right (key 1 ⟨C.val - 256, by omega⟩ (Fin.ext (by simp [tcol]; omega))))
      · exact le_max_of_le_right (key 2 ⟨C.val - 512, by omega⟩ (Fin.ext (by simp [tcol]; omega)))

theorem ofBits_neg_inf : Ideal.ofBits .f32 0xFF800000#32 = ⊥ := by simp [Ideal.ofBits, Ideal.ieee]

end Cert.Attn

namespace Cert.KernelIdeal.Attn

open Idealize.ShloMosaic Idealize.ShloMosaic.TcCoe Idealize.SL.Sem
open Cert.KernelIdeal Cert.KernelIdeal.Gen Cert.Attn

/-- The lane test of the first head of a slice. -/
theorem lane_lower (l : Fin 128) : IntOp.andi (IntOp.cmpi .sge (BitVec.ofNat 32 l.val) 0#32) (IntOp.cmpi .slt (BitVec.ofNat 32 l.val) 64#32)
    = if l.val < 64 then 1#1 else 0#1 := by revert l; decide +kernel

/-- The lane test of the second head of a slice. -/
theorem lane_upper (l : Fin 128) : IntOp.andi (IntOp.cmpi .sge (BitVec.ofNat 32 l.val) 64#32) (IntOp.cmpi .slt (BitVec.ofNat 32 l.val) 128#32)
    = if l.val < 64 then 0#1 else 1#1 := by revert l; decide +kernel

theorem pay2_apply (r : Fin 256) (l : Fin 128) : k1_pay2 (ix2 r l) = if l.val < 64 then 1#1 else 0#1 := by
  rw [← lane_lower l]; pointwise [k1_pay2]

theorem pay3_apply (r : Fin 256) (l : Fin 128) : k1_pay3 (ix2 r l) = if l.val < 64 then 0#1 else 1#1 := by
  rw [← lane_upper l]; pointwise [k1_pay3]

/-- A sum over the lanes of a slice kept where they belong to its first head. -/
theorem sum_lower (f : Fin 128 → EReal) :
    ∑ l : Fin 128, Scalar.select (if l.val < 64 then 1#1 else 0#1) (f l) 0 = ∑ d : Fin 64, f ⟨d.val, by omega⟩ := by
  rw [Fin.sum_univ_two_halves 64 64 rfl]
  have h2 : ∀ d : Fin 64, (if (64 + d.val) < 64 then 1#1 else 0#1) = 0#1 := fun d => if_neg (by omega)
  simp [Scalar.select, h2]

/-- A sum over the lanes of a slice kept where they belong to its second head. -/
theorem sum_upper (f : Fin 128 → EReal) :
    ∑ l : Fin 128, Scalar.select (if l.val < 64 then 0#1 else 1#1) (f l) 0 = ∑ d : Fin 64, f ⟨64 + d.val, by omega⟩ := by
  rw [Fin.sum_univ_two_halves 64 64 rfl]
  have h2 : ∀ d : Fin 64, (if (64 + d.val) < 64 then 0#1 else 1#1) = 1#1 := fun d => if_neg (by omega)
  simp [Scalar.select, h2]

/-- The score of query row `r` and key row `c` of a tile, over the 64 lanes from `o`; the mask's `⊥` before the first key. -/
def tileScore (o : Nat) (ho : o ≤ 64) (i jj : BitVec 32) (Q K : Vec Ideal S256x128 .bf16) (B : Vec Ideal S1x256x256 .f32) (r c : Fin 256) : EReal :=
  Scalar.select (Scalar.cmpi .sge (Scalar.addi i jj) 2#32)
    (∑ d : Fin 64, Q (ix2 r ⟨o + d.val, by omega⟩) * K (ix2 c ⟨o + d.val, by omega⟩) + B (ix3 0 r c)) ⊥

theorem mask_bot : Named.named (F := Ideal) (φ := .f32) κ "mask" 0xF149F2CA#32 = (⊥ : EReal) :=
  IdealRules.named_const.ideal_named_scalar κ "mask" _ _ rfl

theorem score_lower (i jj : BitVec 32) (Q K : Vec Ideal S256x128 .bf16) (B : Vec Ideal S1x256x256 .f32) (r c : Fin 256) :
    scoreV (F := Ideal) k1_pay2 i jj Q K B (ix2 r c) = tileScore 0 (by omega) i jj Q K B r c := by
  pointwise [scoreV, queryV, k1_pay2]
  simp only [lane_lower]
  rw [sum_lower fun x => Q (ix2 r x) * K (ix2 c x), mask_bot]
  simp only [tileScore, Nat.zero_add]

theorem score_upper (i jj : BitVec 32) (Q K : Vec Ideal S256x128 .bf16) (B : Vec Ideal S1x256x256 .f32) (r c : Fin 256) :
    scoreV (F := Ideal) k1_pay3 i jj Q K B (ix2 r c) = tileScore 64 (by omega) i jj Q K B r c := by
  pointwise [scoreV, queryV, k1_pay3]
  simp only [lane_upper]
  rw [sum_upper fun x => Q (ix2 r x) * K (ix2 c x), mask_bot]
  simp only [tileScore]

/-- A head's mean over its three tiles, on its own lanes: the mean over the 768 columns. -/
theorem head_apply (M : IVec S256x128 1) (S0 S1 S2 : FVec Ideal S256x256 .f32) (V0 V1 V2 : Vec Ideal S256x128 .bf16) (r : Fin 256) (l : Fin 128)
    (S V : Fin 768 → EReal) (h0 : ∀ c, S0 (ix2 r c) = S (tcol 0 c)) (h1 : ∀ c, S1 (ix2 r c) = S (tcol 1 c)) (h2 : ∀ c, S2 (ix2 r c) = S (tcol 2 c))
    (g0 : ∀ c, V0 (ix2 c l) = V (tcol 0 c)) (g1 : ∀ c, V1 (ix2 c l) = V (tcol 1 c)) (g2 : ∀ c, V2 (ix2 c l) = V (tcol 2 c)) :
    headV (F := Ideal) M S0 S1 S2 V0 V1 V2 (ix2 r l) = Scalar.select (M (ix2 r l)) (wmean S V) 0 := by
  pointwise [headV, pvV, probV, maxV, rowMaxV, rowSumV]
  simp only [h0, h1, h2, g0, g1, g2, ofBits_neg_inf, fold_max_eq_sup]
  rw [sup_tcol S, sum_tcol fun C => Ideal.exp (S C - Finset.univ.sup S), sum_tcol fun C => Ideal.exp (S C - Finset.univ.sup S) * V C]
  rfl

/-- A lane slice on the lanes of its first head. -/
theorem pair_lower (i : BitVec 32) (Q K0 K1 K2 V0 V1 V2 : Vec Ideal S256x128 .bf16) (B00 B01 B02 B10 B11 B12 : Vec Ideal S1x256x256 .f32)
    (r : Fin 256) (l : Fin 128) (hl : l.val < 64) (S V : Fin 768 → EReal)
    (h0 : ∀ c, tileScore 0 (by omega) i 0#32 Q K0 B00 r c = S (tcol 0 c)) (h1 : ∀ c, tileScore 0 (by omega) i 1#32 Q K1 B01 r c = S (tcol 1 c))
    (h2 : ∀ c, tileScore 0 (by omega) i 2#32 Q K2 B02 r c = S (tcol 2 c))
    (g0 : ∀ c, V0 (ix2 c l) = V (tcol 0 c)) (g1 : ∀ c, V1 (ix2 c l) = V (tcol 1 c)) (g2 : ∀ c, V2 (ix2 c l) = V (tcol 2 c)) :
    pairV (F := Ideal) i Q K0 K1 K2 V0 V1 V2 B00 B01 B02 B10 B11 B12 (ix2 r l) = wmean S V := by
  have e1 := head_apply k1_pay2 _ _ _ V0 V1 V2 r l S V (fun c => (score_lower i 0#32 Q K0 B00 r c).trans (h0 c))
    (fun c => (score_lower i 1#32 Q K1 B01 r c).trans (h1 c)) (fun c => (score_lower i 2#32 Q K2 B02 r c).trans (h2 c)) g0 g1 g2
  have e2 : ∀ S0 S1 S2, headV (F := Ideal) k1_pay3 S0 S1 S2 V0 V1 V2 (ix2 r l) = 0 := fun S0 S1 S2 => by
    simp only [headV, select]
    pointwise [pay3_apply, hl]
  pointwise [pairV, e1, e2, pay2_apply, hl]

/-- A lane slice on the lanes of its second head. -/
theorem pair_upper (i : BitVec 32) (Q K0 K1 K2 V0 V1 V2 : Vec Ideal S256x128 .bf16) (B00 B01 B02 B10 B11 B12 : Vec Ideal S1x256x256 .f32)
    (r : Fin 256) (l : Fin 128) (hl : ¬ l.val < 64) (S V : Fin 768 → EReal)
    (h0 : ∀ c, tileScore 64 (by omega) i 0#32 Q K0 B10 r c = S (tcol 0 c)) (h1 : ∀ c, tileScore 64 (by omega) i 1#32 Q K1 B11 r c = S (tcol 1 c))
    (h2 : ∀ c, tileScore 64 (by omega) i 2#32 Q K2 B12 r c = S (tcol 2 c))
    (g0 : ∀ c, V0 (ix2 c l) = V (tcol 0 c)) (g1 : ∀ c, V1 (ix2 c l) = V (tcol 1 c)) (g2 : ∀ c, V2 (ix2 c l) = V (tcol 2 c)) :
    pairV (F := Ideal) i Q K0 K1 K2 V0 V1 V2 B00 B01 B02 B10 B11 B12 (ix2 r l) = wmean S V := by
  have e1 := head_apply k1_pay3 _ _ _ V0 V1 V2 r l S V (fun c => (score_upper i 0#32 Q K0 B10 r c).trans (h0 c))
    (fun c => (score_upper i 1#32 Q K1 B11 r c).trans (h1 c)) (fun c => (score_upper i 2#32 Q K2 B12 r c).trans (h2 c)) g0 g1 g2
  have e2 : ∀ S0 S1 S2, headV (F := Ideal) k1_pay2 S0 S1 S2 V0 V1 V2 (ix2 r l) = 0 := fun S0 S1 S2 => by
    simp only [headV, select]
    pointwise [pay2_apply, hl]
  pointwise [pairV, e1, e2, pay3_apply, hl]

/-- The column of the block where lane `d` of the head holding column `L` lies. -/
def lane (L : Fin 512) (d : Fin 64) : Fin 512 := ⟨64 * (L.val / 64) + d.val, by omega⟩

/-- The head holding column `L`. -/
def headOf (L : Fin 512) : Fin 8 := ⟨L.val / 64, by omega⟩

/-- The score of row `r` and row `c` of tile `jj` in the head holding column `L`, from the whole blocks. -/
def blockScore (i jj : BitVec 32) (X0 XK : Vec Ideal S256x512 .bf16) (X7 : Vec Ideal S8x256x768 .f32) (r c : Fin 256) (L : Fin 512) (C : Fin 768) : EReal :=
  Scalar.select (Scalar.cmpi .sge (Scalar.addi i jj) 2#32)
    (∑ d : Fin 64, X0 (ix2 r (lane L d)) * XK (ix2 c (lane L d)) + X7 (ix3 (headOf L) r C)) ⊥

theorem ld_lane (X : Vec Ideal S256x512 .bf16) (p : Nat) (inb) (r : Fin 256) (l : Fin 128) (L : Fin 512) (h : L.val = p + l.val) :
    View.ld X (Rect.unit ![0, p] ![256, 128] inb) (ix2 r l) = X (ix2 r L) :=
  View.ld_unit_apply_of X _ _ inb _ _ fun a => by
    match a with
    | ⟨0, _⟩ => exact (Nat.zero_add _).symm
    | ⟨1, _⟩ => exact h

theorem ld_bias (X : Vec Ideal S8x256x768 .f32) (p q : Nat) (inb) (r c : Fin 256) (hd : Fin 8) (C : Fin 768) (hp : hd.val = p) (hq : C.val = q + c.val) :
    View.ld X (Rect.unit ![p, 0, q] ![1, 256, 256] inb) (ix3 0 r c) = X (ix3 hd r C) :=
  View.ld_unit_apply_of X _ _ inb _ _ fun a => by
    match a with
    | ⟨0, _⟩ => exact hp
    | ⟨1, _⟩ => exact (Nat.zero_add _).symm
    | ⟨2, _⟩ => exact hq

/-- A slice's tile score is the whole blocks' score. -/
theorem tile_ld (o : Nat) (ho : o ≤ 64) (p hd q : Nat) (i jj : BitVec 32) (X0 XK : Vec Ideal S256x512 .bf16) (X7 : Vec Ideal S8x256x768 .f32)
    (inb inb') (r c : Fin 256) (L : Fin 512) (C : Fin 768) (hL : 64 * (L.val / 64) = p + o) (hh : L.val / 64 = hd) (hC : C.val = q + c.val) :
    tileScore o ho i jj (View.ld X0 (Rect.unit ![0, p] ![256, 128] inb)) (View.ld XK (Rect.unit ![0, p] ![256, 128] inb))
      (View.ld X7 (Rect.unit ![hd, 0, q] ![1, 256, 256] inb')) r c = blockScore i jj X0 XK X7 r c L C := by
  simp only [tileScore, blockScore]
  congr 2
  · refine Finset.sum_congr rfl fun d _ => ?_
    exact congrArg₂ (· * ·) (ld_lane X0 p inb r _ (lane L d) (by simp only [lane]; omega)) (ld_lane XK p inb c _ (lane L d) (by simp only [lane]; omega))
  · exact ld_bias X7 hd q inb' r c (headOf L) C hh hC

/-- THE STORED BLOCK at row `r` and column `L`: the mean over the 768 columns, from the whole blocks. -/
theorem block_apply (i : grid1.Coords) (X0 X1 X2 X3 X4 X5 X6 : Vec Ideal S256x512 .bf16) (X7 : Vec Ideal S8x256x768 .f32)
    (r : Fin 256) (L : Fin 512) (S V : Fin 768 → EReal)
    (h0 : ∀ c, blockScore (BitVec.ofNat 32 (i 0).val) 0#32 X0 X1 X7 r c L (tcol 0 c) = S (tcol 0 c))
    (h1 : ∀ c, blockScore (BitVec.ofNat 32 (i 0).val) 1#32 X0 X2 X7 r c L (tcol 1 c) = S (tcol 1 c))
    (h2 : ∀ c, blockScore (BitVec.ofNat 32 (i 0).val) 2#32 X0 X3 X7 r c L (tcol 2 c) = S (tcol 2 c))
    (g0 : ∀ c, X4 (ix2 c L) = V (tcol 0 c)) (g1 : ∀ c, X5 (ix2 c L) = V (tcol 1 c)) (g2 : ∀ c, X6 (ix2 c L) = V (tcol 2 c)) :
    out1_8 (F := Ideal) i X0 X1 X2 X3 X4 X5 X6 X7 (ix2 r L) = wmean S V := by
  rw [out1_8_eq]
  canon_tiles x e
  all_goals
    idx_vars x
    obtain rfl : r = x0 := Fin.ext e0
    by_cases hl : x1.val < 64
    · refine pair_lower _ _ _ _ _ _ _ _ _ _ _ _ _ _ r x1 hl S V (fun c => (tile_ld 0 _ _ _ _ _ _ _ _ _ _ _ r c L (tcol 0 c) ?_ ?_ ?_).trans (h0 c))
        (fun c => (tile_ld 0 _ _ _ _ _ _ _ _ _ _ _ r c L (tcol 1 c) ?_ ?_ ?_).trans (h1 c))
        (fun c => (tile_ld 0 _ _ _ _ _ _ _ _ _ _ _ r c L (tcol 2 c) ?_ ?_ ?_).trans (h2 c))
        (fun c => (ld_lane _ _ _ c x1 L ?_).trans (g0 c)) (fun c => (ld_lane _ _ _ c x1 L ?_).trans (g1 c)) (fun c => (ld_lane _ _ _ c x1 L ?_).trans (g2 c)) <;>
      (try simp only [tcol]) <;> omega
    · refine pair_upper _ _ _ _ _ _ _ _ _ _ _ _ _ _ r x1 hl S V (fun c => (tile_ld 64 _ _ _ _ _ _ _ _ _ _ _ r c L (tcol 0 c) ?_ ?_ ?_).trans (h0 c))
        (fun c => (tile_ld 64 _ _ _ _ _ _ _ _ _ _ _ r c L (tcol 1 c) ?_ ?_ ?_).trans (h1 c))
        (fun c => (tile_ld 64 _ _ _ _ _ _ _ _ _ _ _ r c L (tcol 2 c) ?_ ?_ ?_).trans (h2 c))
        (fun c => (ld_lane _ _ _ c x1 L ?_).trans (g0 c)) (fun c => (ld_lane _ _ _ c x1 L ?_).trans (g1 c)) (fun c => (ld_lane _ _ _ c x1 L ?_).trans (g2 c)) <;>
      (try simp only [tcol]) <;> omega

end Cert.KernelIdeal.Attn

end
-- ==== Proof.AttnValue.lean ====
/- The band attention's result array, from the arrays its region is entered with. -/
module

public import proofs.«01_k».proof.Proof.AttnPoint
public import Idealize.ShloMosaic.Lib.Pipeline.Value
public import Idealize.ShloMosaic.Lib.Pipeline.ValueKit

@[expose] public section

set_option maxRecDepth 16384

noncomputable section

namespace Cert.KernelIdeal.Attn

open Idealize.ShloMosaic Idealize.ShloMosaic.TcCoe Idealize.SL.Sem
open Cert.KernelIdeal Cert.KernelIdeal.Gen Cert.Attn

/-- The score of query `t` at window column `C` in the head holding column `L`: `⊥` where the column lies before the first key. -/
def winS (q k : FVec Ideal S16384x512 .bf16) (bm : FVec Ideal S8x256x768 .f32) (t : Fin 16384) (L : Fin 512) (C : Fin 768) : EReal :=
  if h : 512 ≤ 256 * (t.val / 256) + C.val then
    ∑ d : Fin 64, q (ix2 t (lane L d)) * k (ix2 ⟨256 * (t.val / 256) + C.val - 512, by omega⟩ (lane L d))
      + bm (ix3 (headOf L) ⟨t.val % 256, by omega⟩ C)
  else ⊥

/-- The value row under window column `C` (the first block's rows again where the column lies before the first key). -/
def winV (v : FVec Ideal S16384x512 .bf16) (t : Fin 16384) (L : Fin 512) (C : Fin 768) : EReal :=
  v (ix2 ⟨256 * (t.val / 256 + C.val / 256 - 2) + C.val % 256, by omega⟩ L)

/-- The windows' block indices at a grid point. -/
theorem idx1 : ∀ t : Fin cfg1.N, (grid1.coords t 0).val = t.val ∧ win1_0.index t = ![t.val, 0] ∧ win1_1.index t = ![t.val - 2, 0]
    ∧ win1_2.index t = ![t.val - 1, 0] ∧ win1_3.index t = ![t.val, 0] ∧ win1_4.index t = ![t.val - 2, 0]
    ∧ win1_5.index t = ![t.val - 1, 0] ∧ win1_6.index t = ![t.val, 0] ∧ win1_7.index t = ![0, 0, 0] ∧ win1_8.index t = ![t.val, 0] :=
  (by decide +kernel : ∀ t : Fin grid1.N, _)

/-- Tile `jj` lies among the keys from block `2 - jj` on. -/
theorem tile_cond : ∀ i : Fin 64, ∀ jj : Fin 3,
    Scalar.cmpi .sge (Scalar.addi (BitVec.ofNat 32 i.val) (BitVec.ofNat 32 jj.val)) 2#32 = if 2 ≤ i.val + jj.val then 1#1 else 0#1 := by
  decide +kernel

/-- A tile's selected score is the window's score. -/
theorem winS_tile (q k : FVec Ideal S16384x512 .bf16) (bm : FVec Ideal S8x256x768 .f32) (T : Fin 16384) (L : Fin 512) (t : Nat) (r : Fin 256)
    (jj : Fin 3) (a : Fin 256) (row : Fin 16384) (w : BitVec 1) (hT0 : T.val / 256 = t) (hT1 : T.val % 256 = r.val)
    (hw : w = if 2 ≤ t + jj.val then 1#1 else 0#1) (hrow : 2 ≤ t + jj.val → row.val = 256 * (t + jj.val - 2) + a.val) :
    Scalar.select w (∑ d : Fin 64, q (ix2 T (lane L d)) * k (ix2 row (lane L d)) + bm (ix3 (headOf L) r (tcol jj a))) ⊥
      = winS q k bm T L (tcol jj a) := by
  subst hw
  have hC : (tcol jj a).val = 256 * jj.val + a.val := rfl
  by_cases h : 2 ≤ t + jj.val
  · have h' : 512 ≤ 256 * (T.val / 256) + (tcol jj a).val := by omega
    have er : row = ⟨256 * (T.val / 256) + (tcol jj a).val - 512, by omega⟩ := Fin.ext (by have := hrow h; simp only [hC]; omega)
    have eR : r = ⟨T.val % 256, by omega⟩ := Fin.ext hT1.symm
    rw [winS, dif_pos h', if_pos h, ← er, ← eR]; rfl
  · have h' : ¬ 512 ≤ 256 * (T.val / 256) + (tcol jj a).val := by omega
    rw [winS, dif_neg h', if_neg h]; rfl

/-- A tile's value row is the window's. -/
theorem winV_tile (v : FVec Ideal S16384x512 .bf16) (T : Fin 16384) (L : Fin 512) (t : Nat) (jj : Fin 3) (a : Fin 256) (row : Fin 16384)
    (hT0 : T.val / 256 = t) (hrow : row.val = 256 * (t + jj.val - 2) + a.val) : v (ix2 row L) = winV v T L (tcol jj a) := by
  have hC : (tcol jj a).val = 256 * jj.val + a.val := rfl
  exact congrArg (fun x => v (ix2 x L)) (Fin.ext (by simp only [hC]; omega))

variable (V : (c : Dev nD) → (b : Ref sig .tc) → Buf (Elt Ideal) ((c : Thread nD τ).loc b))

/-- THE RESULT ARRAY: at `(t, L)` the softmax mean over the window of `t`. -/
theorem region1 (c : Dev nD) : (dat1 (F := Ideal) V c).arrAt 8 cfg1.N
    = fun i : S16384x512.Idx => wmean (winS (V c main_v2) (V c main_v3) (V c main_v11) (i 0) (i 1)) (winV (V c main_v4) (i 0) (i 1)) := by
  refine (dat1 (F := Ideal) V c).arrAt_eq_of_covers 8 _ (by decide +kernel) fun t hf y => ?_
  blk_simp
  rw [after1_8]
  obtain ⟨hc, e0, e1, e2, e3, e4, e5, e6, e7, e8⟩ := idx1 t
  have ht : t.val < 64 := t.isLt
  obtain ⟨r, L, rfl⟩ : ∃ (r : Fin 256) (L : Fin 512), y = ix2 r L := ⟨y 0, y 1, eq_ix2 y⟩
  have hT : (((win1_8.blk t).view.emb (ix2 r L) 0 : Fin _) : Nat) = t.val * 256 + r.val := by blk_simp [e8]
  have hL : (((win1_8.blk t).view.emb (ix2 r L) 1 : Fin _) : Nat) = L.val := by blk_simp [e8]
  obtain ⟨T, hT'⟩ : ∃ T : Fin 16384, T = (win1_8.blk t).view.emb (ix2 r L) 0 := ⟨_, rfl⟩
  have hL' : (win1_8.blk t).view.emb (ix2 r L) 1 = L := Fin.ext hL
  rw [hL', ← hT']
  rw [← hT'] at hT
  have hT0 : T.val / 256 = t.val := by omega
  have hT1 : T.val % 256 = r.val := by omega
  have b0 : ∀ l, iblk1 V c 0 t (ix2 r l) = V c main_v2 (ix2 T l) := fun l => by blk_ext [iblk1, e0]
  have b1 : ∀ a l, iblk1 V c 1 t (ix2 a l) = V c main_v3 (ix2 (⟨256 * (t.val - 2) + a.val, by omega⟩ : Fin 16384) l) := fun a l => by blk_ext [iblk1, e1]
  have b2 : ∀ a l, iblk1 V c 2 t (ix2 a l) = V c main_v3 (ix2 (⟨256 * (t.val - 1) + a.val, by omega⟩ : Fin 16384) l) := fun a l => by blk_ext [iblk1, e2]
  have b3 : ∀ a l, iblk1 V c 3 t (ix2 a l) = V c main_v3 (ix2 (⟨256 * t.val + a.val, by omega⟩ : Fin 16384) l) := fun a l => by blk_ext [iblk1, e3]
  have b4 : ∀ a l, iblk1 V c 4 t (ix2 a l) = V c main_v4 (ix2 (⟨256 * (t.val - 2) + a.val, by omega⟩ : Fin 16384) l) := fun a l => by blk_ext [iblk1, e4]
  have b5 : ∀ a l, iblk1 V c 5 t (ix2 a l) = V c main_v4 (ix2 (⟨256 * (t.val - 1) + a.val, by omega⟩ : Fin 16384) l) := fun a l => by blk_ext [iblk1, e5]
  have b6 : ∀ a l, iblk1 V c 6 t (ix2 a l) = V c main_v4 (ix2 (⟨256 * t.val + a.val, by omega⟩ : Fin 16384) l) := fun a l => by blk_ext [iblk1, e6]
  have b7 : ∀ h a C, iblk1 V c 7 t (ix3 h a C) = V c main_v11 (ix3 h a C) := fun h a C => by blk_ext [iblk1, e7]
  have hi : (grid1.coords t 0).val < 64 := by omega
  have cnd : ∀ jj : Fin 3, Scalar.cmpi .sge (Scalar.addi (BitVec.ofNat 32 (grid1.coords t 0).val) (BitVec.ofNat 32 jj.val)) 2#32
      = if 2 ≤ t.val + jj.val then 1#1 else 0#1 := fun jj => by rw [tile_cond ⟨_, hi⟩ jj]; simp only [hc]
  refine block_apply _ _ _ _ _ _ _ _ _ r L _ _ (fun a => ?_) (fun a => ?_) (fun a => ?_) (fun a => ?_) (fun a => ?_) (fun a => ?_)
  · simp only [blockScore, b0, b1, b7]
    exact winS_tile _ _ _ T L t.val r 0 a _ _ hT0 hT1 (cnd 0) fun _ => by simp
  · simp only [blockScore, b0, b2, b7]
    exact winS_tile _ _ _ T L t.val r 1 a _ _ hT0 hT1 (cnd 1) fun _ => by simp
  · simp only [blockScore, b0, b3, b7]
    exact winS_tile _ _ _ T L t.val r 2 a _ _ hT0 hT1 (cnd 2) fun _ => by simp
  · rw [b4]; exact winV_tile _ T L t.val 0 a _ hT0 (by simp)
  · rw [b5]; exact winV_tile _ T L t.val 1 a _ hT0 (by simp)
  · rw [b6]; exact winV_tile _ T L t.val 2 a _ hT0 (by simp)

end Cert.KernelIdeal.Attn

end
-- ==== Proof.BiasValue.lean ====
/- The bias table of the band attention, entry by entry, from the distances' row of each head. -/
module

public import proofs.«01_k».proof.Proof.AttnPoint
public import Idealize.ShloMosaic.Lib.Pipeline.Value
public import Idealize.ShloMosaic.Lib.Pipeline.ValueKit

@[expose] public section

set_option maxRecDepth 16384

noncomputable section

namespace Cert.KernelIdeal.Bias

open Idealize.ShloMosaic Idealize.ShloMosaic.TcCoe Idealize.SL.Sem
open Cert.KernelIdeal Cert.KernelIdeal.Gen Cert.Attn

/-- The row broadcast down the tile and rotated by its row number: entry `(r, C)` is the row's entry `C - r`, cyclically. -/
theorem rolled (x : Vec Ideal S1x1x1024 .f32) (r : Fin 256) (C : Fin 768) :
    k0_pay2 (F := Ideal) x (ix2 r C) = x (ix3 0 0 ⟨(C.val + 1024 - r.val) % 1024, by omega⟩) := by
  pointwise [k0_pay2]
  exact congrArg (fun i => x (ix3 0 0 i)) (Fin.ext (by simp only [Nat.mod_eq_of_lt (show r.val < 1024 by omega)]))

/-- The chunk of a row, as the tile computes it. -/
theorem row_chunk (r : Fin 256) (C : Fin 768) : k0_pay3 (ix2 r C) = BitVec.ofNat 32 (r.val / 64) := by
  pointwise [k0_pay3]
  revert r; decide +kernel

/-- The chunk of a column, as the tile computes it. -/
theorem col_chunk : ∀ C : Fin 768,
    Scalar.select
      (IntOp.andi
        (IntOp.cmpi .ne
          (IntOp.subi (BitVec.setWidth 32 (IntOp.cmpi .sgt (BitVec.ofNat 32 C.val) 0#32)) (BitVec.setWidth 32 (IntOp.cmpi .slt (BitVec.ofNat 32 C.val) 0#32)))
          (Scalar.subi (Scalar.extui (Scalar.cmpi .sgt 64#32 0#32)) (Scalar.extui (Scalar.cmpi .slt 64#32 0#32))))
        (IntOp.cmpi .ne (IntOp.remsi ArithUnit.vector (BitVec.ofNat 32 C.val) 64#32) 0#32))
      (IntOp.subi (IntOp.divsi ArithUnit.vector (BitVec.ofNat 32 C.val) 64#32) 1#32)
      (IntOp.divsi ArithUnit.vector (BitVec.ofNat 32 C.val) 64#32) = BitVec.ofNat 32 (C.val / 64) := by
  decide +kernel

/-- The band test, from the two chunks. -/
theorem band_cond : ∀ a : Fin 4, ∀ b : Fin 12,
    IntOp.andi (IntOp.cmpi .sge (IntOp.subi (BitVec.ofNat 32 a.val) (IntOp.subi (BitVec.ofNat 32 b.val) 8#32)) 0#32)
      (IntOp.cmpi .sle (IntOp.subi (BitVec.ofNat 32 a.val) (IntOp.subi (BitVec.ofNat 32 b.val) 8#32)) 8#32)
      = if a.val ≤ b.val ∧ b.val < a.val + 9 then 1#1 else 0#1 := by
  decide +kernel

/-- The stored table: the rolled row inside the band, `⊥` outside. -/
theorem pay1_point (v : FVec Ideal S256x768 .f32) (r : Fin 256) (C : Fin 768) :
    k0_pay1 (F := Ideal) v (iota .tc S256x768 32 [1] iota_S256x768_d1_w32) k0_pay3 64#32 k0_pay4 k0_pay5 (Scalar.extui (Scalar.cmpi .sgt 64#32 0#32)) 0#32
      (ix3 0 r C) = if 64 * (r.val / 64) ≤ C.val ∧ C.val < 64 * (r.val / 64) + 576 then v (ix2 r C) else ⊥ := by
  pointwise [k0_pay1, k0_pay4, k0_pay5]
  rw [col_chunk C, row_chunk r C, band_cond ⟨r.val / 64, by omega⟩ ⟨C.val / 64, by omega⟩, Attn.mask_bot]
  by_cases h : 64 * (r.val / 64) ≤ C.val ∧ C.val < 64 * (r.val / 64) + 576
  · rw [if_pos h, if_pos (by constructor <;> simp only <;> omega)]; rfl
  · rw [if_neg h, if_neg (by simp only; omega)]; rfl

/-- The body's output block, entry by entry. -/
theorem bias_point (x : Vec Ideal S1x1x1024 .f32) (r : Fin 256) (C : Fin 768) :
    out0_1 (F := Ideal) x (ix3 0 r C) = if 64 * (r.val / 64) ≤ C.val ∧ C.val < 64 * (r.val / 64) + 576 then x (ix3 0 0 ⟨(C.val + 1024 - r.val) % 1024, by omega⟩) else ⊥ := by
  unfold out0_1
  canon_tiles x e
  idx_vars x
  obtain rfl : r = x1 := Fin.ext e1
  obtain rfl : C = x2 := Fin.ext e2
  obtain rfl : 0 = x0 := Fin.ext e0
  rw [pay1_point, rolled, View.ld_unit_apply_of x _ _ _ _ (ix3 0 0 ⟨(C.val + 1024 - r.val) % 1024, by omega⟩) fun a => by
    match a with
    | ⟨0, _⟩ => rfl
    | ⟨1, _⟩ => rfl
    | ⟨2, _⟩ => exact (Nat.zero_add _).symm]

/-- The windows' block indices at a grid point. -/
theorem idx0 : ∀ t : Fin cfg0.N, win0_0.index t = ![t.val, 0, 0] ∧ win0_1.index t = ![t.val, 0, 0] :=
  (by decide +kernel : ∀ t : Fin grid0.N, _)

variable (V : (c : Dev nD) → (b : Ref sig .tc) → Buf (Elt Ideal) ((c : Thread nD τ).loc b))

/-- The bias table of head `h` at row `r` and column `C`. -/
def table (g : FVec Ideal S8x1x1024 .f32) (h : Fin 8) (r : Fin 256) (C : Fin 768) : EReal :=
  if 64 * (r.val / 64) ≤ C.val ∧ C.val < 64 * (r.val / 64) + 576 then g (ix3 h 0 ⟨(C.val + 1024 - r.val) % 1024, by omega⟩) else ⊥

/-- THE TABLE'S ARRAY: every head's table, from its row. -/
theorem region0 (c : Dev nD) : (dat0 (F := Ideal) V c).arrAt 1 cfg0.N
    = fun i : S8x256x768.Idx => table (V c main_v10) (i 0) (i 1) (i 2) := by
  refine (dat0 (F := Ideal) V c).arrAt_eq_of_covers 1 _ (by decide +kernel) fun t hf y => ?_
  blk_simp
  rw [after0_1]
  obtain ⟨e0, e1⟩ := idx0 t
  have ht : t.val < 8 := t.isLt
  obtain ⟨z, r, C, rfl⟩ : ∃ (z : Fin 1) (r : Fin 256) (C : Fin 768), y = ix3 z r C := ⟨y 0, y 1, y 2, eq_ix3 y⟩
  obtain rfl : z = 0 := Fin.ext (by omega)
  have h0 : (win0_1.blk t).view.emb (ix3 0 r C) 0 = (⟨t.val, ht⟩ : Fin 8) := Fin.ext (by blk_simp [e1]; rfl)
  have h1 : (win0_1.blk t).view.emb (ix3 0 r C) 1 = r := Fin.ext (by blk_simp [e1])
  have h2 : (win0_1.blk t).view.emb (ix3 0 r C) 2 = C := Fin.ext (by blk_simp [e1])
  rw [h0, h1, h2]
  have b0 : ∀ l, iblk0 V c 0 t (ix3 0 0 l) = V c main_v10 (ix3 (⟨t.val, ht⟩ : Fin 8) 0 l) := fun l => by blk_ext [iblk0, e0]
  exact (bias_point _ r C).trans (by rw [b0]; rfl)

end Cert.KernelIdeal.Bias

end
-- ==== Proof.HostTable.lean ====
/- The arrays the kernel's two regions are entered with, from the arguments: the rounded operands and
   each head's row of biases by distance. -/
module

public import proofs.«01_k».proof.Proof.AttnValue
public import proofs.«01_k».proof.Proof.BiasValue
public import Idealize.ShloMosaic.Lib.StableHlo.Run
public import Idealize.ShloMosaic.Lib.Claim
public import Idealize.ShloMosaic.Lib.LawUnitPlain

@[expose] public section

set_option maxRecDepth 16384

noncomputable section

namespace Cert.KernelIdeal.Host

open Idealize.ShloMosaic Idealize.ShloMosaic.TcCoe Idealize.SL.Sem
open Cert.KernelIdeal Cert.KernelIdeal.Gen Cert.Attn

/-- The column gather of a bias table: column `b` where the index array holds `b`. -/
theorem gather_apply {α : Type} (x : S8x257.Idx → α) (idx : IVec S1024x1 32) (h : Fin 8) (m : Fin 1024) (b : Fin 257)
    (hb : (idx (ix2 m 0)).toInt.toNat = b.val) : Host.gather gather_S8x257_S1024x1_S8x1024_0_1_n_n_1_1_81 x idx (ix2 h m) = x (ix2 h b) := by
  unfold Host.gather
  refine congrArg x (funext fun a => Fin.ext ?_)
  have hsi : gather_S8x257_S1024x1_S8x1024_0_1_n_n_1_1_81.siIdx (ix2 h m) ⟨0, by decide⟩ = ix2 m 0 := by
    funext b'
    match b' with
    | ⟨0, _⟩ => rfl
    | ⟨1, _⟩ => rfl
  match a with
  | ⟨0, _⟩ => exact (Nat.zero_add _).trans rfl
  | ⟨1, _⟩ =>
    show min (idx (gather_S8x257_S1024x1_S8x1024_0_1_n_n_1_1_81.siIdx (ix2 h m) ⟨0, by decide⟩)).toInt.toNat 256 + 0 + 0 = b.val
    rw [hsi, hb]; omega

theorem lit_apply : ∀ m : Fin 1024, (lit0 m).toInt.toNat = distCol m.val := by decide +kernel

/-- The index array the host gathers the biases at. -/
def hostIdx : IVec S1024x1 32 :=
  broadcastInDim S1024x1 ![0] bcast_S1024_S1024x1_0
    (select (constantI S1024 1 0#1)
      (addi (fun i => lit0 (S1024.rowMajor i)) (broadcastInDim S1024 ![] bcast_S_S1024 (constantI S_ 32 257#32)))
      fun i => lit0 (S1024.rowMajor i))

theorem hostIdx_apply (k : Fin 1024) : (hostIdx (ix2 k 0)).toInt.toNat = distCol k.val := by
  rw [← lit_apply k]
  pointwise [hostIdx]
  exact congrArg (fun x => (lit0 x).toInt.toNat) (Fin.ext (LawUnitPlain.rowMajorPi_one ![1024] (ix1 k)))

variable (m : (ℓ : Loc nD τ sig) → Buf (Elt Ideal) ℓ) (ρ : Dev nD → PrngReg)

/-- The distances' row of head `h`: entry `k` is the head's bias at the distance of entry `k`. -/
theorem V1_table (c : Dev nD) (h : Fin 8) (k : Fin 1024) :
    V1 m ρ c main_v10 (ix3 h 0 k) = m ((c : Thread nD τ).loc main_arg3) (ix2 h ⟨distCol k.val, distCol_lt k.val⟩) := by
  unfold_abbrev_sides
  after_results
  refine Eq.trans (b := shapeCast S8x1x1024 (Host.gather gather_S8x257_S1024x1_S8x1024_0_1_n_n_1_1_81
    (m ((c : Thread nD τ).loc main_arg3)) hostIdx) shapeCasts_S8x1024_S8x1x1024 (ix3 h 0 k)) rfl ?_
  pointwise []
  exact gather_apply _ _ h k _ (hostIdx_apply k)

/-- The queries, scaled by the constant one eighth. -/
def qScaled (q : FVec Ideal S16384x512 .f32) : FVec Ideal S16384x512 .bf16 := fun i => q i * Ideal.ofBits .f32 0x3E000000#32

theorem V2_q (c : Dev nD) : V2 m ρ c main_v2 = qScaled (m ((c : Thread nD τ).loc main_arg0)) := by
  have e : V2 m ρ c main_v2 = V1 m ρ c main_v2 := W2_of m ρ c main_v2 (by decide)
  refine e.trans (funext fun i => ?_)
  unfold_abbrev_sides
  after_results
  rfl

theorem V2_k (c : Dev nD) : V2 m ρ c main_v3 = m ((c : Thread nD τ).loc main_arg1) := by
  have e : V2 m ρ c main_v3 = V1 m ρ c main_v3 := W2_of m ρ c main_v3 (by decide)
  refine e.trans (funext fun i => ?_)
  unfold_abbrev_sides
  after_results
  rfl

theorem V2_v (c : Dev nD) : V2 m ρ c main_v4 = m ((c : Thread nD τ).loc main_arg2) := by
  have e : V2 m ρ c main_v4 = V1 m ρ c main_v4 := W2_of m ρ c main_v4 (by decide)
  refine e.trans (funext fun i => ?_)
  unfold_abbrev_sides
  after_results
  rfl

theorem V2_bias (c : Dev nD) (i : S8x256x768.Idx) : V2 m ρ c main_v11 i = Bias.table (V1 m ρ c main_v10) (i 0) (i 1) (i 2) :=
  congrFun ((W2_arr m ρ c 1).trans (Bias.region0 (V1 m ρ) c)) i

/-- The bias of head `h` between a query at row `r` of its block and window column `C`: the head's table at the clipped
    distance inside the query's band, `⊥` outside it. -/
def biasE (b : FVec Ideal S8x257 .f32) (h : Fin 8) (r : Fin 256) (C : Fin 768) : EReal :=
  if 64 * (r.val / 64) ≤ C.val ∧ C.val < 64 * (r.val / 64) + 576 then
    b (ix2 h ⟨distCol ((C.val + 1024 - r.val) % 1024), distCol_lt _⟩) else ⊥

/-- THE KERNEL'S RESULT ARRAY from the arguments. -/
def kernelE (q k v : FVec Ideal S16384x512 .f32) (b : FVec Ideal S8x257 .f32) : FVec Ideal S16384x512 .bf16 := fun i =>
  wmean (Attn.winS (qScaled q) k (fun j => biasE b (j 0) (j 1) (j 2)) (i 0) (i 1)) (Attn.winV v (i 0) (i 1))

theorem W3_result (c : Dev nD) : W3 m ρ c (Proc.devRef .tc main_v12)
    = kernelE (m ((c : Thread nD τ).loc main_arg0)) (m ((c : Thread nD τ).loc main_arg1)) (m ((c : Thread nD τ).loc main_arg2))
        (m ((c : Thread nD τ).loc main_arg3)) := by
  have e : V2 m ρ c main_v11 = fun j : S8x256x768.Idx => biasE (m ((c : Thread nD τ).loc main_arg3)) (j 0) (j 1) (j 2) := by
    funext j
    rw [V2_bias]
    exact if_congr Iff.rfl (V1_table m ρ c _ _) rfl
  refine (W3_arr m ρ c 8).trans ((Attn.region1 (V2 m ρ) c).trans ?_)
  rw [e, V2_q, V2_k, V2_v]
  rfl

end Cert.KernelIdeal.Host

end
-- ==== Proof.KernelRun.lean ====
/- The kernel's run, read at its result as well as at its arguments. -/
module

public import proofs.«01_k».proof.Proof.HostTable
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.KernelIdeal.Host

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

section Launch

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every fair run ends with the result buffer and the arguments at the last boundary's contents, every counter at zero. -/
theorem run_last : θ_run defs (onTc (τ := τ) (main (F := F))) ⟨m, fun _ => 0, ρ⟩ (fun r => (∀ c : Dev nD,
      r.2.mem ((c.tc : Thread nD τ).loc main_v12) = W3 m ρ c (Proc.devRef .tc main_v12)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h hz => ⟨(fun c =>
      ⟨h c _ (mem_uc main_v12 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c)⟩), funext fun g => hz g (.inr (no_unscoped g.2))⟩)

end Launch

variable (m : (ℓ : Loc nD τ sig) → Buf (Elt Ideal) ℓ) (ρ : Dev nD → PrngReg)

/-- THE RUN at the ideal numbers: the result is `kernelE` of the arguments, which end unchanged. -/
theorem run : θ_run defs (onTc (τ := τ) (main (F := Ideal))) ⟨m, fun _ => 0, ρ⟩ (fun r => ∀ c : Dev nD,
      r.2.mem ((c.tc : Thread nD τ).loc main_v12) = kernelE (m ((c.tc : Thread nD τ).loc main_arg0)) (m ((c.tc : Thread nD τ).loc main_arg1))
        (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h.1 c).1.trans (W3_result m ρ c), (h.1 c).2⟩) (run_last m ρ)

end Cert.KernelIdeal.Host

end
-- ==== Proof.RefIndex.lean ====
/- The integer arrays of the reference: which chunk each entry of a band lies in, which bias column a distance
   reads, and which entries of a band lie before the sequence; the gathers read at an index through them. -/
module

public import proofs.«01_k».proof.Proof.Softmax
public import proofs.«01_k».proof.Proof.Gen.ReferenceIdeal.Read
public import Idealize.ShloMosaic.Lib.Pipeline.ValueKit
public import Idealize.ShloMosaic.Lib.KernelVsHost
public import Idealize.ShloMosaic.Lib.WordCmp

@[expose] public section

set_option maxRecDepth 16384

noncomputable section

namespace Cert.ReferenceIdeal.Attn

open Idealize.ShloMosaic Idealize.ShloMosaic.TcCoe
open Cert.ReferenceIdeal Cert.ReferenceIdeal.Gen Cert.ReferenceIdeal.Read

/-- The gather of whole chunks: entry `(c, b)` holds chunk `n` where the index array holds `n`. -/
theorem gather_chunk {α : Type} (x : S264x64x8x64.Idx → α) (idx : IVec S256x9x1 32) (c : Fin 256) (b : Fin 9) (p : Fin 64) (h : Fin 8)
    (d : Fin 64) (n : Fin 264) (hn : (idx (ix3 c b 0)).toInt.toNat = n.val) (i : S256x9x64x8x64.Idx)
    (hi : ∀ a, (i a).val = (![c.val, b.val, p.val, h.val, d.val] : Fin 5 → Nat) a) :
    Host.gather gather_S264x64x8x64_S256x9x1_S256x9x64x8x64_234_0_n_n_0_2_164864 x idx i = x (ix4 n p h d) := by
  unfold Host.gather
  refine congrArg x (funext fun a => Fin.ext ?_)
  have hsi : gather_S264x64x8x64_S256x9x1_S256x9x64x8x64_234_0_n_n_0_2_164864.siIdx i ⟨0, by decide⟩ = ix3 c b 0 := by
    funext b'
    match b' with
    | ⟨0, _⟩ => exact Fin.ext (hi 0)
    | ⟨1, _⟩ => exact Fin.ext (hi 1)
    | ⟨2, _⟩ => rfl
  match a with
  | ⟨0, _⟩ =>
    show min (idx (gather_S264x64x8x64_S256x9x1_S256x9x64x8x64_234_0_n_n_0_2_164864.siIdx i ⟨0, by decide⟩)).toInt.toNat 263 + 0 + 0 = n.val
    rw [hsi, hn]; omega
  | ⟨1, _⟩ => exact (Nat.zero_add _).trans (hi 2)
  | ⟨2, _⟩ => exact (Nat.zero_add _).trans (hi 3)
  | ⟨3, _⟩ => exact (Nat.zero_add _).trans (hi 4)

/-- The gather of bias columns. -/
theorem gather_bias {α : Type} (x : S8x257.Idx → α) (idx : IVec S64x576x1 32) (h : Fin 8) (p : Fin 64) (kk : Fin 576) (b : Fin 257)
    (hb : (idx (ix3 p kk 0)).toInt.toNat = b.val) (i : S8x64x576.Idx)
    (hi : ∀ a, (i a).val = (![h.val, p.val, kk.val] : Fin 3 → Nat) a) :
    Host.gather gather_S8x257_S64x576x1_S8x64x576_0_1_n_n_1_2_81 x idx i = x (ix2 h b) := by
  unfold Host.gather
  refine congrArg x (funext fun a => Fin.ext ?_)
  have hsi : gather_S8x257_S64x576x1_S8x64x576_0_1_n_n_1_2_81.siIdx i ⟨0, by decide⟩ = ix3 p kk 0 := by
    funext b'
    match b' with
    | ⟨0, _⟩ => exact Fin.ext (hi 1)
    | ⟨1, _⟩ => exact Fin.ext (hi 2)
    | ⟨2, _⟩ => rfl
  match a with
  | ⟨0, _⟩ => exact (Nat.zero_add _).trans (hi 0)
  | ⟨1, _⟩ =>
    show min (idx (gather_S8x257_S64x576x1_S8x64x576_0_1_n_n_1_2_81.siIdx i ⟨0, by decide⟩)).toInt.toNat 256 + 0 + 0 = b.val
    rw [hsi, hb]; omega

/-- Entry `b` of the band of chunk `c` is padded chunk `c + b`. -/
theorem chunk_k (c : Fin 256) (b : Fin 9) : (val_main_v19 (F := Ideal) (ix3 c b 0)).toInt.toNat = c.val + b.val := by
  rw [val_main_v19_apply, val_main_v18_apply, val_main_v15_apply, val_main_v17_apply, val_main_v13_apply, val_main_v11_apply,
    val_main_v12_apply, val_main_v8_apply, val_main_v10_apply, val_main_v7_apply, val_main_v9_apply, val_main_v14_apply,
    val_main_v16_apply, val_main_c_1_apply, val_main_c_2_apply]
  revert c b; decide +kernel

theorem chunk_v (c : Fin 256) (b : Fin 9) : (val_main_v27 (F := Ideal) (ix3 c b 0)).toInt.toNat = c.val + b.val := by
  rw [val_main_v27_apply, val_main_v26_apply, val_main_v23_apply, val_main_v25_apply, val_main_v13_apply, val_main_v11_apply,
    val_main_v12_apply, val_main_v8_apply, val_main_v10_apply, val_main_v7_apply, val_main_v9_apply, val_main_v22_apply,
    val_main_v24_apply, val_main_c_3_apply, val_main_c_4_apply]
  revert c b; decide +kernel

/-- The bias column between row `p` of a chunk and entry `kk` of its band. -/
theorem bias_col (p : Fin 64) (kk : Fin 576) :
    (val_main_v50 (F := Ideal) (ix3 p kk 0)).toInt.toNat = Cert.Attn.distCol ((kk.val + 1024 - p.val) % 1024) := by
  have hp := p.isLt
  have hk := kk.isLt
  have hw : val_main_v41 (F := Ideal) (ix2 p kk) = BitVec.ofNat 32 (575 + p.val - kk.val) - 63#32 := by
    rw [val_main_v41_apply, val_main_v39_apply, val_main_v40_apply, val_main_v38_apply, val_main_v36_apply,
      val_main_v37_apply, val_main_v34_apply, val_main_v35_apply, val_main_v33_apply]
    show 512#32 + BitVec.ofNat 32 p.val - BitVec.ofNat 32 kk.val = _
    apply BitVec.eq_of_toNat_eq
    simp only [BitVec.toNat_sub, BitVec.toNat_add, BitVec.toNat_ofNat]
    omega
  have key : ∀ e : Fin 639, (Scalar.select (IntOp.cmpi .slt (IntOp.addi (IntOp.minsi 128#32 (IntOp.maxsi 4294967168#32
        (BitVec.ofNat 32 e.val - 63#32))) 128#32) 0#32)
      (IntOp.addi (IntOp.addi (IntOp.minsi 128#32 (IntOp.maxsi 4294967168#32 (BitVec.ofNat 32 e.val - 63#32))) 128#32) 257#32)
      (IntOp.addi (IntOp.minsi 128#32 (IntOp.maxsi 4294967168#32 (BitVec.ofNat 32 e.val - 63#32))) 128#32)).toInt.toNat
      = Cert.Attn.distCol ((1599 - e.val) % 1024) := by decide +kernel
  have ei : idx_main_v50 (ix3 p kk 0) = ix2 p kk := by
    funext a
    match a with
    | ⟨0, _⟩ => rfl
    | ⟨1, _⟩ => rfl
  rw [val_main_v50_apply, ei, val_main_v49_apply, val_main_v46_apply, val_main_v48_apply, val_main_v44_apply, val_main_v42_apply,
    val_main_call2_v2_apply, hw]
  refine (key ⟨575 + p.val - kk.val, by omega⟩).trans (congrArg Cert.Attn.distCol ?_)
  show (1599 - (575 + p.val - kk.val)) % 1024 = _
  omega

/-- A band entry lies inside the sequence. -/
theorem valid_bit (c : Fin 256) (kk : Fin 576) : val_main_v63 (F := Ideal) (ix2 c kk) = if 512 ≤ 64 * c.val + kk.val then 1#1 else 0#1 := by
  have hd : ∀ kk : Fin 576, val_main_v57 (F := Ideal) (ix1 kk) = BitVec.ofNat 32 (kk.val / 64) := by
    intro kk
    rw [val_main_v57_apply, val_main_call3_v11_apply, val_main_call3_v10_apply, val_main_call3_v13_apply, val_main_call3_v6_apply,
      val_main_call3_v2_apply, val_main_call3_v8_apply, val_main_call3_v1_apply, val_main_call3_v5_apply, val_main_call3_v7_apply]
    unfold val_main_call3_v3 val_main_call3_v4
    revert kk; decide +kernel
  rw [val_main_v63_apply, val_main_v61_apply, val_main_v59_apply, val_main_v60_apply, val_main_v55_apply, val_main_v58_apply,
    val_main_v53_apply, val_main_v54_apply, val_main_v52_apply, val_main_v62_apply, val_main_c_13_apply, val_main_c_11_apply]
  have e : idx_main_v58 (idx_main_v60 (ix2 c kk)) = ix1 kk := by
    funext a
    match a with
    | ⟨0, _⟩ => rfl
  rw [e, hd kk]
  have h9 : kk.val / 64 < 9 := by have := kk.isLt; omega
  have key : ∀ (c : Fin 256) (b : Fin 9), IntOp.cmpi .sge (IntOp.addi (IntOp.subi (BitVec.ofNat 32 c.val) 8#32) (BitVec.ofNat 32 b.val)) 0#32
      = if 8 ≤ c.val + b.val then 1#1 else 0#1 := by decide +kernel
  refine (key c ⟨kk.val / 64, h9⟩).trans (if_congr ?_ rfl rfl)
  show 8 ≤ c.val + kk.val / 64 ↔ _
  omega

end Cert.ReferenceIdeal.Attn

end
-- ==== Proof.RefValue.lean ====
/- The reference's result at an index: the softmax of a band's scores, with the band's values. -/
module

public import proofs.«01_k».proof.Proof.RefIndex
public import Idealize.ShloMosaic.Lib.IdealHost

@[expose] public section

set_option maxRecDepth 16384

noncomputable section

namespace Cert.ReferenceIdeal.Attn

open Idealize.ShloMosaic Idealize.ShloMosaic.TcCoe
open Cert.ReferenceIdeal Cert.ReferenceIdeal.Gen Cert.ReferenceIdeal.Read

/-- Column `d` of head `h`. -/
def col (h : Fin 8) (d : Fin 64) : Fin 512 := ⟨64 * h.val + d.val, by omega⟩

/-- A padded array read at a position inside the sequence. -/
theorem padded (x : S16384x8x64.Idx → EReal) (z : S_.Idx → EReal) (t : Fin 16896) (h : Fin 8) (d : Fin 64) (ht : 512 ≤ t.val)
    (i : S16896x8x64.Idx) (hi : ∀ a, (i a).val = (![t.val, h.val, d.val] : Fin 3 → Nat) a) :
    pad S16896x8x64 ![512, 0, 0] ![0, 0, 0] ![0, 0, 0] x z pads_S16384x8x64_S16896x8x64_51200_000_000 h_S_ i
      = x (ix3 ⟨t.val - 512, by omega⟩ h d) := by
  refine pad_apply_of_inside _ _ _ x z _ _ i _ fun a => ?_
  have e0 : (i 0).val = t.val := hi 0
  have e1 : (i 1).val = h.val := hi 1
  have e2 : (i 2).val = d.val := hi 2
  match a with
  | ⟨0, _⟩ => show (i 0).val = 512 + (t.val - 512) * (0 + 1); omega
  | ⟨1, _⟩ => show (i 1).val = 0 + h.val * (0 + 1); omega
  | ⟨2, _⟩ => show (i 2).val = 0 + d.val * (0 + 1); omega

/-- Entry `kk` of the keys' band of chunk `c`, inside the sequence. -/
theorem band_k (x1 : FVec Ideal S16384x512 .f32) (c : Fin 256) (kk : Fin 576) (h : Fin 8) (d : Fin 64) (hv : 512 ≤ 64 * c.val + kk.val) :
    val_main_v21 (F := Ideal) x1 (ix4 c kk h d) = x1 (ix2 ⟨64 * c.val + kk.val - 512, by omega⟩ (col h d)) := by
  have hc := c.isLt
  have hk := kk.isLt
  have hh := h.isLt
  have hd := d.isLt
  rw [val_main_v21_apply]
  unfold val_main_v20
  rw [gather_chunk _ _ c ⟨kk.val / 64, by omega⟩ ⟨kk.val % 64, by omega⟩ h d ⟨c.val + kk.val / 64, by omega⟩ (chunk_k _ _) _ (fun a => by
    match a with
    | ⟨0, _⟩ => show (((c.val * 576 + kk.val) * 8 + h.val) * 64 + d.val) / 294912 = c.val; omega
    | ⟨1, _⟩ => show (((c.val * 576 + kk.val) * 8 + h.val) * 64 + d.val) / 32768 % 9 = kk.val / 64; omega
    | ⟨2, _⟩ => show (((c.val * 576 + kk.val) * 8 + h.val) * 64 + d.val) / 512 % 64 = kk.val % 64; omega
    | ⟨3, _⟩ => show (((c.val * 576 + kk.val) * 8 + h.val) * 64 + d.val) / 64 % 8 = h.val; omega
    | ⟨4, _⟩ => show (((c.val * 576 + kk.val) * 8 + h.val) * 64 + d.val) % 64 = d.val; omega), val_main_v3_apply]
  unfold val_main_v2
  rw [padded _ _ ⟨64 * c.val + kk.val, by omega⟩ h d hv _ (fun a => by
    match a with
    | ⟨0, _⟩ => show ((((c.val + kk.val / 64) * 64 + kk.val % 64) * 8 + h.val) * 64 + d.val) / 512 = 64 * c.val + kk.val; omega
    | ⟨1, _⟩ => show ((((c.val + kk.val / 64) * 64 + kk.val % 64) * 8 + h.val) * 64 + d.val) / 64 % 8 = h.val; omega
    | ⟨2, _⟩ => show ((((c.val + kk.val / 64) * 64 + kk.val % 64) * 8 + h.val) * 64 + d.val) % 64 = d.val; omega), val_main_v1_apply]
  refine congrArg x1 (funext fun a => Fin.ext ?_)
  match a with
  | ⟨0, _⟩ => show (((64 * c.val + kk.val - 512) * 8 + h.val) * 64 + d.val) / 512 = 64 * c.val + kk.val - 512; omega
  | ⟨1, _⟩ => show (((64 * c.val + kk.val - 512) * 8 + h.val) * 64 + d.val) % 512 = 64 * h.val + d.val; omega

/-- Entry `kk` of the values' band of chunk `c`, inside the sequence. -/
theorem band_v (x2 : FVec Ideal S16384x512 .f32) (c : Fin 256) (kk : Fin 576) (h : Fin 8) (d : Fin 64) (hv : 512 ≤ 64 * c.val + kk.val) :
    val_main_v29 (F := Ideal) x2 (ix4 c kk h d) = x2 (ix2 ⟨64 * c.val + kk.val - 512, by omega⟩ (col h d)) := by
  have hc := c.isLt
  have hk := kk.isLt
  have hh := h.isLt
  have hd := d.isLt
  rw [val_main_v29_apply]
  unfold val_main_v28
  rw [gather_chunk _ _ c ⟨kk.val / 64, by omega⟩ ⟨kk.val % 64, by omega⟩ h d ⟨c.val + kk.val / 64, by omega⟩ (chunk_v _ _) _ (fun a => by
    match a with
    | ⟨0, _⟩ => show (((c.val * 576 + kk.val) * 8 + h.val) * 64 + d.val) / 294912 = c.val; omega
    | ⟨1, _⟩ => show (((c.val * 576 + kk.val) * 8 + h.val) * 64 + d.val) / 32768 % 9 = kk.val / 64; omega
    | ⟨2, _⟩ => show (((c.val * 576 + kk.val) * 8 + h.val) * 64 + d.val) / 512 % 64 = kk.val % 64; omega
    | ⟨3, _⟩ => show (((c.val * 576 + kk.val) * 8 + h.val) * 64 + d.val) / 64 % 8 = h.val; omega
    | ⟨4, _⟩ => show (((c.val * 576 + kk.val) * 8 + h.val) * 64 + d.val) % 64 = d.val; omega), val_main_v6_apply]
  unfold val_main_v5
  rw [padded _ _ ⟨64 * c.val + kk.val, by omega⟩ h d hv _ (fun a => by
    match a with
    | ⟨0, _⟩ => show ((((c.val + kk.val / 64) * 64 + kk.val % 64) * 8 + h.val) * 64 + d.val) / 512 = 64 * c.val + kk.val; omega
    | ⟨1, _⟩ => show ((((c.val + kk.val / 64) * 64 + kk.val % 64) * 8 + h.val) * 64 + d.val) / 64 % 8 = h.val; omega
    | ⟨2, _⟩ => show ((((c.val + kk.val / 64) * 64 + kk.val % 64) * 8 + h.val) * 64 + d.val) % 64 = d.val; omega), val_main_v4_apply]
  refine congrArg x2 (funext fun a => Fin.ext ?_)
  match a with
  | ⟨0, _⟩ => show (((64 * c.val + kk.val - 512) * 8 + h.val) * 64 + d.val) / 512 = 64 * c.val + kk.val - 512; omega
  | ⟨1, _⟩ => show (((64 * c.val + kk.val - 512) * 8 + h.val) * 64 + d.val) % 512 = 64 * h.val + d.val; omega

/-- The bias of head `h` between row `p` of a chunk and entry `kk` of its band. -/
theorem bias_apply (x3 : FVec Ideal S8x257 .f32) (c : Fin 256) (h : Fin 8) (p : Fin 64) (kk : Fin 576) :
    val_main_v66 (F := Ideal) x3 (ix4 c h p kk)
      = x3 (ix2 h ⟨Cert.Attn.distCol ((kk.val + 1024 - p.val) % 1024), Cert.Attn.distCol_lt _⟩) := by
  rw [val_main_v66_apply, val_main_v65_apply]
  unfold val_main_v51
  exact gather_bias x3 _ h p kk ⟨_, Cert.Attn.distCol_lt _⟩ (bias_col p kk) _ (fun a => by
    match a with
    | ⟨0, _⟩ => rfl
    | ⟨1, _⟩ => rfl
    | ⟨2, _⟩ => rfl)

/-- The score between row `p` of chunk `c` and entry `kk` of its band, in head `h`: `⊥` before the sequence. -/
def refS (q k : FVec Ideal S16384x512 .f32) (b : FVec Ideal S8x257 .f32) (c : Fin 256) (h : Fin 8) (p : Fin 64) (kk : Fin 576) : EReal :=
  if hv : 512 ≤ 64 * c.val + kk.val then
    (∑ d : Fin 64, q (ix2 ⟨64 * c.val + p.val, by omega⟩ (col h d)) * k (ix2 ⟨64 * c.val + kk.val - 512, by omega⟩ (col h d)))
        * Ideal.ofBits .f32 0x3E000000#32
      + b (ix2 h ⟨Cert.Attn.distCol ((kk.val + 1024 - p.val) % 1024), Cert.Attn.distCol_lt _⟩)
  else ⊥

theorem neg_inf : Ideal.ofBits .f32 0xFF800000#32 = ⊥ := by simp [Ideal.ofBits, Ideal.ieee]

theorem scores_apply (q k : FVec Ideal S16384x512 .f32) (b : FVec Ideal S8x257 .f32) (c : Fin 256) (h : Fin 8) (p : Fin 64) (kk : Fin 576) :
    val_main_v68 (F := Ideal) q k b (ix4 c h p kk) = refS q k b c h p kk := by
  have hbit : val_main_call4_v1 (F := Ideal) (ix4 c h p kk) = if 512 ≤ 64 * c.val + kk.val then 1#1 else 0#1 := by
    rw [val_main_call4_v1_apply, val_main_v64_apply]
    refine Eq.trans (congrArg _ ?_) (valid_bit c kk)
    funext a
    match a with
    | ⟨0, _⟩ => rfl
    | ⟨1, _⟩ => rfl
  rw [val_main_v68_apply, hbit, refS]
  by_cases hv : 512 ≤ 64 * c.val + kk.val
  · rw [dif_pos hv, if_pos hv]
    refine (if_pos rfl).trans ?_
    rw [val_main_v67_apply, bias_apply, val_main_v32_apply, val_main_v30_apply, val_main_v31_apply, val_main_cst_apply]
    have hq : ∀ d : Fin 64, val_main_v0 (F := Ideal) q (lidx_main_v30 (ix4 c h p kk) d) = q (ix2 ⟨64 * c.val + p.val, by omega⟩ (col h d)) := by
      intro d
      have hh := h.isLt
      have hd := d.isLt
      have hp := p.isLt
      rw [val_main_v0_apply]
      refine congrArg q (funext fun a => Fin.ext ?_)
      match a with
      | ⟨0, _⟩ => show (((c.val * 64 + p.val) * 8 + h.val) * 64 + d.val) / 512 = 64 * c.val + p.val; omega
      | ⟨1, _⟩ => show (((c.val * 64 + p.val) * 8 + h.val) * 64 + d.val) % 512 = 64 * h.val + d.val; omega
    have hk : ∀ d : Fin 64, val_main_v21 (F := Ideal) k (ridx_main_v30 (ix4 c h p kk) d)
        = k (ix2 ⟨64 * c.val + kk.val - 512, by omega⟩ (col h d)) := by
      intro d
      refine Eq.trans (congrArg _ ?_) (band_k k c kk h d hv)
      funext a
      match a with
      | ⟨0, _⟩ => rfl
      | ⟨1, _⟩ => rfl
      | ⟨2, _⟩ => rfl
      | ⟨3, _⟩ => rfl
    simp only [hq, hk]
    rfl
  · rw [dif_neg hv, if_neg hv]
    refine (if_neg (by decide)).trans ?_
    rw [val_main_call4_v2_apply, val_main_call4_v0_apply, val_main_cst_14_apply]
    exact neg_inf

/-- A row's maximum. -/
theorem max_apply (q k : FVec Ideal S16384x512 .f32) (b : FVec Ideal S8x257 .f32) (c : Fin 256) (h : Fin 8) (p : Fin 64) :
    val_main_v71 (F := Ideal) q k b (ix3 c h p) = Finset.univ.sup (refS q k b c h p) := by
  have e : val_main_v69 (F := Ideal) q k b (ix3 c h p) = Finset.univ.sup (refS q k b c h p) := by
    have gen : ∀ y : FVec Ideal S256x8x64x576 .f32, Host.reduce FloatOps.maximumf y (val_main_cst_15 (F := Ideal)) reducesTo_S256x8x64x576_S256x8x64_d3 h_S_ (ix3 c h p)
        = Finset.univ.fold max (Ideal.ofBits .f32 0xFF800000#32) fun kk : Fin 576 => y (ix4 c h p kk) := by
      intro y
      pointwise [val_main_cst_15]
    refine (gen _).trans ?_
    rw [neg_inf]
    simp only [scores_apply]
    rfl
  rw [val_main_v71_apply, e, val_main_v70_apply, val_main_cst_16_apply]
  show max (Ideal.ofBits .f32 0xFF800000#32) _ = _
  rw [neg_inf]
  exact max_eq_right bot_le

theorem exp_apply (q k : FVec Ideal S16384x512 .f32) (b : FVec Ideal S8x257 .f32) (c : Fin 256) (h : Fin 8) (p : Fin 64) (kk : Fin 576) :
    val_main_v75 (F := Ideal) q k b (ix4 c h p kk) = Ideal.exp (refS q k b c h p kk - Finset.univ.sup (refS q k b c h p)) := by
  rw [val_main_v75_apply, val_main_v74_apply, scores_apply, val_main_v73_apply, val_main_v72_apply]
  have e : idx_main_v72 (idx_main_v73 (ix4 c h p kk)) = ix3 c h p := by
    funext a
    match a with
    | ⟨0, _⟩ => rfl
    | ⟨1, _⟩ => rfl
    | ⟨2, _⟩ => rfl
  rw [e, max_apply]
  rfl

theorem weight_apply (q k : FVec Ideal S16384x512 .f32) (b : FVec Ideal S8x257 .f32) (c : Fin 256) (h : Fin 8) (p : Fin 64) (kk : Fin 576) :
    val_main_v79 (F := Ideal) q k b (ix4 c h p kk)
      = Ideal.div (Ideal.exp (refS q k b c h p kk - Finset.univ.sup (refS q k b c h p)))
          (∑ jj : Fin 576, Ideal.exp (refS q k b c h p jj - Finset.univ.sup (refS q k b c h p))) := by
  rw [val_main_v79_apply, exp_apply, val_main_v78_apply, val_main_v77_apply, val_main_v76_apply, val_main_cst_17_apply]
  have e : ∀ jj : Fin 576, idx_main_v76 (idx_main_v77 (idx_main_v78 (ix4 c h p kk))) jj = ix4 c h p jj := by
    intro jj
    funext a
    match a with
    | ⟨0, _⟩ => rfl
    | ⟨1, _⟩ => rfl
    | ⟨2, _⟩ => rfl
    | ⟨3, _⟩ => rfl
  simp only [e, exp_apply]
  have z : (FloatOps.ofBits .f32 0x00000000#32 : Ideal .f32) = (0 : EReal) := Ideal.ofBits_zero_f32
  rw [z]
  exact congrArg (Ideal.div _) (zero_add _)

/-- THE REFERENCE'S RESULT ARRAY at row `64 c + p`, head `h`, column `d`. -/
theorem result_apply (q k v : FVec Ideal S16384x512 .f32) (b : FVec Ideal S8x257 .f32) (i : S16384x512.Idx) (c : Fin 256) (h : Fin 8) (p d : Fin 64)
    (h0 : (i 0).val = 64 * c.val + p.val) (h1 : (i 1).val = 64 * h.val + d.val) :
    val_main_v83 (F := Ideal) q k v b i
      = ∑ kk : Fin 576, Ideal.div (Ideal.exp (refS q k b c h p kk - Finset.univ.sup (refS q k b c h p)))
          (∑ jj : Fin 576, Ideal.exp (refS q k b c h p jj - Finset.univ.sup (refS q k b c h p)))
          * val_main_v29 (F := Ideal) v (ix4 c kk h d) := by
  rw [val_main_v83_apply]
  show val_main_v82 (F := Ideal) q k v b i = _
  have hh := h.isLt
  have hd := d.isLt
  have hp := p.isLt
  have hl : ∀ kk : Fin 576, lidx_main_v80 (idx_main_v81 (idx_main_v82 i)) kk = ix4 c kk h d := by
    intro kk
    funext a
    match a with
    | ⟨0, _⟩ => exact Fin.ext (show ((i 0).val * 512 + (i 1).val) / 32768 = c.val by omega)
    | ⟨1, _⟩ => rfl
    | ⟨2, _⟩ => exact Fin.ext (show ((i 0).val * 512 + (i 1).val) / 64 % 8 = h.val by omega)
    | ⟨3, _⟩ => exact Fin.ext (show ((i 0).val * 512 + (i 1).val) % 64 = d.val by omega)
  have hr : ∀ kk : Fin 576, ridx_main_v80 (idx_main_v81 (idx_main_v82 i)) kk = ix4 c h p kk := by
    intro kk
    funext a
    match a with
    | ⟨0, _⟩ => exact Fin.ext (show ((i 0).val * 512 + (i 1).val) / 32768 = c.val by omega)
    | ⟨1, _⟩ => exact Fin.ext (show ((i 0).val * 512 + (i 1).val) / 64 % 8 = h.val by omega)
    | ⟨2, _⟩ => exact Fin.ext (show ((i 0).val * 512 + (i 1).val) / 512 % 64 = p.val by omega)
    | ⟨3, _⟩ => rfl
  rw [val_main_v82_apply, val_main_v81_apply, val_main_v80_apply]
  refine Finset.sum_congr rfl fun kk _ => ?_
  rw [hl, hr, weight_apply]
  exact mul_comm _ _

end Cert.ReferenceIdeal.Attn

end
-- ==== Proof.Equation.lean ====
/- The equation: the kernel's result array is the reference's, for finite queries, keys and biases. -/
module

public import proofs.«01_k».proof.Proof.HostTable
public import proofs.«01_k».proof.Proof.RefValue

@[expose] public section

set_option maxRecDepth 16384

noncomputable section

namespace Cert.Attn

open Idealize.ShloMosaic Idealize.ShloMosaic.TcCoe
open Cert.KernelIdeal (S16384x512 S8x257)
open Cert.KernelIdeal.Attn (winS winV lane headOf)
open Cert.KernelIdeal.Host (qScaled biasE kernelE)
open Cert.ReferenceIdeal.Attn (refS col)
open Cert.ReferenceIdeal.Read (val_main_v83 val_main_v29)

theorem eighth : Ideal.ofBits .f32 0x3E000000#32 = ((1 / 8 : ℝ) : EReal) := by
  simp [Ideal.ofBits, Ideal.ieee]
  rw [← EReal.coe_mul]
  norm_num

/-- A score inside the sequence is real where the queries, the keys and the biases are. -/
theorem refS_real (q k : FVec Ideal S16384x512 .f32) (b : FVec Ideal S8x257 .f32) (hq : ∀ i, ∃ r : ℝ, q i = (r : EReal))
    (hk : ∀ i, ∃ r : ℝ, k i = (r : EReal)) (hb : ∀ i, ∃ r : ℝ, b i = (r : EReal)) (c : Fin 256) (h : Fin 8) (p : Fin 64) (kk : Fin 576)
    (hv : 512 ≤ 64 * c.val + kk.val) : ∃ r : ℝ, refS q k b c h p kk = (r : EReal) := by
  choose q' hq using hq
  choose k' hk using hk
  choose b' hb using hb
  rw [refS, dif_pos hv, eighth]
  simp only [hq, hk, hb, ← EReal.coe_mul, ← coe_sum, ← EReal.coe_add]
  exact ⟨_, rfl⟩

/-- The bias under a column of the query's own band. -/
theorem biasE_band (b : FVec Ideal S8x257 .f32) (h : Fin 8) (r : Fin 256) (p : Fin 64) (a : Fin 4) (kk : Fin 576) (ha : a.val = r.val / 64)
    (hp : r.val % 64 = p.val) : biasE b h r (band a kk) = b (ix2 h ⟨distCol ((kk.val + 1024 - p.val) % 1024), distCol_lt _⟩) := by
  have hC : (band a kk).val = 64 * a.val + kk.val := rfl
  have hkk := kk.isLt
  rw [biasE, if_pos ⟨by omega, by omega⟩]
  have e : ((band a kk).val + 1024 - r.val) % 1024 = (kk.val + 1024 - p.val) % 1024 := by omega
  simp only [e]

/-- A window's score on the band of its query is the reference's score. -/
theorem winS_band (q k : FVec Ideal S16384x512 .f32) (b : FVec Ideal S8x257 .f32) (t : Fin 16384) (L : Fin 512) (a : Fin 4) (kk : Fin 576)
    (ha : a.val = t.val % 256 / 64) :
    winS (qScaled q) k (fun j => biasE b (j 0) (j 1) (j 2)) t L (band a kk)
      = refS q k b ⟨t.val / 64, by omega⟩ ⟨L.val / 64, by omega⟩ ⟨t.val % 64, by omega⟩ kk := by
  have hkk := kk.isLt
  have hC : (band a kk).val = 64 * a.val + kk.val := rfl
  rw [winS, refS]
  refine dite_congr (propext ⟨fun h => ?_, fun h => ?_⟩) (fun h => ?_) fun _ => rfl
  · show 512 ≤ 64 * (t.val / 64) + kk.val; omega
  · have h' : 512 ≤ 64 * (t.val / 64) + kk.val := h
    omega
  · have h' : 512 ≤ 64 * (t.val / 64) + kk.val := h
    refine congrArg₂ (· + ·) ?_ ?_
    · rw [eighth, sum_mul_real _ _ _ (by norm_num)]
      refine Finset.sum_congr rfl fun d _ => ?_
      rw [qScaled, eighth]
      have e1 : (ix2 t (lane L d) : S16384x512.Idx)
          = ix2 (⟨64 * (t.val / 64) + t.val % 64, by omega⟩ : Fin 16384) (col (⟨L.val / 64, by omega⟩ : Fin 8) d) := by
        refine congrArg₂ ix2 (Fin.ext ?_) (Fin.ext rfl)
        show t.val = 64 * (t.val / 64) + t.val % 64
        omega
      have e2 : (ix2 (⟨256 * (t.val / 256) + (band a kk).val - 512, by omega⟩ : Fin 16384) (lane L d) : S16384x512.Idx)
          = ix2 (⟨64 * (t.val / 64) + kk.val - 512, by omega⟩ : Fin 16384) (col (⟨L.val / 64, by omega⟩ : Fin 8) d) := by
        refine congrArg₂ ix2 (Fin.ext ?_) (Fin.ext rfl)
        show 256 * (t.val / 256) + (band a kk).val - 512 = 64 * (t.val / 64) + kk.val - 512
        omega
      rw [e1, e2]
      exact mul_right_comm _ _ _
    · exact biasE_band b _ _ _ a kk ha (by show t.val % 256 % 64 = t.val % 64; omega)

/-- A window's score off the band of its query is `⊥`. -/
theorem winS_off (q k : FVec Ideal S16384x512 .f32) (b : FVec Ideal S8x257 .f32) (t : Fin 16384) (L : Fin 512) (a : Fin 4) (C : Fin 768)
    (ha : a.val = t.val % 256 / 64) (hC : C ∉ Set.range (band a)) :
    winS (qScaled q) k (fun j => biasE b (j 0) (j 1) (j 2)) t L C = ⊥ := by
  rw [winS]
  split_ifs with h
  · refine Eq.trans (congrArg (_ + ·) (if_neg ?_)) (EReal.add_bot _)
    rintro ⟨h1, h2⟩
    have h1' : 64 * (t.val % 256 / 64) ≤ C.val := h1
    have h2' : C.val < 64 * (t.val % 256 / 64) + 576 := h2
    exact hC (mem_band a C (by omega) (by omega))
  · rfl

/-- THE EQUATION. -/
theorem kernel_eq_reference (q k v : FVec Ideal S16384x512 .f32) (b : FVec Ideal S8x257 .f32) (hq : ∀ i, ∃ r : ℝ, q i = (r : EReal))
    (hk : ∀ i, ∃ r : ℝ, k i = (r : EReal)) (hb : ∀ i, ∃ r : ℝ, b i = (r : EReal)) :
    kernelE q k v b = val_main_v83 (F := Ideal) q k v b := by
  funext i
  obtain ⟨t, ht⟩ : ∃ t : Fin 16384, t = i 0 := ⟨i 0, rfl⟩
  obtain ⟨L, hL⟩ : ∃ L : Fin 512, L = i 1 := ⟨i 1, rfl⟩
  have et : (i 0).val = t.val := by rw [ht]
  have eL : (i 1).val = L.val := by rw [hL]
  rw [Cert.ReferenceIdeal.Attn.result_apply q k v b i ⟨t.val / 64, by omega⟩ ⟨L.val / 64, by omega⟩ ⟨t.val % 64, by omega⟩ ⟨L.val % 64, by omega⟩
    (by show (i 0).val = 64 * (t.val / 64) + t.val % 64; omega) (by show (i 1).val = 64 * (L.val / 64) + L.val % 64; omega)]
  show wmean (winS (qScaled q) k (fun j => biasE b (j 0) (j 1) (j 2)) (i 0) (i 1)) (winV v (i 0) (i 1)) = _
  rw [← ht, ← hL]
  refine softmax_band ⟨t.val % 256 / 64, by omega⟩ _ _ _ _ (fun kk => winS_band q k b t L _ kk rfl) (fun C hC => winS_off q k b t L _ C rfl hC)
    (fun kk hne => ?_) (fun kk htop => ?_) ⟨⟨512 + t.val % 64, by omega⟩, ?_⟩
  · have hkk := kk.isLt
    have hv : 512 ≤ 64 * (t.val / 64) + kk.val := by
      by_contra hn
      exact hne (dif_neg hn)
    rw [Cert.ReferenceIdeal.Attn.band_v v _ kk _ _ hv, winV]
    refine congrArg v (congrArg₂ ix2 (Fin.ext ?_) (Fin.ext ?_))
    · show 256 * (t.val / 256 + (64 * (t.val % 256 / 64) + kk.val) / 256 - 2) + (64 * (t.val % 256 / 64) + kk.val) % 256
        = 64 * (t.val / 64) + kk.val - 512
      omega
    · show L.val = 64 * (L.val / 64) + L.val % 64
      omega
  · by_cases hv : 512 ≤ 64 * (t.val / 64) + kk.val
    · obtain ⟨r, hr⟩ := refS_real q k b hq hk hb ⟨t.val / 64, by omega⟩ ⟨L.val / 64, by omega⟩ ⟨t.val % 64, by omega⟩ kk hv
      rw [hr] at htop
      exact EReal.coe_ne_top _ htop
    · exact bot_ne_top ((dif_neg hv).symm.trans htop)
  · obtain ⟨r, hr⟩ := refS_real q k b hq hk hb ⟨t.val / 64, by omega⟩ ⟨L.val / 64, by omega⟩ ⟨t.val % 64, by omega⟩ ⟨512 + t.val % 64, by omega⟩
      (by show 512 ≤ 64 * (t.val / 64) + (512 + t.val % 64); omega)
    rw [hr]
    exact EReal.coe_ne_bot _

end Cert.Attn

end
-- ==== Proof.Attention.lean ====
/- The band attention's claims, assembled: the reference's frame, the precondition read at an index, the equation of the two runs. -/
module

public import proofs.«01_k».proof.Defs
public import proofs.«01_k».proof.Proof.Gen.Pre_finite
public import proofs.«01_k».proof.Proof.KernelRun
public import proofs.«01_k».proof.Proof.Equation

@[expose] public section

noncomputable section

namespace Cert.Attn

open Idealize.ShloMosaic Idealize.ShloMosaic.TcCoe Idealize.SL.Sem

/-- The reference ends with its arguments unchanged and every counter at zero. -/
theorem reference_frame (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r =>
      (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0) :=
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- A number whose absolute value is below `⊤` is real. -/
theorem real_of_abs_lt {s : Shape} (x : FVec Ideal s .f32) (y : FVec Ideal s .f32) (hy : ∀ i, y i = Ideal.ofBits .f32 0x7F800000#32)
    (h : cmpf .olt (Host.absf x) y = fun _ => 1#1) (i : s.Idx) : ∃ r : ℝ, x i = (r : EReal) := by
  have h' : Ideal.cmp .olt (max (x i) (-x i)) (y i) = 1#1 := congrFun h i
  have hinf : Ideal.ofBits .f32 0x7F800000#32 = ⊤ := by simp [Ideal.ofBits, Ideal.ieee]
  rw [hy, hinf] at h'
  have hlt : max (x i) (-x i) < ⊤ := by
    by_contra hn
    simp only [Ideal.cmp, hn, decide_false] at h'
    exact absurd h' (by decide)
  have h1 : x i ≠ ⊤ := fun e => by rw [e] at hlt; simp at hlt
  have h2 : x i ≠ ⊥ := fun e => by rw [e] at hlt; simp at hlt
  exact ⟨(x i).toReal, (EReal.coe_toReal h1 h2).symm⟩

/-- KERNEL AND REFERENCE COMPUTE THE SAME ARRAY, from finite queries, keys and biases. -/
theorem algebraic : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hpre hargs
  refine ⟨fun c => Cert.KernelIdeal.Host.kernelE (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.Host.run m g, ?_⟩
  refine (θ_run Cert.ReferenceIdeal.defs _ _).mono (fun r h c => ⟨?_, (h c).2⟩) (Cert.ReferenceIdeal.Value.run (F := Ideal) m' g')
  obtain ⟨p0, p1, p3⟩ := hpre c
  obtain ⟨e0, e1, e2, e3⟩ := hargs c
  refine (h c).1.trans ((Cert.ReferenceIdeal.Read.val_main_v83_eq m' c).trans ?_)
  refine (congr (congr (congr (congrArg _ e0) e1) e2) e3).trans ?_
  exact (kernel_eq_reference _ _ _ _ (real_of_abs_lt _ _ (fun _ => rfl) p0) (real_of_abs_lt _ _ (fun _ => rfl) p1)
    (real_of_abs_lt _ _ (fun _ => rfl) p3)).symm

end Cert.Attn

end
-- ==== Proof.Swiglu.lean ====
/- The SwiGLU network of one row over the extended reals, and its sum over the hidden columns cut into the three
   chunks 1024, 1024 and 768. -/
module

public import Idealize.ShloMosaic.Lib.Pointwise
public import Idealize.ShloMosaic.PureOps.Ideal

@[expose] public section

noncomputable section

namespace Cert.Swiglu

open Idealize.ShloMosaic

/-- The gated activation: `g / (1 + e⁻ᵍ) · u`. -/
def act (g u : EReal) : EReal := Ideal.div g (1 + Ideal.exp (-g)) * u

/-- One hidden column of a row `x`. -/
def hid (x wg wu : Fin 1024 → EReal) : EReal := act (∑ k, x k * wg k) (∑ k, x k * wu k)

/-- One output column of a row `x`. -/
def glu (x : Fin 1024 → EReal) (wg wu : Fin 1024 → Fin 2816 → EReal) (wd : Fin 2816 → EReal) : EReal :=
  ∑ f : Fin 2816, hid x (fun k => wg k f) (fun k => wu k f) * wd f

/-- A sum over the hidden columns, chunk by chunk. -/
theorem sum_chunks (h : Fin 2816 → EReal) :
    ∑ f : Fin 1024, h ⟨f.val, by omega⟩ + ∑ f : Fin 1024, h ⟨1024 + f.val, by omega⟩ + ∑ f : Fin 768, h ⟨2048 + f.val, by omega⟩
      = ∑ f, h f := by
  rw [Fin.sum_univ_two_halves 2048 768 rfl h, Fin.sum_univ_two_halves 1024 1024 rfl fun f : Fin 2048 => h ⟨f.val, by omega⟩]

/-- The quotient by `1 + e⁻ᵍ` is the product with the logistic function: that denominator is never zero. -/
theorem div_eq_mul_logistic (g : EReal) : Ideal.div g (1 + Ideal.exp (-g)) = g * Ideal.div 1 (1 + Ideal.exp (-g)) := by
  have h0 : (0 : EReal) ≤ Ideal.exp (-g) := by
    rcases (-g) with _ | _ | r
    · exact le_refl _
    · exact le_top
    · exact EReal.coe_nonneg.mpr (Real.exp_pos r).le
  have h : (1 : EReal) + Ideal.exp (-g) ≠ 0 := fun e => by
    have h1 : (1 : EReal) ≤ 1 + Ideal.exp (-g) := by simpa using add_le_add_right h0 (1 : EReal)
    rw [e] at h1
    exact absurd h1 (by simp)
  simp only [Ideal.div, if_neg h, one_mul]

end Cert.Swiglu

end
-- ==== Proof.FfnBlock.lean ====
/- One grid point of the dense feed-forward network at the ideal numbers. -/
module

public import proofs.«01_k».proof.Proof.Gen.Kernel2Ideal.Value
public import proofs.«01_k».proof.Proof.Swiglu
public import Idealize.ShloMosaic.Lib.Pointwise
public import Idealize.ShloMosaic.Lib.Pipeline.ValueKit
public import Idealize.ShloMosaic.Lib.Pipeline.ValueKit.Tiles

@[expose] public section

set_option maxRecDepth 16384

noncomputable section

namespace Cert.Kernel2Ideal.Ffn

open Idealize.ShloMosaic Idealize.ShloMosaic.TcCoe Idealize.SL.Sem
open Cert.Kernel2Ideal Cert.Kernel2Ideal.Gen Cert.Swiglu

theorem one_bits : Ideal.ofBits .f32 0x3F800000#32 = 1 := by
  simp [Ideal.ofBits, Ideal.ieee]; rw [← EReal.coe_mul]; norm_num

/-- The first chunk of hidden columns. -/
theorem pay3_apply (X : Vec Ideal S512x1024 .bf16) (Wg Wu Wd : Vec Ideal S1024x1024 .f32) (r : Fin 512) (j : Fin 1024) :
    k0_pay3 (F := Ideal) X Wg Wu Wd (ix2 r j)
      = ∑ f : Fin 1024, hid (fun k => X (ix2 r k)) (fun k => Wg (ix2 k f)) (fun k => Wu (ix2 k f)) * Wd (ix2 f j) := by
  pointwise [k0_pay3, k0_pay2]
  simp only [one_bits, zero_sub]
  rfl

/-- The second chunk, added to the first. -/
theorem pay5_apply (X : Vec Ideal S512x1024 .bf16) (Y : FVec Ideal S512x1024 .f32) (Wg Wu Wd : Vec Ideal S1024x1024 .f32) (r : Fin 512) (j : Fin 1024) :
    k0_pay5 (F := Ideal) (k0_pay2 X) Y (k0_pay4 Wg) Wu Wd (ix2 r j)
      = Y (ix2 r j) + ∑ f : Fin 1024, hid (fun k => X (ix2 r k)) (fun k => Wg (ix2 k f)) (fun k => Wu (ix2 k f)) * Wd (ix2 f j) := by
  pointwise [k0_pay5, k0_pay4, k0_pay2]
  simp only [one_bits, zero_sub]
  rfl

/-- The third chunk, added to the others and to the residual. -/
theorem pay1_apply (R : Vec Ideal S512x1024 .f32) (X : Vec Ideal S512x1024 .bf16) (Y : FVec Ideal S512x1024 .f32) (Wg Wu : Vec Ideal S1024x768 .f32)
    (Wd : Vec Ideal S768x1024 .f32) (r : Fin 512) (j : Fin 1024) :
    k0_pay1 (F := Ideal) R (k0_pay2 X) Y (k0_pay6 Wg) (k0_pay7 Wu) Wd (ix2 r j)
      = R (ix2 r j) + (Y (ix2 r j) + ∑ f : Fin 768, hid (fun k => X (ix2 r k)) (fun k => Wg (ix2 k f)) (fun k => Wu (ix2 k f)) * Wd (ix2 f j)) := by
  pointwise [k0_pay1, k0_pay6, k0_pay7, k0_pay2]
  simp only [one_bits, zero_sub]
  rfl

/-- A whole block read back. -/
theorem ld_whole {φ : EltTy} (x : Vec Ideal S512x1024 φ) {n : Fin 2 → Nat} (h) (y) (r : Fin 512) (j : Fin 1024)
    (h0 : (y 0).val = r.val) (h1 : (y 1).val = j.val) : View.ld x (Rect.unit (s := S512x1024) ![0, 0] n h) y = x (ix2 r j) :=
  View.ld_unit_apply_of x _ _ _ _ (ix2 r j) fun a => by
    match a with
    | ⟨0, _⟩ => exact h0.symm.trans (Nat.zero_add _).symm
    | ⟨1, _⟩ => exact h1.symm.trans (Nat.zero_add _).symm

/-- A weight block without its leading axis. -/
theorem up_apply (x : Vec Ideal S1x1024x2816 .f32) (k : Fin 1024) (f : Fin 2816) :
    shapeCast S1024x2816 (View.ld x r0_1) squeezes_S1x1024x2816_S1024x2816.numel_eq (ix2 k f) = x (ix3 0 k f) := by
  pointwise []

theorem down_apply (x : Vec Ideal S1x2816x1024 .f32) (f : Fin 2816) (j : Fin 1024) :
    shapeCast S2816x1024 (View.ld x r0_3) squeezes_S1x2816x1024_S2816x1024.numel_eq (ix2 f j) = x (ix3 0 f j) := by
  pointwise []

/-- A window of columns of a weight block. -/
theorem up_cols (x : Vec Ideal S1x1024x2816 .f32) {n : Fin 2 → Nat} (o : Nat) (h) (k : Fin 1024) (y) (f : Fin 2816)
    (h0 : (y 0).val = k.val) (h1 : f.val = o + (y 1).val) :
    View.ld (shapeCast S1024x2816 (View.ld x r0_1) squeezes_S1x1024x2816_S1024x2816.numel_eq) (Rect.unit (s := S1024x2816) ![0, o] n h) y
      = x (ix3 0 k f) :=
  (View.ld_unit_apply_of _ _ _ _ _ (ix2 k f) fun a => by
    match a with
    | ⟨0, _⟩ => exact h0.symm.trans (Nat.zero_add _).symm
    | ⟨1, _⟩ => exact h1).trans (up_apply x k f)

/-- A window of rows of a weight block. -/
theorem down_rows (x : Vec Ideal S1x2816x1024 .f32) {n : Fin 2 → Nat} (o : Nat) (h) (f : Fin 2816) (y) (j : Fin 1024)
    (h0 : f.val = o + (y 0).val) (h1 : (y 1).val = j.val) :
    View.ld (shapeCast S2816x1024 (View.ld x r0_3) squeezes_S1x2816x1024_S2816x1024.numel_eq) (Rect.unit (s := S2816x1024) ![o, 0] n h) y
      = x (ix3 0 f j) :=
  (View.ld_unit_apply_of _ _ _ _ _ (ix2 f j) fun a => by
    match a with
    | ⟨0, _⟩ => exact h0
    | ⟨1, _⟩ => exact h1.symm.trans (Nat.zero_add _).symm).trans (down_apply x f j)

/-- THE STORED BLOCK: the residual plus the network, row by row. -/
theorem block_apply (X : Vec Ideal S512x1024 .bf16) (R : Vec Ideal S512x1024 .f32) (Wg Wu : Vec Ideal S1x1024x2816 .f32)
    (Wd : Vec Ideal S1x2816x1024 .f32) (r : Fin 512) (j : Fin 1024) :
    out0_5 (F := Ideal) X R Wg Wu Wd (ix2 r j)
      = R (ix2 r j) + glu (fun k => X (ix2 r k)) (fun k f => Wg (ix3 0 k f)) (fun k f => Wu (ix3 0 k f)) (fun f => Wd (ix3 0 f j)) := by
  unfold out0_5 k0_pay8
  canon_tiles x e
  idx_vars x
  obtain rfl : r = x0 := Fin.ext e0
  obtain rfl : j = x1 := Fin.ext e1
  rw [pay1_apply, pay5_apply, pay3_apply]
  have u0 := fun (w : Vec Ideal S1x1024x2816 .f32) (k : Fin 1024) (f : Fin 1024) =>
    up_cols w 0 inb_S1024x2816_S1024x1024_0_0 k (ix2 k f) ⟨f.val, by omega⟩ rfl (Nat.zero_add _).symm
  have u1 := fun (w : Vec Ideal S1x1024x2816 .f32) (k : Fin 1024) (f : Fin 1024) =>
    up_cols w 1024 inb_S1024x2816_S1024x1024_0_1024 k (ix2 k f) ⟨1024 + f.val, by omega⟩ rfl rfl
  have u2 := fun (w : Vec Ideal S1x1024x2816 .f32) (k : Fin 1024) (f : Fin 768) =>
    up_cols w 2048 inb_S1024x2816_S1024x768_0_2048 k (ix2 k f) ⟨2048 + f.val, by omega⟩ rfl rfl
  have d0 := fun (w : Vec Ideal S1x2816x1024 .f32) (f : Fin 1024) =>
    down_rows w 0 inb_S2816x1024_S1024x1024_0_0 ⟨f.val, by omega⟩ (ix2 f j) j (Nat.zero_add _).symm rfl
  have d1 := fun (w : Vec Ideal S1x2816x1024 .f32) (f : Fin 1024) =>
    down_rows w 1024 inb_S2816x1024_S1024x1024_1024_0 ⟨1024 + f.val, by omega⟩ (ix2 f j) j rfl rfl
  have d2 := fun (w : Vec Ideal S1x2816x1024 .f32) (f : Fin 768) =>
    down_rows w 2048 inb_S2816x1024_S768x1024_2048_0 ⟨2048 + f.val, by omega⟩ (ix2 f j) j rfl rfl
  have wX := fun k : Fin 1024 => ld_whole X inb_S512x1024_S512x1024_0_0 (ix2 r k) r k rfl rfl
  have wR := ld_whole R inb_S512x1024_S512x1024_0_0 (ix2 r j) r j rfl rfl
  simp only [wX, wR, u0, u1, u2, d0, d1, d2]
  rw [glu, ← sum_chunks]

end Cert.Kernel2Ideal.Ffn

end
-- ==== Proof.FfnValue.lean ====
/- The dense feed-forward network: the kernel's result array, the reference's, and their equation. -/
module

public import proofs.«01_k».proof.Defs
public import proofs.«01_k».proof.Proof.FfnBlock
public import proofs.«01_k».proof.Proof.Gen.Reference2Ideal
public import proofs.«01_k».proof.Proof.Gen.Reference2Ideal.Run
public import proofs.«01_k».proof.Proof.Gen.Reference2Ideal.Read

@[expose] public section

set_option maxRecDepth 16384

noncomputable section

namespace Cert.Kernel2Ideal.Ffn

open Idealize.ShloMosaic Idealize.ShloMosaic.TcCoe Idealize.SL.Sem
open Cert.Kernel2Ideal Cert.Kernel2Ideal.Gen Cert.Swiglu

/-- The windows' block indices at a grid point. -/
theorem idx0 : ∀ t : Fin cfg0.N, win0_0.index t = ![t.val, 0] ∧ win0_1.index t = ![t.val, 0] ∧ win0_2.index t = ![0, 0, 0]
    ∧ win0_3.index t = ![0, 0, 0] ∧ win0_4.index t = ![0, 0, 0] ∧ win0_5.index t = ![t.val, 0] :=
  (by decide +kernel : ∀ t : Fin grid0.N, _)

/-- The result as one function of the arguments. -/
def result (h x : FVec Ideal S16384x1024 .f32) (wg wu : FVec Ideal S2x1024x2816 .f32) (wd : FVec Ideal S2x2816x1024 .f32) :
    FVec Ideal S16384x1024 .f32 := fun i =>
  x i + glu (fun k => h (ix2 (i 0) k)) (fun k f => wg (ix3 0 k f)) (fun k f => wu (ix3 0 k f)) (fun f => wd (ix3 0 f (i 1)))

variable (m : (ℓ : Loc nD τ sig) → Buf (Elt Ideal) ℓ) (ρ : Dev nD → PrngReg)

/-- The region is entered with the cast rows, which are the argument's. -/
theorem V_rows (c : Dev nD) : V (F := Ideal) m c main_v0 = m ((c : Thread nD τ).loc main_arg0) := by
  dsimp only [V]
  after_results
  rfl

/-- THE RESULT ARRAY. -/
theorem array (c : Dev nD) : (dats (F := Ideal) m 0 c).arrAt 5 cfg0.N
    = result (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats (F := Ideal) m 0 c).arrAt_eq_of_covers 5 _ (by decide +kernel) fun t hf y => ?_
  blk_simp
  rw [after0_5]
  obtain ⟨e0, e1, e2, e3, e4, e5⟩ := idx0 t
  have ht : t.val < 32 := t.isLt
  obtain ⟨r, j, rfl⟩ : ∃ (r : Fin 512) (j : Fin 1024), y = ix2 r j := ⟨y 0, y 1, eq_ix2 y⟩
  obtain ⟨T, hT⟩ : ∃ T : Fin 16384, T.val = 512 * t.val + r.val := ⟨⟨512 * t.val + r.val, by omega⟩, rfl⟩
  have hI : (win0_5.blk t).view.emb (ix2 r j) = ix2 T j := by blk_ext [e5, hT]
  have b0 : ∀ k, iblk m c 0 t (ix2 r k) = V m c main_v0 (ix2 T k) := fun k => by blk_ext [iblk, e0, hT]
  have b1 : iblk m c 1 t (ix2 r j) = V m c main_arg1 (ix2 T j) := by blk_ext [iblk, e1, hT]
  have b2 : ∀ k f, iblk m c 2 t (ix3 0 k f) = V m c main_arg2 (ix3 0 k f) := fun k f => by blk_ext [iblk, e2]
  have b3 : ∀ k f, iblk m c 3 t (ix3 0 k f) = V m c main_arg3 (ix3 0 k f) := fun k f => by blk_ext [iblk, e3]
  have b4 : ∀ f, iblk m c 4 t (ix3 0 f j) = V m c main_arg4 (ix3 0 f j) := fun f => by blk_ext [iblk, e4]
  refine (block_apply _ _ _ _ _ r j).trans ?_
  simp only [b0, b1, b2, b3, b4]
  rw [V_rows, V_main_arg1, V_main_arg2, V_main_arg3, V_main_arg4]
  exact (congrArg (result (m ((c : Thread nD τ).loc main_arg0)) (m ((c : Thread nD τ).loc main_arg1)) (m ((c : Thread nD τ).loc main_arg2))
    (m ((c : Thread nD τ).loc main_arg3)) (m ((c : Thread nD τ).loc main_arg4))) hI).symm

/-- The kernel's run. -/
theorem run : θ_run (defs (F := Ideal)) (onTc (τ := τ) (main (F := Ideal))) ⟨m, fun _ => 0, ρ⟩ fun r => ∀ c : Dev nD,
      r.2.mem ((c.tc : Thread nD τ).loc main_v1) = result (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run (defs (F := Ideal)) _ _).mono (fun _ h c => ⟨(h c).1.trans (array m c), (h c).2⟩) (Value.run_blocks m ρ)

end Cert.Kernel2Ideal.Ffn

namespace Cert.Reference2Ideal.Ffn

open Idealize.ShloMosaic Idealize.ShloMosaic.TcCoe Idealize.SL.Sem
open Cert.Reference2Ideal Cert.Reference2Ideal.Read Cert.Swiglu

/-- The first layer's weights, sliced and without their leading axis. -/
theorem up_slice (x : FVec Ideal S2x1024x2816 .f32) (k : Fin 1024) (f : Fin 2816) : val_main_v1 (F := Ideal) x (ix2 k f) = x (ix3 0 k f) := by
  pointwise [val_main_v1, val_main_v0]

theorem up_slice' (x : FVec Ideal S2x1024x2816 .f32) (k : Fin 1024) (f : Fin 2816) : val_main_v3 (F := Ideal) x (ix2 k f) = x (ix3 0 k f) := by
  pointwise [val_main_v3, val_main_v2]

theorem down_slice (x : FVec Ideal S2x2816x1024 .f32) (f : Fin 2816) (j : Fin 1024) : val_main_v5 (F := Ideal) x (ix2 f j) = x (ix3 0 f j) := by
  pointwise [val_main_v5, val_main_v4]

/-- The reference's gated hidden column. -/
theorem hidden (h : FVec Ideal S16384x1024 .f32) (wg wu : FVec Ideal S2x1024x2816 .f32) (t : Fin 16384) (f : Fin 2816) :
    val_main_v9 (F := Ideal) h wg wu (ix2 t f) = hid (fun k => h (ix2 t k)) (fun k => wg (ix3 0 k f)) (fun k => wu (ix3 0 k f)) := by
  have eg : val_main_v6 (F := Ideal) h wg (ix2 t f) = ∑ k, h (ix2 t k) * wg (ix3 0 k f) :=
    (val_main_v6_apply h wg (ix2 t f)).trans (Finset.sum_congr rfl fun k _ => congrArg₂ (· * ·)
      (congrArg h (eq_ix2 _)) ((congrArg _ (eq_ix2 _)).trans (up_slice wg k f)))
  have eu : val_main_v8 (F := Ideal) h wu (ix2 t f) = ∑ k, h (ix2 t k) * wu (ix3 0 k f) :=
    (val_main_v8_apply h wu (ix2 t f)).trans (Finset.sum_congr rfl fun k _ => congrArg₂ (· * ·)
      (congrArg h (eq_ix2 _)) ((congrArg _ (eq_ix2 _)).trans (up_slice' wu k f)))
  have one : Ideal.ofBits .f32 0x3F800000#32 = 1 := Cert.Kernel2Ideal.Ffn.one_bits
  rw [hid, act, div_eq_mul_logistic, ← eg, ← eu, ← one]
  rfl

/-- The reference's result array. -/
theorem value (h x : FVec Ideal S16384x1024 .f32) (wg wu : FVec Ideal S2x1024x2816 .f32) (wd : FVec Ideal S2x2816x1024 .f32) :
    val_main_v11 (F := Ideal) h x wg wu wd = Cert.Kernel2Ideal.Ffn.result h x wg wu wd := by
  funext i
  obtain ⟨t, j, rfl⟩ : ∃ (t : Fin 16384) (j : Fin 1024), i = ix2 t j := ⟨i 0, i 1, eq_ix2 i⟩
  show x (ix2 t j) + val_main_v10 (F := Ideal) h wg wu wd (ix2 t j) = _
  refine congrArg (x (ix2 t j) + ·) ((val_main_v10_apply h wg wu wd _).trans ?_)
  exact Finset.sum_congr rfl fun f _ => congrArg₂ (· * ·) ((congrArg _ (eq_ix2 _)).trans (hidden h wg wu t f))
    ((congrArg _ (eq_ix2 _)).trans (down_slice wd f j))

/-- The reference ends with its arguments unchanged and every counter at zero. -/
theorem frame (m : (ℓ : Loc nD τ sig) → Buf (Elt Ideal) ℓ) (ρ : Dev nD → PrngReg) :
    θ_run (defs (F := Ideal)) (onTc (τ := τ) (main (F := Ideal))) ⟨m, fun _ => 0, ρ⟩ (fun r => (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4))
      ∧ r.2.sem = fun _ => 0) :=
  (θ_run defs _ _).mono (fun r h => ⟨fun c => (h c).2, Idealize.ShloMosaic.sem_eq_zero_of_no_sems (by decide) r.2⟩)
    (Value.run (F := Ideal) m ρ)

end Cert.Reference2Ideal.Ffn

namespace Cert.Swiglu

open Idealize.ShloMosaic Idealize.ShloMosaic.TcCoe Idealize.SL.Sem

/-- KERNEL AND REFERENCE COMPUTE THE SAME ARRAY, from any arguments. -/
theorem ffn_algebraic : Cert.algebraic_Kernel2Ideal_Reference2Ideal (hKernel2Ideal := Cert.Kernel2Ideal.Gen.facts)
    (hReference2Ideal := Cert.Reference2Ideal.Gen.facts) := by
  intro m g m' g' _ hargs
  refine ⟨_, Cert.Kernel2Ideal.Ffn.run m g, ?_⟩
  refine (θ_run Cert.Reference2Ideal.defs _ _).mono (fun r h c => ⟨?_, (h c).2⟩) (Cert.Reference2Ideal.Value.run (F := Ideal) m' g')
  obtain ⟨e0, e1, e2, e3, e4⟩ := hargs c
  refine (h c).1.trans ((Cert.Reference2Ideal.Read.val_main_v11_eq _ _ _ _ _).trans ?_)
  refine (Cert.Reference2Ideal.Ffn.value _ _ _ _ _).trans ?_
  exact congr (congr (congr (congr (congrArg _ e0) e1) e2) e3) e4

end Cert.Swiglu

end
-- ==== Proof.MoeSpec.lean ====
/- The expert call's result as one function of its arguments: block by block, the gated feed-forward network of the
   block's expert, and zero in the blocks that are not in use. -/
module

public import proofs.«01_k».proof.Kernel3Ideal
public import proofs.«01_k».proof.Proof.Swiglu
public import Idealize.ShloMosaic.Lib.Pointwise

@[expose] public section

noncomputable section

namespace Cert.Kernel3Ideal.Moe

open Idealize.ShloMosaic Cert.Swiglu

/-- A row's block of tokens. -/
def blockOf (T : Fin 36864) : Fin 72 := ⟨T.val / 512, by omega⟩

/-- An expert's number, read off a word. -/
def expertOf (w : BitVec 32) : Fin 8 := ⟨w.toNat % 8, Nat.mod_lt _ (by decide)⟩

/-- THE RESULT: tokens `xs`, the blocks' experts `e`, the number of blocks in use `n`, and the experts' weights. -/
def result (xs : FVec Ideal S36864x1024 .f32) (e : IVec S72 32) (n : IVec S1 32)
    (wg wu : FVec Ideal S2x8x1024x2816 .f32) (wd : FVec Ideal S2x8x2816x1024 .f32) : FVec Ideal S36864x1024 .f32 := fun i =>
  if (blockOf (i 0)).val < (n (ix1 (0 : Fin 1))).toNat then
    glu (fun k => xs (ix2 (i 0) k)) (fun k f => wg (ix4 0 (expertOf (e (ix1 (blockOf (i 0))))) k f))
      (fun k f => wu (ix4 0 (expertOf (e (ix1 (blockOf (i 0))))) k f)) (fun f => wd (ix4 0 (expertOf (e (ix1 (blockOf (i 0))))) f (i 1)))
  else 0

/-- Below `2 ^ 31` a block's number is below a count as words are. -/
theorem slt_block (b : Nat) (hb : b < 72) (n : BitVec 32) (hn : n.toNat < 2 ^ 31) :
    BitVec.slt (BitVec.ofNat 32 b) n = decide (b < n.toNat) := by
  have ha : (BitVec.ofNat 32 b).toNat = b := by rw [BitVec.toNat_ofNat]; omega
  have hai : (BitVec.ofNat 32 b).toInt = b := by rw [BitVec.toInt_eq_toNat_cond, ha, if_pos (by omega)]
  have hni : n.toInt = n.toNat := by rw [BitVec.toInt_eq_toNat_cond, if_pos (by omega)]
  rw [BitVec.slt, hai, hni]
  exact decide_eq_decide.2 Int.ofNat_lt

end Cert.Kernel3Ideal.Moe

end
-- ==== Proof.MoeKit.lean ====
/- The expert call, launched: what its grid runs on, for every contents of its two tables.

   The tables are read off the memory the program starts from; a point's blocks are stated at them, and the
   program's own condition on the tables (every block they name lies inside its array) is a hypothesis here. -/
module

public import proofs.«01_k».proof.Proof.Gen.Kernel3Ideal.Launch
public import proofs.«01_k».proof.Proof.Gen.Kernel3Ideal.Skeleton
public import Idealize.ShloMosaic.Lib.Pipeline.FrameBody
public import Idealize.ShloMosaic.Lib.Pipeline.Kit
public import Idealize.ShloMosaic.Lib.Ring
public import Idealize.ShloMosaic.Lib.Tactic
public import Idealize.ShloMosaic.Lib.WordCmp

@[expose] public section

set_option maxRecDepth 16384

noncomputable section

namespace Cert.Kernel3Ideal.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel3Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The launch -/

/-- What core `c`'s buffers hold when the call starts: the memory the program starts from. -/
abbrev V (c : Dev nD) (b : Ref sig .tc) : Buf (Elt F) ((c : Thread nD τ).loc b) := m ((c : Thread nD τ).loc b)

set_option maxHeartbeats 800000 in
/-- The program is the call alone. -/
theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

/-! ## The two tables -/

/-- The tables' contents: block by block its expert, and the number of blocks in use. -/
def tbl : pre0.Contents (Elt F) := fun j => V m (0 : Dev nD) (pre0.ref j)

/-- There is one device, so every device's tables are these. -/
theorem V_pre (c : Dev nD) (j : Fin 2) : V m c (pre0.ref j) = tbl m j := by
  obtain rfl : c = 0 := Subsingleton.elim _ _; rfl

/-- Every block the tables name lies inside its array. -/
abbrev Ok : Prop := ok0 (F := F) (tbl m)

/-- The tables, admitted; and the call at them. -/
abbrev adm (hO : Ok m) : (pcfg0 (F := F)).Adm := ⟨tbl m, hO⟩
abbrev cfgM (hO : Ok m) : Pipeline.Cfg sig Λ₀ := cfg0 (adm m hO)

/-- A table as the body is handed it: its whole buffer. -/
abbrev tbM0 : Memref sig .tc .smem S72 .i32 := Memref.whole main_arg1
abbrev tbM1 : Memref sig .tc .smem S1 .i32 := Memref.whole main_arg2
abbrev htbM0 : tbM0.IsWhole := Memref.isWhole_whole _
abbrev htbM1 : tbM1.IsWhole := Memref.isWhole_whole _

/-- A table held at half the full share (the other half stays with the call): read, never written. -/
abbrev TbBuf (c : Dev nD) {S : Shape} {e : EltTy} (M : Memref sig .tc .smem S e) : Type := Buf (Elt F) (M.view.loc (c : Thread nD τ))
abbrev tbPt (c : Dev nD) {S : Shape} {e : EltTy} (M : Memref sig .tc .smem S e) (f : TbBuf (F := F) c M) : sProp 𝕄 :=
  M.view.loc (c : Thread nD τ) ↦{fullShare.right} f

/-- The halves a point is given, table by table. -/
theorem PhiT_eq (c : Dev nD) : (Pipeline.ΦT pre0 (tbl m) c : sProp 𝕄) = iprop(tbPt c tbM0 (tbl m 0) ∗ tbPt c tbM1 (tbl m 1)) := by
  unfold Pipeline.ΦT Pipeline.prefHeld
  rw [show (Finset.univ : Finset (Fin 2)) = insert (0 : Fin 2) {(1 : Fin 2)} from by decide,
    bigSep_insert (by decide), bigSep_singleton]
  rfl

/-! ## The blocks -/

/-- Window `w`'s block at point `t`. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- The body finds window 0's block in its buffer at every point, fetched there or kept. -/
theorem before_0 (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The body finds window 1's block in its buffer at every point, fetched there or kept. -/
theorem before_1 (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- The body finds window 2's block in its buffer at every point, fetched there or kept. -/
theorem before_2 (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- The body finds window 3's block in its buffer at every point, fetched there or kept. -/
theorem before_3 (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- A run that ends with every array as the call computes it, and every other buffer untouched, leaves the
    arguments as they were. -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
        r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).1 0).trans (((dats 0 c).arrAt_in 0 rfl _).trans (hA c 0)),
      (h c).2 main_arg1 (by decide : main_arg1 ∈ Pipeline.restRefs sig spec0),
      (h c).2 main_arg2 (by decide : main_arg2 ∈ Pipeline.restRefs sig spec0),
      ((h c).1 1).trans (((dats 0 c).arrAt_in 1 rfl _).trans (hA c 1)),
      ((h c).1 2).trans (((dats 0 c).arrAt_in 2 rfl _).trans (hA c 2)),
      ((h c).1 3).trans (((dats 0 c).arrAt_in 3 rfl _).trans (hA c 3))⟩) h

/-! ## What a point is called with -/

abbrev ms0 (hO : Ok m) (t : Fin (cfgM m hO).N) : Memref sig .tc .vmem S512x1024 .f32 := spec0_0.stage ((cfgM m hO).slots t 0)
abbrev hs0 (hO : Ok m) (t : Fin (cfgM m hO).N) : (ms0 m hO t).IsWhole := hstage0_0 (((cfgM m hO).slots t 0).cast nbuf0_0)
abbrev ms1 (hO : Ok m) (t : Fin (cfgM m hO).N) : Memref sig .tc .vmem S1x1x1024x2816 .f32 := spec0_1.stage ((cfgM m hO).slots t 1)
abbrev hs1 (hO : Ok m) (t : Fin (cfgM m hO).N) : (ms1 m hO t).IsWhole := hstage0_1 (((cfgM m hO).slots t 1).cast nbuf0_1)
abbrev ms2 (hO : Ok m) (t : Fin (cfgM m hO).N) : Memref sig .tc .vmem S1x1x1024x2816 .f32 := spec0_2.stage ((cfgM m hO).slots t 2)
abbrev hs2 (hO : Ok m) (t : Fin (cfgM m hO).N) : (ms2 m hO t).IsWhole := hstage0_2 (((cfgM m hO).slots t 2).cast nbuf0_2)
abbrev ms3 (hO : Ok m) (t : Fin (cfgM m hO).N) : Memref sig .tc .vmem S1x1x2816x1024 .f32 := spec0_3.stage ((cfgM m hO).slots t 3)
abbrev hs3 (hO : Ok m) (t : Fin (cfgM m hO).N) : (ms3 m hO t).IsWhole := hstage0_3 (((cfgM m hO).slots t 3).cast nbuf0_3)
abbrev ms4 (hO : Ok m) (t : Fin (cfgM m hO).N) : Memref sig .tc .vmem S512x1024 .f32 := spec0_4.stage ((cfgM m hO).slots t 4)
abbrev hs4 (hO : Ok m) (t : Fin (cfgM m hO).N) : (ms4 m hO t).IsWhole := hstage0_4 (((cfgM m hO).slots t 4).cast nbuf0_4)

/-- The body at point `t`, on the tables and the windows' current buffers. -/
abbrev bodyAt (hO : Ok m) (t : Fin (cfgM m hO).N) : Prog (TpuEff nD τ sig (Elt F) Λ₀ .tc) PUnit :=
  cc0_moe_experts (grid0.coords t) tbM0 htbM0 tbM1 htbM1 (ms0 m hO t) (hs0 m hO t) (ms1 m hO t) (hs1 m hO t) (ms2 m hO t) (hs2 m hO t) (ms3 m hO t) (hs3 m hO t) (ms4 m hO t) (hs4 m hO t)

end Cert.Kernel3Ideal.Moe

end
-- ==== Proof.MoeOk.lean ====
/- The precondition of the expert call, read off word by word, and what it gives: every block the tables name lies
   inside its array. -/
module

public import proofs.«01_k».proof.Defs
public import proofs.«01_k».proof.Proof.MoeKit
public import proofs.«01_k».proof.Proof.Gen.Pre_routed
public import Idealize.ShloMosaic.Lib.Pointwise

@[expose] public section

noncomputable section

namespace Cert.Kernel3Ideal.Moe

open Idealize.ShloMosaic Idealize.ShloMosaic.TcCoe
open Cert.Kernel3Ideal.Gen

variable {F : FTy → Type} [FloatOps F]

/-- A block's expert is one of the eight. -/
theorem routed_expert {x0 : FVec F Cert.Pre_routed.S36864x1024 .f32} {e : IVec Cert.Pre_routed.S72 32} {n : IVec Cert.Pre_routed.S1 32}
    {x3 x4 : FVec F Cert.Pre_routed.S2x8x1024x2816 .f32} {x5 : FVec F Cert.Pre_routed.S2x8x2816x1024 .f32}
    (h : (Cert.Pre_routed.fn (F := F) x0 e n x3 x4 x5).1 = fun _ => 1#1) (b : Cert.Pre_routed.S72.Idx) : (e b).toNat < 8 := by
  have andi_one (a b : BitVec 1) : IntOp.andi a b = 1#1 ↔ a = 1#1 ∧ b = 1#1 := by revert a b; decide
  have ofBool_one (p : Bool) : (BitVec.ofBool p = 1#1) ↔ p = true := by cases p <;> decide
  have hb := congrFun h b
  simp only [Cert.Pre_routed.fn, constantI, broadcastInDim, cmpi, andi, andi_one] at hb
  simp only [IntOp.cmpi, ofBool_one, BitVec.sle, BitVec.slt, decide_eq_true_eq] at hb
  have h0 : (0#32 : BitVec 32).toInt = 0 := by decide
  have h8 : (8#32 : BitVec 32).toInt = 8 := by decide
  have hx := BitVec.toInt_eq_toNat_cond (e b)
  have hl := (e b).isLt
  rw [h0, h8] at hb
  split at hx <;> omega

/-- At least one block is in use. -/
theorem routed_used {x0 : FVec F Cert.Pre_routed.S36864x1024 .f32} {e : IVec Cert.Pre_routed.S72 32} {n : IVec Cert.Pre_routed.S1 32}
    {x3 x4 : FVec F Cert.Pre_routed.S2x8x1024x2816 .f32} {x5 : FVec F Cert.Pre_routed.S2x8x2816x1024 .f32}
    (h : (Cert.Pre_routed.fn (F := F) x0 e n x3 x4 x5).2 = fun _ => 1#1) (b : Cert.Pre_routed.S1.Idx) :
    1 ≤ (n b).toNat ∧ (n b).toNat < 2 ^ 31 := by
  have ofBool_one (p : Bool) : (BitVec.ofBool p = 1#1) ↔ p = true := by cases p <;> decide
  have hb := congrFun h b
  simp only [Cert.Pre_routed.fn, constantI, broadcastInDim, cmpi] at hb
  simp only [IntOp.cmpi, ofBool_one, BitVec.sle, BitVec.slt, decide_eq_true_eq] at hb
  have h1 : (1#32 : BitVec 32).toInt = 1 := by decide
  have hx := BitVec.toInt_eq_toNat_cond (n b)
  have hl := (n b).isLt
  rw [h1] at hb
  split at hx <;> omega

/-- Below `2 ^ 31` a word is what it counts. -/
theorem toInt_small {w : BitVec 32} (h : w.toNat < 2 ^ 31) : w.toInt = w.toNat := by
  rw [BitVec.toInt_eq_toNat_cond, if_pos (by omega)]

/-- The block of tokens a point is on: its own, or the last one in use. -/
theorem min_toNat (b : Nat) (hb : b < 72) (n : BitVec 32) (h1 : 1 ≤ n.toNat) (h2 : n.toNat < 2 ^ 31) :
    (Scalar.minsi (BitVec.ofNat 32 b) (Scalar.subi n 1#32)).toNat = min b (n.toNat - 1) := by
  have hs : (n - 1#32).toNat = n.toNat - 1 := by
    rw [BitVec.toNat_sub]; simp only [BitVec.toNat_ofNat]; omega
  have ha : (BitVec.ofNat 32 b).toNat = b := by rw [BitVec.toNat_ofNat]; omega
  have hai := toInt_small (w := BitVec.ofNat 32 b) (by omega)
  have hsi := toInt_small (w := n - 1#32) (by omega)
  show (IntOp.minsi (BitVec.ofNat 32 b) (n - 1#32)).toNat = _
  unfold IntOp.minsi
  simp only [BitVec.slt, BitVec.sle]
  split <;> rename_i hc <;> simp only [decide_eq_true_eq] at hc <;> omega

/-! ## The blocks the index maps name -/

/-- The number of blocks in use, as the second table holds it. -/
def used (pf : pre0.Contents (Elt F)) : BitVec 32 := (show S1.Idx → BitVec 32 from pf 1) (ix1 (0 : Fin 1))

/-- Block `b`'s expert, as the first table holds it. -/
def expert (pf : pre0.Contents (Elt F)) (b : Fin 72) : BitVec 32 := (show S72.Idx → BitVec 32 from pf 0) (ix1 b)

/-- The first window's block: the point's own, or the last one in use. -/
theorem map_tok (pf : pre0.Contents (Elt F)) (h1 : 1 ≤ (used pf).toNat) (h2 : (used pf).toNat < 2 ^ 31) (i : grid0.Coords) :
    cc0_transform_0 Facts₀.inb_S1_S1_0 Facts₀.numel1_S1 pf i = ![min (i 0).val ((used pf).toNat - 1), 0] := by
  have e : pf.at 1 (Rect.unit (s := S1) ![0] S1.size Facts₀.inb_S1_S1_0) Facts₀.numel1_S1 = used pf :=
    congrArg (pf 1) (funext fun a => Fin.ext (by match a with | ⟨0, _⟩ => rfl))
  have hm := min_toNat (i 0).val (i 0).isLt (used pf) h1 h2
  rw [← e] at hm ⊢
  unfold cc0_transform_0
  exact congrArg (fun k => ![k, 0]) hm

/-- The word the three weights' windows read: the point's expert. -/
theorem map_word (pf : pre0.Contents (Elt F)) (i : grid0.Coords) :
    pf.at 0 (Rect.unit (s := S72) ![(Scalar.indexCast (BitVec.ofNat 32 (i 0).val)).toNat] S1.size (Facts₀.k0_off1_inb i)) Facts₀.numel1_S1 = expert pf (i 0) := by
  have hi : (i 0).val < 72 := (i 0).isLt
  refine congrArg (pf 0) (funext fun a => Fin.ext ?_)
  match a with
  | ⟨0, _⟩ =>
    show (BitVec.ofNat 32 (i 0).val).toNat + 0 = (i 0).val
    rw [BitVec.toNat_ofNat]; omega

theorem map_up (pf : pre0.Contents (Elt F)) (i : grid0.Coords) :
    cc0_transform_1 Facts₀.k0_off1_inb Facts₀.numel1_S1 pf i = ![0, (expert pf (i 0)).toNat, 0, 0] := by
  unfold cc0_transform_1; exact congrArg (fun k : BitVec 32 => ![0, k.toNat, 0, 0]) (map_word pf i)
theorem map_gate (pf : pre0.Contents (Elt F)) (i : grid0.Coords) :
    cc0_transform_2 Facts₀.k0_off1_inb Facts₀.numel1_S1 pf i = ![0, (expert pf (i 0)).toNat, 0, 0] := by
  unfold cc0_transform_2; exact congrArg (fun k : BitVec 32 => ![0, k.toNat, 0, 0]) (map_word pf i)
theorem map_down (pf : pre0.Contents (Elt F)) (i : grid0.Coords) :
    cc0_transform_3 Facts₀.k0_off1_inb Facts₀.numel1_S1 pf i = ![0, (expert pf (i 0)).toNat, 0, 0] := by
  unfold cc0_transform_3; exact congrArg (fun k : BitVec 32 => ![0, k.toNat, 0, 0]) (map_word pf i)

/-- Tables that count at least one block and name experts of the eight name blocks inside the arrays. -/
theorem ok_of (pf : pre0.Contents (Elt F)) (h1 : 1 ≤ (used pf).toNat) (h2 : (used pf).toNat < 2 ^ 31)
    (he : ∀ b, (expert pf b).toNat < 8) : ok0 (F := F) pf := by
  refine ⟨fun i => ⟨fun a => ?_, .inl rfl⟩, fun i => ⟨fun a => ?_, .inl rfl⟩, fun i => ⟨fun a => ?_, .inl rfl⟩, fun i => ⟨fun a => ?_, .inl rfl⟩⟩
  · rw [map_tok pf h1 h2]
    have hi : (i 0).val < 72 := (i 0).isLt
    match a with
    | ⟨0, _⟩ => show (min (i 0).val ((used pf).toNat - 1) + 1) * 512 ≤ 36864; omega
    | ⟨1, _⟩ => exact Nat.le_of_eq (Nat.one_mul _)
  all_goals
    have hb := he (i 0)
    first | rw [map_up] | rw [map_gate] | rw [map_down]
    match a with
    | ⟨0, _⟩ => show (0 + 1) * 1 ≤ 2; omega
    | ⟨1, _⟩ => show ((expert pf (i 0)).toNat + 1) * 1 ≤ 8; omega
    | ⟨2, _⟩ => exact Nat.le_of_eq (Nat.one_mul _)
    | ⟨3, _⟩ => exact Nat.le_of_eq (Nat.one_mul _)

/-- The precondition gives the program's own condition on its tables, over any float values. -/
theorem ok_of_routed (m : (ℓ : Loc nD τ sig) → Buf (Elt F) ℓ) {x0 : FVec F Cert.Pre_routed.S36864x1024 .f32}
    {x3 x4 : FVec F Cert.Pre_routed.S2x8x1024x2816 .f32} {x5 : FVec F Cert.Pre_routed.S2x8x2816x1024 .f32}
    (h : (Cert.Pre_routed.fn (F := F) x0 (tbl m 0) (tbl m 1) x3 x4 x5).1 = (fun _ => 1#1)
      ∧ (Cert.Pre_routed.fn (F := F) x0 (tbl m 0) (tbl m 1) x3 x4 x5).2 = fun _ => 1#1) : Ok m :=
  ok_of (tbl m) (routed_used h.2 _).1 (routed_used h.2 _).2 fun b => routed_expert h.1 _

end Cert.Kernel3Ideal.Moe

end
-- ==== Proof.MoeRun.lean ====
/- One point of the expert call: what the body leaves in the output's buffer.

   A point below the number of blocks in use runs the expert on its block of tokens, in three chunks of the hidden
   units; a point from that number on writes zeros. The number is the word the body reads from the second table. -/
module

public import proofs.«01_k».proof.Proof.MoeKit

@[expose] public section

set_option maxRecDepth 16384

noncomputable section

namespace Cert.Kernel3Ideal.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel3Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The whole of a buffer, and the chunks of the weights. -/
abbrev rTok : Rect S512x1024 := Rect.unit (s := S512x1024) ![0, 0] S512x1024.size inb_S512x1024_S512x1024_0_0
abbrev rUp : Rect S1x1x1024x2816 := Rect.unit (s := S1x1x1024x2816) ![0, 0, 0, 0] S1x1x1024x2816.size inb_S1x1x1024x2816_S1x1x1024x2816_0_0_0_0
abbrev rDown : Rect S1x1x2816x1024 := Rect.unit (s := S1x1x2816x1024) ![0, 0, 0, 0] S1x1x2816x1024.size inb_S1x1x2816x1024_S1x1x2816x1024_0_0_0_0
abbrev rU0 : Rect S1024x2816 := Rect.unit (s := S1024x2816) ![0, 0] S1024x1024.size inb_S1024x2816_S1024x1024_0_0
abbrev rU1 : Rect S1024x2816 := Rect.unit (s := S1024x2816) ![0, 1024] S1024x1024.size inb_S1024x2816_S1024x1024_0_1024
abbrev rU2 : Rect S1024x2816 := Rect.unit (s := S1024x2816) ![0, 2048] S1024x768.size inb_S1024x2816_S1024x768_0_2048
abbrev rD0 : Rect S2816x1024 := Rect.unit (s := S2816x1024) ![0, 0] S1024x1024.size inb_S2816x1024_S1024x1024_0_0
abbrev rD1 : Rect S2816x1024 := Rect.unit (s := S2816x1024) ![1024, 0] S1024x1024.size inb_S2816x1024_S1024x1024_1024_0
abbrev rD2 : Rect S2816x1024 := Rect.unit (s := S2816x1024) ![2048, 0] S768x1024.size inb_S2816x1024_S768x1024_2048_0

/-- The output's buffer after a point in use. -/
def outUsed (x0 : Vec F S512x1024 .f32) (x1 : Vec F S1x1x1024x2816 .f32) (x2 : Vec F S1x1x1024x2816 .f32) (x3 : Vec F S1x1x2816x1024 .f32) : Vec F S512x1024 .f32 :=
  View.canon [⟨rTok, k0_pay1 (k0_pay3 (View.ld x0 rTok))
    (k0_pay6 (k0_pay3 (View.ld x0 rTok))
      (k0_pay4 (View.ld x0 rTok) (View.ld (shapeCast S1024x2816 (View.ld x1 rUp) squeezes_S1x1x1024x2816_S1024x2816.numel_eq) rU0) (View.ld (shapeCast S1024x2816 (View.ld x2 rUp) squeezes_S1x1x1024x2816_S1024x2816.numel_eq) rU0)
        (View.ld (shapeCast S2816x1024 (View.ld x3 rDown) squeezes_S1x1x2816x1024_S2816x1024.numel_eq) rD0))
      (k0_pay5 (View.ld (shapeCast S1024x2816 (View.ld x1 rUp) squeezes_S1x1x1024x2816_S1024x2816.numel_eq) rU1))
      (View.ld (shapeCast S1024x2816 (View.ld x2 rUp) squeezes_S1x1x1024x2816_S1024x2816.numel_eq) rU1)
      (View.ld (shapeCast S2816x1024 (View.ld x3 rDown) squeezes_S1x1x2816x1024_S2816x1024.numel_eq) rD1))
    (k0_pay7 (View.ld (shapeCast S1024x2816 (View.ld x1 rUp) squeezes_S1x1x1024x2816_S1024x2816.numel_eq) rU2))
    (k0_pay8 (View.ld (shapeCast S1024x2816 (View.ld x2 rUp) squeezes_S1x1x1024x2816_S1024x2816.numel_eq) rU2))
    (View.ld (shapeCast S2816x1024 (View.ld x3 rDown) squeezes_S1x1x2816x1024_S2816x1024.numel_eq) rD2)⟩]

/-- The output's buffer after a point that holds no token. -/
def outIdle : Vec F S512x1024 .f32 := View.canon [⟨rTok, k0_pay2⟩]

/-- One store fills the buffer. -/
theorem cover (p0 : Vec F S512x1024 .f32) (y : S512x1024.Idx) :
    ∃ pc ∈ ([⟨rTok, p0⟩] : List (View.Piece (Elt F) S512x1024 .f32)), y ∈ pc.1.set :=
  View.cover_of_tiled [⟨rTok, p0⟩] S512x1024.size (by rfl) y

/-- The word the body reads from the second table. -/
abbrev word (c : Dev nD) (T1 : TbBuf (F := F) c tbM1) : BitVec 32 :=
  View.readAt (Elt F) (tbM1).view (Rect.unit (s := S1) ![0] S1.size inb_S1_S1_0).toLoadRect T1 (Shape.Idx.first (numel1_S1.symm ▸ Nat.one_pos))

set_option maxHeartbeats 4000000 in
/-- The body at a point in use. -/
theorem run_used (c : Dev nD) (E : Set ℕ) (i : grid0.Coords) (arg3 : Memref sig .tc .vmem S512x1024 .f32) (harg3 : arg3.IsWhole) (arg4 : Memref sig .tc .vmem S1x1x1024x2816 .f32) (harg4 : arg4.IsWhole) (arg5 : Memref sig .tc .vmem S1x1x1024x2816 .f32) (harg5 : arg5.IsWhole) (arg6 : Memref sig .tc .vmem S1x1x2816x1024 .f32) (harg6 : arg6.IsWhole) (arg7 : Memref sig .tc .vmem S512x1024 .f32) (harg7 : arg7.IsWhole)
    (x0 : Vec F S512x1024 .f32) (x1 : Vec F S1x1x1024x2816 .f32) (x2 : Vec F S1x1x1024x2816 .f32) (x3 : Vec F S1x1x2816x1024 .f32) (T0 : TbBuf (F := F) c tbM0) (T1 : TbBuf (F := F) c tbM1)
    (k0_h1 : k0_cond1 i (word c T1) = 1#1) (k0_h2 : ¬(k0_cond2 i (word c T1) = 1#1)) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ tbPt c tbM0 T0 ∗ tbPt c tbM1 T1
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare (outUsed x0 x1 x2 x3) ∗ tbPt c tbM0 T0 ∗ tbPt c tbM1 T1) -∗ K ⟨⟩))
      ⊢ wp frame (wpE (defs₀ (F := F)) Variants.none c none) E (cc0_moe_experts i tbM0 htbM0 tbM1 htbM1 arg3 harg3 arg4 harg4 arg5 harg5 arg6 harg6 arg7 harg7) K := by
  simp only [cc0_moe_experts_eq_skeleton]; unfold cc0_moe_experts_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%d4, %f4, -, H4⟩, HT0, HT1, Hk⟩
  subst hf0 hf1 hf2 hf3
  have hT0 : tbM0.IsWhole := Memref.isWhole_whole _
  have hT1 : tbM1.IsWhole := Memref.isWhole_whole _
  sl_exec! (disch := first | (guard_target = k0_cond1 _ _ = _; exact k0_h1) | (guard_target = ¬(k0_cond2 _ _ = _); exact k0_h2))
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    refine (View.read_writes_eq_canon _ _ _ (cover _)).trans ?_
    rfl
  isplitl [HT0]; · iexact HT0
  iexact HT1

set_option maxHeartbeats 4000000 in
/-- The body at a point that holds no token. -/
theorem run_idle (c : Dev nD) (E : Set ℕ) (i : grid0.Coords) (arg3 : Memref sig .tc .vmem S512x1024 .f32) (harg3 : arg3.IsWhole) (arg4 : Memref sig .tc .vmem S1x1x1024x2816 .f32) (harg4 : arg4.IsWhole) (arg5 : Memref sig .tc .vmem S1x1x1024x2816 .f32) (harg5 : arg5.IsWhole) (arg6 : Memref sig .tc .vmem S1x1x2816x1024 .f32) (harg6 : arg6.IsWhole) (arg7 : Memref sig .tc .vmem S512x1024 .f32) (harg7 : arg7.IsWhole)
    (x0 : Vec F S512x1024 .f32) (x1 : Vec F S1x1x1024x2816 .f32) (x2 : Vec F S1x1x1024x2816 .f32) (x3 : Vec F S1x1x2816x1024 .f32) (T0 : TbBuf (F := F) c tbM0) (T1 : TbBuf (F := F) c tbM1)
    (k0_h1 : ¬(k0_cond1 i (word c T1) = 1#1)) (k0_h2 : k0_cond2 i (word c T1) = 1#1) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ tbPt c tbM0 T0 ∗ tbPt c tbM1 T1
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare outIdle ∗ tbPt c tbM0 T0 ∗ tbPt c tbM1 T1) -∗ K ⟨⟩))
      ⊢ wp frame (wpE (defs₀ (F := F)) Variants.none c none) E (cc0_moe_experts i tbM0 htbM0 tbM1 htbM1 arg3 harg3 arg4 harg4 arg5 harg5 arg6 harg6 arg7 harg7) K := by
  simp only [cc0_moe_experts_eq_skeleton]; unfold cc0_moe_experts_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%d4, %f4, -, H4⟩, HT0, HT1, Hk⟩
  subst hf0 hf1 hf2 hf3
  have hT0 : tbM0.IsWhole := Memref.isWhole_whole _
  have hT1 : tbM1.IsWhole := Memref.isWhole_whole _
  sl_exec! (disch := first | (guard_target = ¬(k0_cond1 _ _ = _); exact k0_h1) | (guard_target = k0_cond2 _ _ = _; exact k0_h2))
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    refine (View.read_writes_eq_canon _ _ _ (cover _)).trans ?_
    rfl
  isplitl [HT0]; · iexact HT0
  iexact HT1

end Cert.Kernel3Ideal.Moe

end
-- ==== Proof.MoeFrame.lean ====
/- The expert call runs: from any memory whose tables name blocks inside the arrays, every run ends, with the
   arguments unchanged and the output block by block as `MoeRun` says. -/
module

public import proofs.«01_k».proof.Proof.MoeRun
public import Idealize.ShloMosaic.Lib.Claim

@[expose] public section

set_option maxRecDepth 16384

noncomputable section

namespace Cert.Kernel3Ideal.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel3Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Which of the two a point is -/

/-- A word is below another or not below it: the body's two conditions are each other's opposites. -/
theorem cond2_iff (i : grid0.Coords) (v : BitVec 32) : k0_cond2 i v = 1#1 ↔ ¬(k0_cond1 i v = 1#1) := by
  have e : BitVec.sle v (BitVec.ofNat 32 (i 0).val) = !(BitVec.slt (BitVec.ofNat 32 (i 0).val) v) := by
    rw [BitVec.sle_eq_not_slt]
  have d : ∀ b : Bool, (Scalar.cmpi (w := 32) .ne (Scalar.extui (BitVec.ofBool (!b))) 0#32 = 1#1)
      ↔ ¬(Scalar.cmpi (w := 32) .ne (Scalar.extui (BitVec.ofBool b)) 0#32 = 1#1) := by decide
  have := d (BitVec.slt (BitVec.ofNat 32 (i 0).val) v)
  rw [← e] at this
  exact this

/-- The word the body reads is the second table's. -/
theorem word_eq (c : Dev nD) : word c (tbl m 1) = (tbl m).atD 1 ![0] := by
  refine Eq.trans ?_ (dif_pos (c := ∀ a, (![0] : Fin 1 → Nat) a + 1 ≤ S1.size a) (by decide)).symm
  exact congrArg (tbl m 1) (funext fun a => Fin.ext (by
    match a with | ⟨0, _⟩ => rfl))

/-- So the output is stored at every point. -/
theorem idle4 (hO : Ok m) (t : Fin (cfgM m hO).N) : (cfgM m hO).idle (4 : Fin 5) ((cfgM m hO).grid.coords t) = false := by
  show (!(k0_cond1 (grid0.coords t) ((tbl m).atD 1 ![0]) == 1#1) && !(k0_cond2 (grid0.coords t) ((tbl m).atD 1 ![0]) == 1#1)) = false
  have h := cond2_iff (grid0.coords t) ((tbl m).atD 1 ![0])
  by_cases h1 : k0_cond1 (grid0.coords t) ((tbl m).atD 1 ![0]) = 1#1
  · simp [h1]
  · simp [h.2 h1]

/-! ## The output, point by point -/

/-- The output's buffer after point `t`. -/
def outsAt (hO : Ok m) (c : Dev nD) (t : Fin (cfgM m hO).N) : Vec F S512x1024 .f32 :=
  if k0_cond1 (grid0.coords t) (word c (tbl m 1)) = 1#1 then outUsed (iblk m hO c 0 t) (iblk m hO c 1 t) (iblk m hO c 2 t) (iblk m hO c 3 t)
  else outIdle

/-- The run's data: the arrays as the program finds them; after a point each input's buffer still holds its block and
    the output's what the body left; nothing owed. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => outsAt m hO c t
  Φ _ := iprop(Pipeline.ΦA spec0 c ∗ Pipeline.ΦT pre0 (tbl m) c)
  q _ := fullShare
  owed _ := 0

theorem A_eq (hO : Ok m) (c : Dev nD) (w : Fin (cfgM m hO).W) : (dats m hO 0 c).A w = V m c (Pipeline.arrRef spec0 w) := by
  dsimp only [dats]

theorem after0 (hO : Ok m) (c : Dev nD) (t : Fin (cfgM m hO).N) : (dats m hO 0 c).after 0 t = iblk m hO c 0 t := by dsimp only [dats]; try rfl
theorem after1 (hO : Ok m) (c : Dev nD) (t : Fin (cfgM m hO).N) : (dats m hO 0 c).after 1 t = iblk m hO c 1 t := by dsimp only [dats]; try rfl
theorem after2 (hO : Ok m) (c : Dev nD) (t : Fin (cfgM m hO).N) : (dats m hO 0 c).after 2 t = iblk m hO c 2 t := by dsimp only [dats]; try rfl
theorem after3 (hO : Ok m) (c : Dev nD) (t : Fin (cfgM m hO).N) : (dats m hO 0 c).after 3 t = iblk m hO c 3 t := by dsimp only [dats]; try rfl
theorem after4 (hO : Ok m) (c : Dev nD) (t : Fin (cfgM m hO).N) : (dats m hO 0 c).after 4 t = outsAt m hO c t := by dsimp only [dats]; try rfl

theorem before0 (hO : Ok m) (c : Dev nD) (t : Fin (cfgM m hO).N) (d) : (dats m hO 0 c).before 0 t d = iblk m hO c 0 t :=
  before_0 m hO (dats m hO 0 c) (A_eq m hO c 0) (after0 m hO c) t d
theorem before1 (hO : Ok m) (c : Dev nD) (t : Fin (cfgM m hO).N) (d) : (dats m hO 0 c).before 1 t d = iblk m hO c 1 t :=
  before_1 m hO (dats m hO 0 c) (A_eq m hO c 1) (after1 m hO c) t d
theorem before2 (hO : Ok m) (c : Dev nD) (t : Fin (cfgM m hO).N) (d) : (dats m hO 0 c).before 2 t d = iblk m hO c 2 t :=
  before_2 m hO (dats m hO 0 c) (A_eq m hO c 2) (after2 m hO c) t d
theorem before3 (hO : Ok m) (c : Dev nD) (t : Fin (cfgM m hO).N) (d) : (dats m hO 0 c).before 3 t d = iblk m hO c 3 t :=
  before_3 m hO (dats m hO 0 c) (A_eq m hO c 3) (after3 m hO c) t d

/-! ## The body at a point of the run -/

/-- Before the body: the tables, and every window's buffer. -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0 m hO t) fullShare ((dats m hO 0 c).before 0 t d))
    ∗ (∃ d, owns (c : Thread nD τ) (ms1 m hO t) fullShare ((dats m hO 0 c).before 1 t d))
    ∗ (∃ d, owns (c : Thread nD τ) (ms2 m hO t) fullShare ((dats m hO 0 c).before 2 t d))
    ∗ (∃ d, owns (c : Thread nD τ) (ms3 m hO t) fullShare ((dats m hO 0 c).before 3 t d))
    ∗ (∃ d, owns (c : Thread nD τ) (ms4 m hO t) fullShare ((dats m hO 0 c).before 4 t d)))

/-- After it. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0 m hO t) fullShare ((dats m hO 0 c).after 0 t)
    ∗ owns (c : Thread nD τ) (ms1 m hO t) fullShare ((dats m hO 0 c).after 1 t)
    ∗ owns (c : Thread nD τ) (ms2 m hO t) fullShare ((dats m hO 0 c).after 2 t)
    ∗ owns (c : Thread nD τ) (ms3 m hO t) fullShare ((dats m hO 0 c).after 3 t)
    ∗ owns (c : Thread nD τ) (ms4 m hO t) fullShare ((dats m hO 0 c).after 4 t))

set_option maxHeartbeats 1000000 in
theorem sound_body (hO : Ok m) (c : Dev nD) (t : Fin (cfgM m hO).N) :
    bodyPre m hO c t ⊢ wp frame (wpE (defs₀ (F := F)) Variants.none c none) Set.univ (bodyAt m hO t) (fun _ => bodyPost m hO c t) := by
  unfold bodyPre bodyPost bodyAt
  simp only [before0, before1, before2, before3]
  rw [show (dats m hO 0 c).Φ t.succ = (dats m hO 0 c).Φ t.castSucc from rfl,
    show (dats m hO 0 c).owesAt () t.succ = (dats m hO 0 c).owesAt () t.castSucc from rfl,
    after0, after1, after2, after3, after4]
  rw [show (dats m hO 0 c).Φ t.castSucc = iprop(Pipeline.ΦA spec0 c ∗ Pipeline.ΦT pre0 (tbl m) c) from rfl, PhiT_eq]
  by_cases h1 : k0_cond1 (grid0.coords t) (word c (tbl m 1)) = 1#1
  · have h2 : ¬(k0_cond2 (grid0.coords t) (word c (tbl m 1)) = 1#1) := fun h => (cond2_iff _ _).1 h h1
    rw [show outsAt m hO c t = outUsed (iblk m hO c 0 t) (iblk m hO c 1 t) (iblk m hO c 2 t) (iblk m hO c 3 t) from if_pos h1]
    iintro ⟨⟨HΦ, ⟨HT0, HT1⟩⟩, Ho, ⟨%d0, H0⟩, ⟨%d1, H1⟩, ⟨%d2, H2⟩, ⟨%d3, H3⟩, ⟨%d4, H4⟩⟩
    iapply (run_used c Set.univ (grid0.coords t) _ _ _ _ _ _ _ _ _ _ (iblk m hO c 0 t) (iblk m hO c 1 t) (iblk m hO c 2 t) (iblk m hO c 3 t) (tbl m 0) (tbl m 1) h1 h2 _)
    isplitl [H0]; · iexact H0
    isplitl [H1]; · iexact H1
    isplitl [H2]; · iexact H2
    isplitl [H3]; · iexact H3
    isplitl [H4]; · iexists _; iexact H4
    isplitl [HT0]; · iexact HT0
    isplitl [HT1]; · iexact HT1
    iintro ⟨H0, H1, H2, H3, H4, HT0, HT1⟩
    isplitl [HΦ HT0 HT1]
    · isplitl [HΦ]
      · iexact HΦ
      isplitl [HT0]; · iexact HT0
      iexact HT1
    isplitl [Ho]; · iexact Ho
    isplitl [H0]; · iexact H0
    isplitl [H1]; · iexact H1
    isplitl [H2]; · iexact H2
    isplitl [H3]; · iexact H3
    iexact H4
  · have h2 : k0_cond2 (grid0.coords t) (word c (tbl m 1)) = 1#1 := (cond2_iff _ _).2 h1
    rw [show outsAt m hO c t = outIdle from if_neg h1]
    iintro ⟨⟨HΦ, ⟨HT0, HT1⟩⟩, Ho, ⟨%d0, H0⟩, ⟨%d1, H1⟩, ⟨%d2, H2⟩, ⟨%d3, H3⟩, ⟨%d4, H4⟩⟩
    iapply (run_idle c Set.univ (grid0.coords t) _ _ _ _ _ _ _ _ _ _ (iblk m hO c 0 t) (iblk m hO c 1 t) (iblk m hO c 2 t) (iblk m hO c 3 t) (tbl m 0) (tbl m 1) h1 h2 _)
    isplitl [H0]; · iexact H0
    isplitl [H1]; · iexact H1
    isplitl [H2]; · iexact H2
    isplitl [H3]; · iexact H3
    isplitl [H4]; · iexists _; iexact H4
    isplitl [HT0]; · iexact HT0
    isplitl [HT1]; · iexact HT1
    iintro ⟨H0, H1, H2, H3, H4, HT0, HT1⟩
    isplitl [HΦ HT0 HT1]
    · isplitl [HΦ]
      · iexact HΦ
      isplitl [HT0]; · iexact HT0
      iexact HT1
    isplitl [Ho]; · iexact Ho
    isplitl [H0]; · iexact H0
    isplitl [H1]; · iexact H1
    isplitl [H2]; · iexact H2
    isplitl [H3]; · iexact H3
    iexact H4

/-- The body table's row at point `t`. -/
theorem defs₀_row (hO : Ok m) (t : Fin (cfgM m hO).N) :
    defs₀ (F := F) .tc (cfgM m hO).body ((cfgM m hO).bodyArgs t ((cfgM m hO).slots t)) = bodyAt m hO t := by
  unfold defs₀; rw [Defs.onTc_tc]

theorem body_obligation (hO : Ok m) (c : Dev nD) : BodyObligation (dats (F := F) m hO 0 c) (defs₀ (F := F)) Variants.none () Set.univ := fun t => by
  rw [bigSep_W0, bigSep_W0, defs₀_row m hO]
  rewrite [idle4 m hO t]
  exact triple_restated (sound_body m hO c t) rfl .rfl fun _ => .rfl

/-! ## The run -/

set_option backward.isDefEq.respectTransparency.types false in
/-- Every run of the program ends, with the arrays as the data says, the other buffers untouched and every counter zero. -/
theorem run_main_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hΦ := fun _ _ => rfl)

theorem run_main (hO : Ok m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO)

/-- The frame, for every contents of the tables that name blocks inside the arrays. -/
theorem frame (hO : Ok m) : θ_run defs (onTc (τ := τ) (main (F := F))) ⟨m, fun _ => 0, ρ⟩ (fun r => (∀ c : Dev nD,
        r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ hO (dats m hO) (A_eq m hO) (run_main m ρ hO)) ((θ_run defs _ _).mono (fun _ h => h.2) (run_main_quiescent m ρ hO))

end Cert.Kernel3Ideal.Moe

end
-- ==== Proof.MoeBlock.lean ====
/- One grid point of the expert call at the ideal numbers. -/
module

public import proofs.«01_k».proof.Proof.MoeRun
public import proofs.«01_k».proof.Proof.FfnBlock

@[expose] public section

set_option maxRecDepth 16384

noncomputable section

namespace Cert.Kernel3Ideal.Moe

open Idealize.ShloMosaic Idealize.ShloMosaic.TcCoe Idealize.SL.Sem
open Cert.Kernel3Ideal Cert.Kernel3Ideal.Gen Cert.Swiglu
open Cert.Kernel2Ideal.Ffn (one_bits)

/-- The first chunk of hidden columns. -/
theorem pay4_apply (X : Vec Ideal S512x1024 .f32) (Wg Wu Wd : Vec Ideal S1024x1024 .f32) (r : Fin 512) (j : Fin 1024) :
    k0_pay4 (F := Ideal) X Wg Wu Wd (ix2 r j)
      = ∑ f : Fin 1024, hid (fun k => X (ix2 r k)) (fun k => Wg (ix2 k f)) (fun k => Wu (ix2 k f)) * Wd (ix2 f j) := by
  pointwise [k0_pay4, k0_pay3]
  simp only [one_bits, zero_sub]
  rfl

/-- The second chunk, added to the first. -/
theorem pay6_apply (X : Vec Ideal S512x1024 .f32) (Y : FVec Ideal S512x1024 .f32) (Wg Wu Wd : Vec Ideal S1024x1024 .f32) (r : Fin 512) (j : Fin 1024) :
    k0_pay6 (F := Ideal) (k0_pay3 X) Y (k0_pay5 Wg) Wu Wd (ix2 r j)
      = Y (ix2 r j) + ∑ f : Fin 1024, hid (fun k => X (ix2 r k)) (fun k => Wg (ix2 k f)) (fun k => Wu (ix2 k f)) * Wd (ix2 f j) := by
  pointwise [k0_pay6, k0_pay5, k0_pay3]
  simp only [one_bits, zero_sub]
  rfl

/-- The third chunk, added to the others. -/
theorem pay1_apply (X : Vec Ideal S512x1024 .f32) (Y : FVec Ideal S512x1024 .f32) (Wg Wu : Vec Ideal S1024x768 .f32)
    (Wd : Vec Ideal S768x1024 .f32) (r : Fin 512) (j : Fin 1024) :
    k0_pay1 (F := Ideal) (k0_pay3 X) Y (k0_pay7 Wg) (k0_pay8 Wu) Wd (ix2 r j)
      = Y (ix2 r j) + ∑ f : Fin 768, hid (fun k => X (ix2 r k)) (fun k => Wg (ix2 k f)) (fun k => Wu (ix2 k f)) * Wd (ix2 f j) := by
  pointwise [k0_pay1, k0_pay7, k0_pay8, k0_pay3]
  simp only [one_bits, zero_sub]
  rfl

/-- A weight block without its two leading axes. -/
theorem up_apply (x : Vec Ideal S1x1x1024x2816 .f32) (k : Fin 1024) (f : Fin 2816) :
    shapeCast S1024x2816 (View.ld x rUp) squeezes_S1x1x1024x2816_S1024x2816.numel_eq (ix2 k f) = x (ix4 0 0 k f) := by
  pointwise []

theorem down_apply (x : Vec Ideal S1x1x2816x1024 .f32) (f : Fin 2816) (j : Fin 1024) :
    shapeCast S2816x1024 (View.ld x rDown) squeezes_S1x1x2816x1024_S2816x1024.numel_eq (ix2 f j) = x (ix4 0 0 f j) := by
  pointwise []

/-- The block of tokens read back. -/
theorem tok_apply (x : Vec Ideal S512x1024 .f32) {n : Fin 2 → Nat} (h) (y) (r : Fin 512) (j : Fin 1024)
    (h0 : (y 0).val = r.val) (h1 : (y 1).val = j.val) : View.ld x (Rect.unit (s := S512x1024) ![0, 0] n h) y = x (ix2 r j) :=
  View.ld_unit_apply_of x _ _ _ _ (ix2 r j) fun a => by
    match a with
    | ⟨0, _⟩ => exact h0.symm.trans (Nat.zero_add _).symm
    | ⟨1, _⟩ => exact h1.symm.trans (Nat.zero_add _).symm

/-- A window of columns of a weight block. -/
theorem up_cols (x : Vec Ideal S1x1x1024x2816 .f32) {n : Fin 2 → Nat} (o : Nat) (h) (k : Fin 1024) (y) (f : Fin 2816)
    (h0 : (y 0).val = k.val) (h1 : f.val = o + (y 1).val) :
    View.ld (shapeCast S1024x2816 (View.ld x rUp) squeezes_S1x1x1024x2816_S1024x2816.numel_eq) (Rect.unit (s := S1024x2816) ![0, o] n h) y
      = x (ix4 0 0 k f) :=
  (View.ld_unit_apply_of _ _ _ _ _ (ix2 k f) fun a => by
    match a with
    | ⟨0, _⟩ => exact h0.symm.trans (Nat.zero_add _).symm
    | ⟨1, _⟩ => exact h1).trans (up_apply x k f)

/-- A window of rows of a weight block. -/
theorem down_rows (x : Vec Ideal S1x1x2816x1024 .f32) {n : Fin 2 → Nat} (o : Nat) (h) (f : Fin 2816) (y) (j : Fin 1024)
    (h0 : f.val = o + (y 0).val) (h1 : (y 1).val = j.val) :
    View.ld (shapeCast S2816x1024 (View.ld x rDown) squeezes_S1x1x2816x1024_S2816x1024.numel_eq) (Rect.unit (s := S2816x1024) ![o, 0] n h) y
      = x (ix4 0 0 f j) :=
  (View.ld_unit_apply_of _ _ _ _ _ (ix2 f j) fun a => by
    match a with
    | ⟨0, _⟩ => exact h0
    | ⟨1, _⟩ => exact h1.symm.trans (Nat.zero_add _).symm).trans (down_apply x f j)

/-- A POINT IN USE stores its expert's network, row by row. -/
theorem used_apply (X : Vec Ideal S512x1024 .f32) (Wg Wu : Vec Ideal S1x1x1024x2816 .f32)
    (Wd : Vec Ideal S1x1x2816x1024 .f32) (r : Fin 512) (j : Fin 1024) :
    outUsed (F := Ideal) X Wg Wu Wd (ix2 r j)
      = glu (fun k => X (ix2 r k)) (fun k f => Wg (ix4 0 0 k f)) (fun k f => Wu (ix4 0 0 k f)) (fun f => Wd (ix4 0 0 f j)) := by
  unfold outUsed
  canon_tiles x e
  idx_vars x
  obtain rfl : r = x0 := Fin.ext e0
  obtain rfl : j = x1 := Fin.ext e1
  rw [pay1_apply, pay6_apply, pay4_apply]
  have u0 := fun (w : Vec Ideal S1x1x1024x2816 .f32) (k : Fin 1024) (f : Fin 1024) =>
    up_cols w 0 inb_S1024x2816_S1024x1024_0_0 k (ix2 k f) ⟨f.val, by omega⟩ rfl (Nat.zero_add _).symm
  have u1 := fun (w : Vec Ideal S1x1x1024x2816 .f32) (k : Fin 1024) (f : Fin 1024) =>
    up_cols w 1024 inb_S1024x2816_S1024x1024_0_1024 k (ix2 k f) ⟨1024 + f.val, by omega⟩ rfl rfl
  have u2 := fun (w : Vec Ideal S1x1x1024x2816 .f32) (k : Fin 1024) (f : Fin 768) =>
    up_cols w 2048 inb_S1024x2816_S1024x768_0_2048 k (ix2 k f) ⟨2048 + f.val, by omega⟩ rfl rfl
  have d0 := fun (w : Vec Ideal S1x1x2816x1024 .f32) (f : Fin 1024) =>
    down_rows w 0 inb_S2816x1024_S1024x1024_0_0 ⟨f.val, by omega⟩ (ix2 f j) j (Nat.zero_add _).symm rfl
  have d1 := fun (w : Vec Ideal S1x1x2816x1024 .f32) (f : Fin 1024) =>
    down_rows w 1024 inb_S2816x1024_S1024x1024_1024_0 ⟨1024 + f.val, by omega⟩ (ix2 f j) j rfl rfl
  have d2 := fun (w : Vec Ideal S1x1x2816x1024 .f32) (f : Fin 768) =>
    down_rows w 2048 inb_S2816x1024_S768x1024_2048_0 ⟨2048 + f.val, by omega⟩ (ix2 f j) j rfl rfl
  have wX := fun k : Fin 1024 => tok_apply X inb_S512x1024_S512x1024_0_0 (ix2 r k) r k rfl rfl
  simp only [wX, u0, u1, u2, d0, d1, d2]
  rw [glu, ← sum_chunks]

/-- A POINT THAT HOLDS NO TOKEN stores zero. -/
theorem idle_apply (r : Fin 512) (j : Fin 1024) : outIdle (F := Ideal) (ix2 r j) = 0 := by
  unfold outIdle
  canon_tiles x e
  pointwise [k0_pay2]

end Cert.Kernel3Ideal.Moe

end
-- ==== Proof.MoeArray.lean ====
/- The expert call's result array: the points' blocks put together. -/
module

public import proofs.«01_k».proof.Defs
public import proofs.«01_k».proof.Proof.MoeSpec
public import proofs.«01_k».proof.Proof.MoeOk
public import proofs.«01_k».proof.Proof.MoeFrame
public import proofs.«01_k».proof.Proof.MoeBlock
public import Idealize.ShloMosaic.Lib.Pipeline.ValueKit
public import Idealize.ShloMosaic.Lib.Pipeline.Covers

@[expose] public section

set_option maxRecDepth 16384

noncomputable section

namespace Cert.Kernel3Ideal.Moe

open Idealize.ShloMosaic Idealize.ShloMosaic.TcCoe Idealize.SL.Sem
open Cert.Kernel3Ideal Cert.Kernel3Ideal.Gen Cert.Swiglu

/-- The grid has one axis, and the output's block is the point's own. -/
theorem coords_val : ∀ t : Fin grid0.N, (grid0.coords t 0).val = t.val ∧ cc0_transform_4 (grid0.coords t) = ![t.val, 0] := by decide +kernel

variable (m : (ℓ : Loc nD τ sig) → Buf (Elt Ideal) ℓ) (ρ : Dev nD → PrngReg) (hO : Ok m)

/-- The windows' block indices at a grid point. -/
theorem idx_out (t : Fin (cfgM m hO).N) : ((cfgM m hO).win 4).index t = ![t.val, 0] := (coords_val t).2
theorem idx_tok (h1 : 1 ≤ (used (tbl m)).toNat) (h2 : (used (tbl m)).toNat < 2 ^ 31) (t : Fin (cfgM m hO).N) :
    ((cfgM m hO).win 0).index t = ![min t.val ((used (tbl m)).toNat - 1), 0] :=
  (map_tok (tbl m) h1 h2 (grid0.coords t)).trans (by rw [(coords_val t).1])
theorem idx_gate (t : Fin (cfgM m hO).N) : ((cfgM m hO).win 1).index t = ![0, (expert (tbl m) (grid0.coords t 0)).toNat, 0, 0] := map_up _ _
theorem idx_up (t : Fin (cfgM m hO).N) : ((cfgM m hO).win 2).index t = ![0, (expert (tbl m) (grid0.coords t 0)).toNat, 0, 0] := map_gate _ _
theorem idx_down (t : Fin (cfgM m hO).N) : ((cfgM m hO).win 3).index t = ![0, (expert (tbl m) (grid0.coords t 0)).toNat, 0, 0] := map_down _ _

/-- Every block of the result is some point's. -/
theorem covers : ((cfgM m hO).win 4).Covers := by
  refine Pipeline.Window.covers_of_index_surj _ rfl (by intro a; match a with | ⟨0, _⟩ => exact (by decide : 0 < 512) | ⟨1, _⟩ => exact (by decide : 0 < 1024)) fun β => ?_
  have h0 : (β (0 : Fin 2)).val < 72 := Nat.lt_of_lt_of_eq (β (0 : Fin 2)).isLt (show (36864 + 512 - 1) / 512 = 72 by decide)
  have h1 : (β (1 : Fin 2)).val < 1 := Nat.lt_of_lt_of_eq (β (1 : Fin 2)).isLt (show (1024 + 1024 - 1) / 1024 = 1 by decide)
  refine ⟨(⟨(β (0 : Fin 2)).val, h0⟩ : Fin grid0.N), fun a => ?_⟩
  rw [idx_out]
  match a with
  | ⟨0, _⟩ => rfl
  | ⟨1, _⟩ => show 0 = (β (1 : Fin 2)).val; omega

/-- A point is in use where its number is below the count. -/
theorem cond1_iff (h2 : (used (tbl m)).toNat < 2 ^ 31) (c : Dev nD) (t : Fin (cfgM m hO).N) :
    k0_cond1 (grid0.coords t) (word c (tbl m 1)) = 1#1 ↔ t.val < (used (tbl m)).toNat := by
  have e : word c (tbl m 1) = used (tbl m) := congrArg (tbl m 1) (funext fun a => Fin.ext (by match a with | ⟨0, _⟩ => rfl))
  have d : ∀ b : Bool, (Scalar.cmpi (w := 32) .ne (Scalar.extui (BitVec.ofBool b)) 0#32 = 1#1) ↔ b = true := by decide
  rw [e]
  refine (d (BitVec.slt (BitVec.ofNat 32 (grid0.coords t 0).val) (used (tbl m)))).trans ?_
  rw [slt_block _ (grid0.coords t 0).isLt _ h2, decide_eq_true_eq, (coords_val t).1]

/-- THE RESULT ARRAY. -/
theorem array (h1 : 1 ≤ (used (tbl m)).toNat) (h2 : (used (tbl m)).toNat < 2 ^ 31) (he : ∀ b, (expert (tbl m) b).toNat < 8) (c : Dev nD) :
    (dats m hO 0 c).arrAt 4 (cfgM m hO).N
      = result (V m c main_arg0) (V m c main_arg1) (V m c main_arg2) (V m c main_arg3) (V m c main_arg4) (V m c main_arg5) := by
  obtain rfl : c = 0 := Subsingleton.elim _ _
  refine (dats m hO 0 0).arrAt_eq_of_covers 4 _ (covers m hO) fun t hf y => ?_
  blk_simp
  rw [after4]
  have ht : t.val < 72 := t.isLt
  obtain ⟨r, j, rfl⟩ : ∃ (r : Fin 512) (j : Fin 1024), y = ix2 r j :=
    ⟨(show S512x1024.Idx from y) 0, (show S512x1024.Idx from y) 1, eq_ix2 (show S512x1024.Idx from y)⟩
  obtain ⟨T, hT⟩ : ∃ T : Fin 36864, T.val = 512 * t.val + r.val := ⟨⟨512 * t.val + r.val, by omega⟩, rfl⟩
  obtain ⟨b, hb⟩ : ∃ b : Fin 72, b.val = t.val := ⟨⟨t.val, ht⟩, rfl⟩
  have hB : blockOf T = b := Fin.ext (by show T.val / 512 = b.val; omega)
  have e4 := idx_out m hO t
  have hI : (((cfgM m hO).win 4).blk t).view.emb (ix2 r j) = ix2 T j := by blk_ext [e4, hT]
  refine Eq.trans ?_ (congrArg (result (V m 0 main_arg0) (V m 0 main_arg1) (V m 0 main_arg2) (V m 0 main_arg3) (V m 0 main_arg4) (V m 0 main_arg5)) hI).symm
  have hc : grid0.coords t 0 = b := Fin.ext ((coords_val t).1.trans hb.symm)
  have hu : used (tbl m) = (show S1.Idx → BitVec 32 from V m 0 main_arg2) (ix1 (0 : Fin 1)) := rfl
  have hx : expert (tbl m) b = (show S72.Idx → BitVec 32 from V m 0 main_arg1) (ix1 b) := rfl
  unfold result outsAt
  rw [show (ix2 T j : S36864x1024.Idx) 0 = T from rfl, show (ix2 T j : S36864x1024.Idx) 1 = j from rfl, hB]
  by_cases h : t.val < (used (tbl m)).toNat
  · rw [if_pos ((cond1_iff m hO h2 0 t).2 h), if_pos (show b.val < _ by rw [hb]; exact h)]
    have e0 := idx_tok m hO h1 h2 t
    rw [Nat.min_eq_left (by omega)] at e0
    have e1 := idx_gate m hO t
    have e2 := idx_up m hO t
    have e3 := idx_down m hO t
    rw [hc] at e1 e2 e3
    obtain ⟨q, hq⟩ : ∃ q : Fin 8, q.val = (expert (tbl m) b).toNat := ⟨⟨_, he b⟩, rfl⟩
    have hq' : expertOf (expert (tbl m) b) = q := Fin.ext (by show (expert (tbl m) b).toNat % 8 = q.val; have := he b; omega)
    rw [← hq] at e1 e2 e3
    have b0 : ∀ k, iblk m hO 0 0 t (ix2 r k) = V m 0 main_arg0 (ix2 T k) := fun k => by blk_ext [iblk, e0, hT]
    have b1 : ∀ k f, iblk m hO 0 1 t (ix4 0 0 k f) = V m 0 main_arg3 (ix4 0 q k f) := fun k f => by blk_ext [iblk, e1]
    have b2 : ∀ k f, iblk m hO 0 2 t (ix4 0 0 k f) = V m 0 main_arg4 (ix4 0 q k f) := fun k f => by blk_ext [iblk, e2]
    have b3 : ∀ f, iblk m hO 0 3 t (ix4 0 0 f j) = V m 0 main_arg5 (ix4 0 q f j) := fun f => by blk_ext [iblk, e3]
    refine (used_apply _ _ _ _ r j).trans ?_
    simp only [b0, b1, b2, b3]
    rw [← hq', hx]
  · rw [if_neg (fun h' => h ((cond1_iff m hO h2 0 t).1 h')), if_neg (show ¬ b.val < _ by rw [hb]; exact h)]
    exact idle_apply r j

/-- The kernel's run, from tables that count at least one block and name experts of the eight. -/
theorem run (h1 : 1 ≤ (used (tbl m)).toNat) (h2 : (used (tbl m)).toNat < 2 ^ 31) (he : ∀ b, (expert (tbl m) b).toNat < 8) :
    θ_run (defs (F := Ideal)) (onTc (τ := τ) (main (F := Ideal))) ⟨m, fun _ => 0, ρ⟩ fun r => ∀ c : Dev nD,
      r.2.mem ((c.tc : Thread nD τ).loc main_v0) = result (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  let hO : Ok m := ok_of (tbl m) h1 h2 he
  (θ_run (defs (F := Ideal)) _ _).mono (fun _ h c => ⟨((h.1 c).1 4).trans (array m hO h1 h2 he c), h.2.1 c⟩)
    (θ_run_and (run_main m ρ hO) (frame m ρ hO))

end Cert.Kernel3Ideal.Moe

end
-- ==== Proof.MoeRef.lean ====
/- The expert call's reference: its gathers of the experts' weights, its hidden columns, and its result array. -/
module

public import proofs.«01_k».proof.Proof.MoeSpec
public import proofs.«01_k».proof.Proof.FfnBlock
public import proofs.«01_k».proof.Proof.Gen.Reference3Ideal
public import proofs.«01_k».proof.Proof.Gen.Reference3Ideal.Run
public import proofs.«01_k».proof.Proof.Gen.Reference3Ideal.Read

@[expose] public section

set_option maxRecDepth 16384

noncomputable section

namespace Cert.Reference3Ideal.Moe

open Idealize.ShloMosaic Idealize.ShloMosaic.TcCoe Idealize.SL.Sem
open Cert.Reference3Ideal Cert.Reference3Ideal.Facts₀ Cert.Reference3Ideal.Read Cert.Swiglu
open Cert.Kernel3Ideal.Moe (result blockOf expertOf slt_block)

/-! ## The experts' weights, gathered block by block -/

/-- A gather of whole matrices reads, at an index word below eight, the matrix the word names. -/
theorem gather_up {α : Type} (x : S8x1024x2816.Idx → α) (s : IVec S72x1 32) (b : Fin 72) (k : Fin 1024) (f : Fin 2816)
    (hs : (s (ix2 b (0 : Fin 1))).toNat < 8) :
    Host.gather gather_S8x1024x2816_S72x1_S72x1024x2816_12_0_n_n_0_1_110242816 x s (ix3 b k f)
      = x (ix3 (expertOf (s (ix2 b (0 : Fin 1)))) k f) := by
  unfold Host.gather
  refine congrArg x (funext fun a => Fin.ext ?_)
  show GatherDims.start _ (ix3 b k f) s a + GatherDims.batchCoord _ (ix3 b k f) a + GatherDims.offCoord _ (ix3 b k f) a = _
  rw [GatherDims.batchCoord_eq_zero _ _ _ List.not_mem_nil]
  have h012 : a = 0 ∨ a = 1 ∨ a = 2 := by
    match a with
    | ⟨0, _⟩ => exact .inl rfl
    | ⟨1, _⟩ => exact .inr (.inl rfl)
    | ⟨2, _⟩ => exact .inr (.inr rfl)
  rcases h012 with rfl | rfl | rfl
  · rw [GatherDims.offCoord_eq_zero _ _ _ (fun h => ((GatherDims.mem_sKept _ _).mp h).1 (List.mem_singleton.mpr rfl))]
    unfold GatherDims.start
    rw [dif_pos (show (0 : Fin 3) ∈ gather_S8x1024x2816_S72x1_S72x1024x2816_12_0_n_n_0_1_110242816.startIndexMap from List.mem_singleton.mpr rfl)]
    have hsi : gather_S8x1024x2816_S72x1_S72x1024x2816_12_0_n_n_0_1_110242816.siIdx (ix3 b k f)
        ⟨List.idxOf (0 : Fin 3) gather_S8x1024x2816_S72x1_S72x1024x2816_12_0_n_n_0_1_110242816.startIndexMap,
          List.idxOf_lt_length_iff.2 (List.mem_singleton.mpr rfl)⟩ = ix2 b (0 : Fin 1) := by
      funext b'; refine Fin.ext ?_
      match b' with
      | ⟨0, _⟩ => rfl
      | ⟨1, _⟩ => rfl
    rw [hsi]
    show min (s (ix2 b (0 : Fin 1))).toInt.toNat (8 - 1) + 0 + 0 = (s (ix2 b (0 : Fin 1))).toNat % 8
    rw [BitVec.toInt_eq_toNat_cond, if_pos (by omega)]
    omega
  · rw [show GatherDims.start gather_S8x1024x2816_S72x1_S72x1024x2816_12_0_n_n_0_1_110242816 (ix3 b k f) s 1 = 0 from dif_neg (by decide)]
    unfold GatherDims.offCoord
    rw [dif_pos (show (1 : Fin 3) ∈ gather_S8x1024x2816_S72x1_S72x1024x2816_12_0_n_n_0_1_110242816.sKept by decide), Nat.zero_add]
    rfl
  · rw [show GatherDims.start gather_S8x1024x2816_S72x1_S72x1024x2816_12_0_n_n_0_1_110242816 (ix3 b k f) s 2 = 0 from dif_neg (by decide)]
    unfold GatherDims.offCoord
    rw [dif_pos (show (2 : Fin 3) ∈ gather_S8x1024x2816_S72x1_S72x1024x2816_12_0_n_n_0_1_110242816.sKept by decide), Nat.zero_add]
    rfl

theorem gather_down {α : Type} (x : S8x2816x1024.Idx → α) (s : IVec S72x1 32) (b : Fin 72) (f : Fin 2816) (j : Fin 1024)
    (hs : (s (ix2 b (0 : Fin 1))).toNat < 8) :
    Host.gather gather_S8x2816x1024_S72x1_S72x2816x1024_12_0_n_n_0_1_128161024 x s (ix3 b f j)
      = x (ix3 (expertOf (s (ix2 b (0 : Fin 1)))) f j) := by
  unfold Host.gather
  refine congrArg x (funext fun a => Fin.ext ?_)
  show GatherDims.start _ (ix3 b f j) s a + GatherDims.batchCoord _ (ix3 b f j) a + GatherDims.offCoord _ (ix3 b f j) a = _
  rw [GatherDims.batchCoord_eq_zero _ _ _ List.not_mem_nil]
  have h012 : a = 0 ∨ a = 1 ∨ a = 2 := by
    match a with
    | ⟨0, _⟩ => exact .inl rfl
    | ⟨1, _⟩ => exact .inr (.inl rfl)
    | ⟨2, _⟩ => exact .inr (.inr rfl)
  rcases h012 with rfl | rfl | rfl
  · rw [GatherDims.offCoord_eq_zero _ _ _ (fun h => ((GatherDims.mem_sKept _ _).mp h).1 (List.mem_singleton.mpr rfl))]
    unfold GatherDims.start
    rw [dif_pos (show (0 : Fin 3) ∈ gather_S8x2816x1024_S72x1_S72x2816x1024_12_0_n_n_0_1_128161024.startIndexMap from List.mem_singleton.mpr rfl)]
    have hsi : gather_S8x2816x1024_S72x1_S72x2816x1024_12_0_n_n_0_1_128161024.siIdx (ix3 b f j)
        ⟨List.idxOf (0 : Fin 3) gather_S8x2816x1024_S72x1_S72x2816x1024_12_0_n_n_0_1_128161024.startIndexMap,
          List.idxOf_lt_length_iff.2 (List.mem_singleton.mpr rfl)⟩ = ix2 b (0 : Fin 1) := by
      funext b'; refine Fin.ext ?_
      match b' with
      | ⟨0, _⟩ => rfl
      | ⟨1, _⟩ => rfl
    rw [hsi]
    show min (s (ix2 b (0 : Fin 1))).toInt.toNat (8 - 1) + 0 + 0 = (s (ix2 b (0 : Fin 1))).toNat % 8
    rw [BitVec.toInt_eq_toNat_cond, if_pos (by omega)]
    omega
  · rw [show GatherDims.start gather_S8x2816x1024_S72x1_S72x2816x1024_12_0_n_n_0_1_128161024 (ix3 b f j) s 1 = 0 from dif_neg (by decide)]
    unfold GatherDims.offCoord
    rw [dif_pos (show (1 : Fin 3) ∈ gather_S8x2816x1024_S72x1_S72x2816x1024_12_0_n_n_0_1_128161024.sKept by decide), Nat.zero_add]
    rfl
  · rw [show GatherDims.start gather_S8x2816x1024_S72x1_S72x2816x1024_12_0_n_n_0_1_128161024 (ix3 b f j) s 2 = 0 from dif_neg (by decide)]
    unfold GatherDims.offCoord
    rw [dif_pos (show (2 : Fin 3) ∈ gather_S8x2816x1024_S72x1_S72x2816x1024_12_0_n_n_0_1_128161024.sKept by decide), Nat.zero_add]
    rfl

/-- A word below eight is not negative, so it is the index itself. -/
theorem select_small (w : BitVec 32) (h : w.toNat < 8) :
    Scalar.select (IntOp.cmpi .slt w 0#32) (IntOp.addi w 8#32) w = w := by
  have hw : w.toInt = w.toNat := by rw [BitVec.toInt_eq_toNat_cond, if_pos (by omega)]
  have h0 : (0#32 : BitVec 32).toInt = 0 := by decide
  have hc : IntOp.cmpi .slt w 0#32 = 0#1 := by
    show BitVec.ofBool (BitVec.slt w 0#32) = 0#1
    rw [BitVec.slt, hw, h0, decide_eq_false (by omega)]; rfl
  rw [hc]; rfl

variable (e : IVec S72 32) (he : ∀ b : Fin 72, (e (ix1 b)).toNat < 8)

include he in
theorem start_gate (b : Fin 72) : val_main_v8 (F := Ideal) e (ix2 b (0 : Fin 1)) = e (ix1 b) :=
  (val_main_v8_apply (F := Ideal) e _).trans ((congrArg _ (eq_ix1 _)).trans (select_small _ (he b)))
include he in
theorem start_up (b : Fin 72) : val_main_v17 (F := Ideal) e (ix2 b (0 : Fin 1)) = e (ix1 b) :=
  (val_main_v17_apply (F := Ideal) e _).trans ((congrArg _ (eq_ix1 _)).trans (select_small _ (he b)))
include he in
theorem start_down (b : Fin 72) : val_main_v26 (F := Ideal) e (ix2 b (0 : Fin 1)) = e (ix1 b) :=
  (val_main_v26_apply (F := Ideal) e _).trans ((congrArg _ (eq_ix1 _)).trans (select_small _ (he b)))

/-- The first layer's weights, sliced and without their leading axis. -/
theorem gate_slice (w : FVec Ideal S2x8x1024x2816 .f32) (q : Fin 8) (k : Fin 1024) (f : Fin 2816) :
    val_main_v2 (F := Ideal) w (ix3 q k f) = w (ix4 0 q k f) := by
  pointwise [val_main_v2, val_main_v1]
theorem up_slice (w : FVec Ideal S2x8x1024x2816 .f32) (q : Fin 8) (k : Fin 1024) (f : Fin 2816) :
    val_main_v11 (F := Ideal) w (ix3 q k f) = w (ix4 0 q k f) := by
  pointwise [val_main_v11, val_main_v10]
theorem down_slice (w : FVec Ideal S2x8x2816x1024 .f32) (q : Fin 8) (f : Fin 2816) (j : Fin 1024) :
    val_main_v20 (F := Ideal) w (ix3 q f j) = w (ix4 0 q f j) := by
  pointwise [val_main_v20, val_main_v19]

include he in
theorem gate_at (w : FVec Ideal S2x8x1024x2816 .f32) (b : Fin 72) (k : Fin 1024) (f : Fin 2816) :
    val_main_v9 (F := Ideal) e w (ix3 b k f) = w (ix4 0 (expertOf (e (ix1 b))) k f) := by
  have h := start_gate e he b
  refine (gather_up _ _ b k f (by rw [h]; exact he b)).trans ?_
  rw [h]; exact gate_slice w _ k f
include he in
theorem up_at (w : FVec Ideal S2x8x1024x2816 .f32) (b : Fin 72) (k : Fin 1024) (f : Fin 2816) :
    val_main_v18 (F := Ideal) e w (ix3 b k f) = w (ix4 0 (expertOf (e (ix1 b))) k f) := by
  have h := start_up e he b
  refine (gather_up _ _ b k f (by rw [h]; exact he b)).trans ?_
  rw [h]; exact up_slice w _ k f
include he in
theorem down_at (w : FVec Ideal S2x8x2816x1024 .f32) (b : Fin 72) (f : Fin 2816) (j : Fin 1024) :
    val_main_v27 (F := Ideal) e w (ix3 b f j) = w (ix4 0 (expertOf (e (ix1 b))) f j) := by
  have h := start_down e he b
  refine (gather_down _ _ b f j (by rw [h]; exact he b)).trans ?_
  rw [h]; exact down_slice w _ f j

/-! ## The network -/

/-- A block's tokens. -/
theorem tokens (xs : FVec Ideal S36864x1024 .f32) (T : Fin 36864) (b : Fin 72) (r : Fin 512) (hT : T.val = b.val * 512 + r.val) (k : Fin 1024) :
    val_main_v0 (F := Ideal) xs (ix3 b r k) = xs (ix2 T k) := by
  refine (val_main_v0_apply (F := Ideal) xs _).trans (congrArg xs (funext fun a => Fin.ext ?_))
  match a with
  | ⟨0, _⟩ => show ((b.val * 512 + r.val) * 1024 + k.val) / 1024 = T.val; omega
  | ⟨1, _⟩ => show ((b.val * 512 + r.val) * 1024 + k.val) % 1024 = k.val; omega

include he in
/-- The reference's gated hidden column. -/
theorem hidden (xs : FVec Ideal S36864x1024 .f32) (wg wu : FVec Ideal S2x8x1024x2816 .f32) (T : Fin 36864) (b : Fin 72) (r : Fin 512)
    (hT : T.val = b.val * 512 + r.val) (f : Fin 2816) :
    val_main_v31 (F := Ideal) xs e wg wu (ix3 b r f)
      = hid (fun k => xs (ix2 T k)) (fun k => wg (ix4 0 (expertOf (e (ix1 b))) k f)) (fun k => wu (ix4 0 (expertOf (e (ix1 b))) k f)) := by
  have eg : val_main_v28 (F := Ideal) xs e wg (ix3 b r f) = ∑ k, xs (ix2 T k) * wg (ix4 0 (expertOf (e (ix1 b))) k f) :=
    (val_main_v28_apply xs e wg _).trans (Finset.sum_congr rfl fun k _ => congrArg₂ (· * ·)
      ((congrArg _ (eq_ix3 _)).trans (tokens xs T b r hT k)) ((congrArg _ (eq_ix3 _)).trans (gate_at e he wg b k f)))
  have eu : val_main_v30 (F := Ideal) xs e wu (ix3 b r f) = ∑ k, xs (ix2 T k) * wu (ix4 0 (expertOf (e (ix1 b))) k f) :=
    (val_main_v30_apply xs e wu _).trans (Finset.sum_congr rfl fun k _ => congrArg₂ (· * ·)
      ((congrArg _ (eq_ix3 _)).trans (tokens xs T b r hT k)) ((congrArg _ (eq_ix3 _)).trans (up_at e he wu b k f)))
  have one : Ideal.ofBits .f32 0x3F800000#32 = 1 := Cert.Kernel2Ideal.Ffn.one_bits
  rw [hid, act, div_eq_mul_logistic, ← eg, ← eu, ← one]
  rfl

include he in
/-- A block's rows, before the blocks that are not in use are set to zero. -/
theorem block (xs : FVec Ideal S36864x1024 .f32) (wg wu : FVec Ideal S2x8x1024x2816 .f32) (wd : FVec Ideal S2x8x2816x1024 .f32)
    (T : Fin 36864) (b : Fin 72) (r : Fin 512) (hT : T.val = b.val * 512 + r.val) (j : Fin 1024) :
    val_main_v32 (F := Ideal) xs e wg wu wd (ix3 b r j)
      = glu (fun k => xs (ix2 T k)) (fun k f => wg (ix4 0 (expertOf (e (ix1 b))) k f)) (fun k f => wu (ix4 0 (expertOf (e (ix1 b))) k f))
          (fun f => wd (ix4 0 (expertOf (e (ix1 b))) f j)) :=
  (val_main_v32_apply xs e wg wu wd _).trans (Finset.sum_congr rfl fun f _ => congrArg₂ (· * ·)
    ((congrArg _ (eq_ix3 _)).trans (hidden e he xs wg wu T b r hT f)) ((congrArg _ (eq_ix3 _)).trans (down_at e he wd b f j)))

/-- The mask of the blocks in use. -/
theorem mask (n : IVec S1 32) (hn : (n (ix1 (0 : Fin 1))).toNat < 2 ^ 31) (b : Fin 72) (r : Fin 512) (j : Fin 1024) :
    val_main_call1_v1 (F := Ideal) n (ix3 b r j) = BitVec.ofBool (decide (b.val < (n (ix1 (0 : Fin 1))).toNat)) := by
  have h34 : val_main_v34 (F := Ideal) n = fun _ => n (ix1 (0 : Fin 1)) := by
    funext i
    unfold val_main_v34
    exact shapeCast_apply n shapeCasts_S1_S_ i (ix1 (0 : Fin 1)) (by rfl)
  rw [← slt_block b.val b.isLt _ hn]
  refine (val_main_call1_v1_apply (F := Ideal) n _).trans ((val_main_v37_apply (F := Ideal) n _).trans ?_)
  refine (val_main_v36_apply (F := Ideal) n _).trans ?_
  rw [val_main_v35_apply, h34]
  rfl

include he in
/-- THE REFERENCE'S RESULT ARRAY, where every block's expert is one of the eight. -/
theorem value (xs : FVec Ideal S36864x1024 .f32) (n : IVec S1 32) (hn : (n (ix1 (0 : Fin 1))).toNat < 2 ^ 31)
    (wg wu : FVec Ideal S2x8x1024x2816 .f32) (wd : FVec Ideal S2x8x2816x1024 .f32) :
    val_main_v39 (F := Ideal) xs e n wg wu wd = result xs e n wg wu wd := by
  funext i
  obtain ⟨T, j, rfl⟩ : ∃ (T : Fin 36864) (j : Fin 1024), i = ix2 T j := ⟨i 0, i 1, eq_ix2 i⟩
  obtain ⟨r, hr⟩ : ∃ r : Fin 512, T.val = (blockOf T).val * 512 + r.val :=
    ⟨⟨T.val % 512, Nat.mod_lt _ (by decide)⟩, by show T.val = T.val / 512 * 512 + T.val % 512; omega⟩
  have hi : idx_main_v39 (ix2 T j) = ix3 (blockOf T) r j := funext fun a => Fin.ext (by
    have hj : j.val < 1024 := j.isLt
    have hrl : r.val < 512 := r.isLt
    have hb : (blockOf T).val = T.val / 512 := rfl
    match a with
    | ⟨0, _⟩ => show (T.val * 1024 + j.val) / 524288 = (blockOf T).val; omega
    | ⟨1, _⟩ => show (T.val * 1024 + j.val) / 1024 % 512 = r.val; omega
    | ⟨2, _⟩ => show (T.val * 1024 + j.val) % 1024 = j.val; omega)
  refine (val_main_v39_apply (F := Ideal) xs e n wg wu wd _).trans ?_
  rw [hi, val_main_v38_apply, mask n hn, block e he xs wg wu wd T (blockOf T) r hr j]
  have hz : val_main_call1_v2 (F := Ideal) (ix3 (blockOf T) r j) = 0 := by
    refine (val_main_call1_v2_apply (F := Ideal) _).trans ?_
    show Ideal.ofBits .f32 0x00000000#32 = 0
    norm_num [Ideal.ofBits, Ideal.ieee]
  rw [hz]
  unfold result
  by_cases h : (blockOf T).val < (n (ix1 (0 : Fin 1))).toNat
  · rw [decide_eq_true h]; exact (if_pos h).symm
  · rw [decide_eq_false h]; exact (if_neg h).symm

/-- The reference ends with its arguments unchanged and every counter at zero. -/
theorem frame (m : (ℓ : Loc nD τ sig) → Buf (Elt Ideal) ℓ) (ρ : Dev nD → PrngReg) :
    θ_run (defs (F := Ideal)) (onTc (τ := τ) (main (F := Ideal))) ⟨m, fun _ => 0, ρ⟩ (fun r => (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5))
      ∧ r.2.sem = fun _ => 0) :=
  (θ_run defs _ _).mono (fun r h => ⟨fun c => (h c).2, Idealize.ShloMosaic.sem_eq_zero_of_no_sems (by decide) r.2⟩)
    (Value.run (F := Ideal) m ρ)

end Cert.Reference3Ideal.Moe

end
-- ==== Proof.MoeValue.lean ====
/- The expert call: kernel and reference compute the same array, and the frames of the two programs. -/
module

public import proofs.«01_k».proof.Proof.MoeArray
public import proofs.«01_k».proof.Proof.MoeRef
public import proofs.«01_k».proof.Proof.Gen.Kernel3

@[expose] public section

noncomputable section

namespace Cert.Kernel3Ideal.Moe

open Idealize.ShloMosaic Idealize.ShloMosaic.TcCoe Idealize.SL.Sem

set_option maxHeartbeats 2000000

/-- The bodies of the two programs are the same text: equal for each label and its arguments. -/
theorem bodies_eq : Cert.Kernel3.defs₀ (F := Bits) = Cert.Kernel3Ideal.defs₀ (F := Bits) := by
  unfold Cert.Kernel3.defs₀ Cert.Kernel3Ideal.defs₀
  refine congrArg Defs.onTc (funext fun l => funext fun x => ?_)
  match l, x with
  | ⟨0, _⟩, (t, s) => rfl
  | ⟨n + 1, h⟩, _ => exact absurd h (Nat.not_lt.2 (Nat.le_add_left _ _))

/-- So are the pipelines around them. -/
theorem defs_eq : Cert.Kernel3.defs (F := Bits) = Cert.Kernel3Ideal.defs (F := Bits) :=
  congrArg (Pipeline.defs (Cert.Kernel3.pcfgs (F := Bits))) bodies_eq

/-- Good tables of the kernel are good tables of the idealized one, over any float values. -/
theorem ok_kernel (m : (ℓ : Loc Cert.Kernel3.nD Cert.Kernel3.τ Cert.Kernel3.sig) → Buf (Elt Bits) ℓ)
    (h : Cert.Pre_Kernel3 (hPre_routed := Cert.Pre_routed.Gen.facts) m) : Ok (F := Bits) m := ok_of_routed m (h 0)

/-- The frame of the kernel as it is run: the idealized program's text is the same, and its run is over any float values. -/
theorem frame_kernel : Cert.quiescent_Kernel3 (hKernel3 := Cert.Kernel3.Gen.facts) (hPre_routed := Cert.Pre_routed.Gen.facts) := by
  intro m ρ h
  rw [defs_eq]
  exact frame (F := Bits) m ρ (ok_kernel m h)

/-- The frame of the idealized kernel. -/
theorem frame_ideal : Cert.quiescent_Kernel3Ideal (hKernel3Ideal := Cert.Kernel3Ideal.Gen.facts) (hPre_routed := Cert.Pre_routed.Gen.facts) :=
  fun m ρ h => frame (F := Ideal) m ρ (ok_of_routed m (h 0))

/-- KERNEL AND REFERENCE COMPUTE THE SAME ARRAY, from any tables that count at least one block and name experts of the eight. -/
theorem algebraic : Cert.algebraic_Kernel3Ideal_Reference3Ideal (hKernel3Ideal := Cert.Kernel3Ideal.Gen.facts)
    (hReference3Ideal := Cert.Reference3Ideal.Gen.facts) (hPre_routed := Cert.Pre_routed.Gen.facts) := by
  intro m g m' g' hpre hargs
  have hn := fun c : Dev Cert.Kernel3Ideal.nD => routed_used (hpre c).2 (ix1 (0 : Fin 1))
  have he := fun (c : Dev Cert.Kernel3Ideal.nD) (b : Fin 72) => routed_expert (hpre c).1 (ix1 b)
  refine ⟨_, run m g (hn 0).1 (hn 0).2 (he 0), ?_⟩
  refine (θ_run Cert.Reference3Ideal.defs _ _).mono (fun r h c => ⟨?_, (h c).2⟩) (Cert.Reference3Ideal.Value.run (F := Ideal) m' g')
  obtain ⟨e0, e1, e2, e3, e4, e5⟩ := hargs c
  refine (h c).1.trans ((Cert.Reference3Ideal.Read.val_main_v39_eq _ _ _ _ _ _).trans ?_)
  rw [e0, e1, e2, e3, e4, e5]
  exact Cert.Reference3Ideal.Moe.value _ (he c) _ _ (hn c).2 _ _ _

end Cert.Kernel3Ideal.Moe

end
-- ==== Proof.Norm.lean ====
/- The root-mean-square norm of a row over the extended reals, and a head's sum of squares read off a block-diagonal
   matrix of ones. -/
module

public import Idealize.ShloMosaic.Lib.Pointwise
public import Idealize.ShloMosaic.PureOps.Ideal

@[expose] public section

noncomputable section

namespace Cert.Norm

open Idealize.ShloMosaic

/-- The constant added to the mean of squares. -/
def eps : EReal := Ideal.ofBits .f32 0x358637BD#32

/-- The two row lengths. -/
def w1024 : EReal := Ideal.ofBits .f32 0x44800000#32
def w64 : EReal := Ideal.ofBits .f32 0x42800000#32

/-- Entry `k` of a row `x` over its root mean square, times a gain `g`; `d` is the row's length. -/
def normed {n : Nat} (d : EReal) (x : Fin n → EReal) (k : Fin n) (g : EReal) : EReal :=
  x k * Ideal.rsqrt (Ideal.div (∑ j, x j * x j) d + eps) * g

/-- One column of the projection of a normed row. -/
def proj (x g w : Fin 1024 → EReal) : EReal := ∑ k, normed w1024 x k (g k) * w k

/-- A lane of the projection's columns from `o` on. -/
def plain {n : Nat} (o : Nat) (ho : o + n ≤ 2560) (x g : Fin 1024 → EReal) (w : Fin 1024 → Fin 2560 → EReal) (c : Fin n) : EReal :=
  proj x g fun k => w k ⟨o + c.val, by omega⟩

/-- A lane of those columns after the norm of its own head of 64 columns, times a gain. -/
def lane {n : Nat} (o : Nat) (ho : o + n ≤ 2560) (hn : 64 ∣ n) (x g : Fin 1024 → EReal) (w : Fin 1024 → Fin 2560 → EReal) (gain : EReal)
    (c : Fin n) : EReal :=
  normed w64 (fun d : Fin 64 => proj x g fun k => w k ⟨o + (64 * (c.val / 64) + d.val), by omega⟩) ⟨c.val % 64, by omega⟩ gain

/-- A factor of the gain is a factor of the lane. -/
theorem lane_mul {n : Nat} (o : Nat) (ho : o + n ≤ 2560) (hn : 64 ∣ n) (x g : Fin 1024 → EReal) (w : Fin 1024 → Fin 2560 → EReal)
    (a b : EReal) (c : Fin n) : lane o ho hn x g w (a * b) c = lane o ho hn x g w a c * b :=
  (mul_assoc _ _ _).symm

/-- A product with 1/64 is the quotient by 64. -/
theorem mul_inv64 (s : EReal) : s * Ideal.ofBits .f32 0x3C800000#32 = Ideal.div s w64 := by
  have h1 : Ideal.ofBits .f32 0x3C800000#32 = ((1 / 64 : ℝ) : EReal) := by
    simp [Ideal.ofBits, Ideal.ieee]; rw [← EReal.coe_mul]; norm_num
  have h2 : w64 = ((64 : ℝ) : EReal) := by
    simp [w64, Ideal.ofBits, Ideal.ieee]; rw [← EReal.coe_mul]; norm_num
  have h0 : ((64 : ℝ) : EReal) ≠ 0 := by exact_mod_cast (by norm_num : (64 : ℝ) ≠ 0)
  rw [Ideal.div, h1, h2, if_neg h0, ← EReal.coe_inv]
  norm_num

/-- A sum over 256 lanes with the ones of a lane's own head is the sum over that head. -/
theorem head_sum (f : Fin 256 → EReal) (c : Fin 256) :
    ∑ j : Fin 256, f j * (if j.val / 64 = c.val / 64 then 1 else 0) = ∑ d : Fin 64, f ⟨64 * (c.val / 64) + d.val, by omega⟩ := by
  simp only [mul_ite, mul_one, mul_zero]
  rw [← Finset.sum_filter]
  symm
  refine Finset.sum_bij (fun d _ => ⟨64 * (c.val / 64) + d.val, by omega⟩) ?_ ?_ ?_ ?_
  · intro d _
    refine Finset.mem_filter.2 ⟨Finset.mem_univ _, ?_⟩
    show (64 * (c.val / 64) + d.val) / 64 = c.val / 64
    omega
  · intro a _ b _ h
    have : 64 * (c.val / 64) + a.val = 64 * (c.val / 64) + b.val := congrArg Fin.val h
    exact Fin.ext (by omega)
  · intro j hj
    have := (Finset.mem_filter.1 hj).2
    exact ⟨⟨j.val % 64, by omega⟩, Finset.mem_univ _, Fin.ext (by show 64 * (c.val / 64) + j.val % 64 = j.val; omega)⟩
  · intro d _
    rfl

end Cert.Norm

end
-- ==== Proof.ProjBlock.lean ====
/- One grid point of the input projection at the ideal numbers. -/
module

public import proofs.«01_k».proof.Proof.Gen.Kernel4Ideal.Value
public import proofs.«01_k».proof.Proof.Norm
public import Idealize.ShloMosaic.Lib.Pointwise
public import Idealize.ShloMosaic.Lib.Pipeline.ValueKit
public import Idealize.ShloMosaic.Lib.Pipeline.ValueKit.Tiles

@[expose] public section

set_option maxRecDepth 16384

noncomputable section

namespace Cert.Kernel4Ideal.Proj

open Idealize.ShloMosaic Idealize.ShloMosaic.TcCoe Idealize.SL.Sem
open Cert.Kernel4Ideal Cert.Kernel4Ideal.Gen Cert.Norm

/-- The projection of the block's normed rows. -/
theorem pay4_apply (X : Vec Ideal S512x1024 .f32) (G : Vec Ideal S1x1024 .f32) (W : Vec Ideal S1024x2560 .bf16) (r : Fin 512) (e : Fin 2560) :
    k0_pay4 (F := Ideal) X G W (ix2 r e) = proj (fun k => X (ix2 r k)) (fun k => G (ix2 0 k)) (fun k => W (ix2 k e)) := by
  pointwise [k0_pay4]
  rfl

/-- The matrix of ones on the heads' blocks. -/
def Heads (M : Vec Ideal S256x256 .bf16) : Prop := ∀ j c : Fin 256, M (ix2 j c) = if j.val / 64 = c.val / 64 then 1 else 0

/-- The columns of a lane's own head. -/
def own256 (P : Vec Ideal S512x256 .f32) (r : Fin 512) (c : Fin 256) (d : Fin 64) : EReal := P (ix2 r ⟨64 * (c.val / 64) + d.val, by omega⟩)
def own512 (P : Vec Ideal S512x512 .f32) (r : Fin 512) (c : Fin 512) (d : Fin 64) : EReal := P (ix2 r ⟨64 * (c.val / 64) + d.val, by omega⟩)

/-- The norm of each head of a block of four. -/
theorem pay8_apply (M : FVec Ideal S256x256 .bf16) (hM : Heads M) (P : FVec Ideal S512x256 .f32) (G : Vec Ideal S1x256 .f32) (r : Fin 512) (c : Fin 256) :
    k0_pay8 (F := Ideal) M P G (ix2 r c) = normed w64 (own256 P r c) ⟨c.val % 64, by omega⟩ (G (ix2 0 c)) := by
  pointwise [k0_pay8]
  show _ = own256 P r c ⟨c.val % 64, _⟩ * Ideal.rsqrt (Ideal.div (∑ j, own256 P r c j * own256 P r c j) w64 + eps) * _
  have hs : (∑ x, P (ix2 r x) * P (ix2 r x) * M (ix2 x c)) = ∑ j, own256 P r c j * own256 P r c j := by
    simp only [hM _ _]
    exact head_sum (fun x => P (ix2 r x) * P (ix2 r x)) c
  have hp : own256 P r c ⟨c.val % 64, by omega⟩ = P (ix2 r c) :=
    congrArg (fun k => P (ix2 r k)) (Fin.ext (by show 64 * (c.val / 64) + c.val % 64 = c.val; omega))
  rw [hs, mul_inv64, hp]
  rfl

/-- The norm of each head of a block of eight: the ones cover four heads, twice. -/
theorem pay1_apply (M : FVec Ideal S256x256 .bf16) (hM : Heads M) (P : FVec Ideal S512x512 .f32) (G : Vec Ideal S1x512 .f32) (r : Fin 512) (c : Fin 512) :
    k0_pay1 (F := Ideal) M P G (ix2 r c) = normed w64 (own512 P r c) ⟨c.val % 64, by omega⟩ (G (ix2 0 c)) := by
  pointwise [k0_pay1]
  show _ = own512 P r c ⟨c.val % 64, _⟩ * Ideal.rsqrt (Ideal.div (∑ j, own512 P r c j * own512 P r c j) w64 + eps) * _
  have hs : (if h : c.val < 256 then ∑ x : Fin 256, P (ix2 r ⟨x.val, by omega⟩) * P (ix2 r ⟨x.val, by omega⟩) * M (ix2 x ⟨c.val, h⟩)
      else ∑ x : Fin 256, P (ix2 r ⟨256 + x.val, by omega⟩) * P (ix2 r ⟨256 + x.val, by omega⟩) * M (ix2 x ⟨c.val - 256, by omega⟩))
      = ∑ j, own512 P r c j * own512 P r c j := by
    simp only [hM _ _]
    split
    · next h =>
      exact head_sum (fun x => P (ix2 r ⟨x.val, by omega⟩) * P (ix2 r ⟨x.val, by omega⟩)) ⟨c.val, h⟩
    · next h =>
      refine (head_sum (fun x => P (ix2 r ⟨256 + x.val, by omega⟩) * P (ix2 r ⟨256 + x.val, by omega⟩)) ⟨c.val - 256, by omega⟩).trans
        (Finset.sum_congr rfl fun d _ => ?_)
      have he : P (ix2 r ⟨256 + (64 * ((c.val - 256) / 64) + d.val), by omega⟩) = own512 P r c d :=
        congrArg (fun k => P (ix2 r k)) (Fin.ext (by show 256 + (64 * ((c.val - 256) / 64) + d.val) = 64 * (c.val / 64) + d.val; omega))
      exact congrArg₂ (· * ·) he he
  have hp : own512 P r c ⟨c.val % 64, by omega⟩ = P (ix2 r c) :=
    congrArg (fun k => P (ix2 r k)) (Fin.ext (by show 64 * (c.val / 64) + c.val % 64 = c.val; omega))
  rw [hs, mul_inv64, hp]
  rfl

/-- A whole block read back. -/
theorem ld_whole {s : Shape} {φ : EltTy} (x : Vec Ideal s φ) (o : Fin s.rank → Nat) (ho : ∀ a, o a = 0) (h) :
    View.ld x (Rect.unit (s := s) o s.size h) = x :=
  funext fun y => View.ld_unit_apply_of x _ _ _ _ y fun a => by rw [ho a]; exact (Nat.zero_add _).symm

section

variable (X : Vec Ideal S512x1024 .f32) (G : Vec Ideal S1x1024 .f32) (W : Vec Ideal S1024x2560 .bf16) (gq gk : Vec Ideal S1x256 .f32)
  (cq ck : Vec Ideal S1x512 .f32) (M : Vec Ideal S256x256 .bf16) (r : Fin 512)

theorem ldX : View.ld X r0_0 = X := ld_whole X _ (by decide) _
theorem ldG : View.ld G r0_1 = G := ld_whole G _ (by decide) _
theorem ldW : View.ld W r0_2 = W := ld_whole W _ (by decide) _
theorem ldM : View.ld M r0_3 = M := ld_whole M _ (by decide) _
theorem ldg : View.ld gq r0_4 = gq := ld_whole gq _ (by decide) _
theorem ldc : View.ld cq r0_6 = cq := ld_whole cq _ (by decide) _

theorem pay5_eq : k0_pay5 (F := Ideal) M = M := shapeCast_self M _

/-- The projection's columns of `q_sb`. -/
theorem cols8 (c : Fin 256) : extractStridedSlice S512x256 ![0, 0] (k0_pay4 (F := Ideal) X G W) slices_S512x2560_o0_0_S512x256 (ix2 r c)
    = proj (fun k => X (ix2 r k)) (fun k => G (ix2 0 k)) (fun k => W (ix2 k ⟨0 + c.val, by omega⟩)) := by
  refine Eq.trans ?_ (pay4_apply X G W r ⟨0 + c.val, by omega⟩)
  pointwise []

/-- Their heads, normed. -/
theorem lanes8 (hM : Heads M) (c : Fin 256) :
    k0_pay8 (F := Ideal) (k0_pay5 (F := Ideal) M) (extractStridedSlice S512x256 ![0, 0] (k0_pay4 (F := Ideal) X G W) slices_S512x2560_o0_0_S512x256) gq (ix2 r c)
      = lane 0 (by omega) (by decide) (fun k => X (ix2 r k)) (fun k => G (ix2 0 k)) (fun k e => W (ix2 k e)) (gq (ix2 0 c)) c := by
  rw [pay5_eq, pay8_apply M hM]
  exact congrArg (fun f => normed w64 f _ _) (funext fun d => cols8 X G W r ⟨64 * (c.val / 64) + d.val, by omega⟩)

/-- The stored block of `q_sb`. -/
theorem out8_apply (hM : Heads M) (c : Fin 256) : out0_8 (F := Ideal) X G W gq gk cq ck M (ix2 r c)
    = lane 0 (by omega) (by decide) (fun k => X (ix2 r k)) (fun k => G (ix2 0 k)) (fun k e => W (ix2 k e)) (gq (ix2 0 c)) c := by
  refine Eq.trans ?_ (lanes8 X G W gq M r hM c)
  unfold_out out0_8
  rw [ldX, ldG, ldW, ldM, ldg]
  canon_tiles x e
  idx_vars x
  obtain rfl : r = x0 := Fin.ext e0
  obtain rfl : c = x1 := Fin.ext e1
  rfl

/-- The projection's columns of `k_sb`. -/
theorem cols9 (c : Fin 256) : extractStridedSlice S512x256 ![0, 256] (k0_pay4 (F := Ideal) X G W) slices_S512x2560_o0_256_S512x256 (ix2 r c)
    = proj (fun k => X (ix2 r k)) (fun k => G (ix2 0 k)) (fun k => W (ix2 k ⟨256 + c.val, by omega⟩)) := by
  refine Eq.trans ?_ (pay4_apply X G W r ⟨256 + c.val, by omega⟩)
  pointwise []

/-- Their heads, normed. -/
theorem lanes9 (hM : Heads M) (c : Fin 256) :
    k0_pay8 (F := Ideal) (k0_pay5 (F := Ideal) M) (extractStridedSlice S512x256 ![0, 256] (k0_pay4 (F := Ideal) X G W) slices_S512x2560_o0_256_S512x256) gk (ix2 r c)
      = lane 256 (by omega) (by decide) (fun k => X (ix2 r k)) (fun k => G (ix2 0 k)) (fun k e => W (ix2 k e)) (gk (ix2 0 c)) c := by
  rw [pay5_eq, pay8_apply M hM]
  exact congrArg (fun f => normed w64 f _ _) (funext fun d => cols9 X G W r ⟨64 * (c.val / 64) + d.val, by omega⟩)

/-- The stored block of `k_sb`. -/
theorem out9_apply (hM : Heads M) (c : Fin 256) : out0_9 (F := Ideal) X G W gq gk cq ck M (ix2 r c)
    = lane 256 (by omega) (by decide) (fun k => X (ix2 r k)) (fun k => G (ix2 0 k)) (fun k e => W (ix2 k e)) (gk (ix2 0 c)) c := by
  refine Eq.trans ?_ (lanes9 X G W gk M r hM c)
  unfold_out out0_9
  rw [ldX, ldG, ldW, ldM, ldg]
  canon_tiles x e
  idx_vars x
  obtain rfl : r = x0 := Fin.ext e0
  obtain rfl : c = x1 := Fin.ext e1
  rfl

/-- The projection's columns of `q_ca`. -/
theorem cols11 (c : Fin 512) : extractStridedSlice S512x512 ![0, 768] (k0_pay4 (F := Ideal) X G W) slices_S512x2560_o0_768_S512x512 (ix2 r c)
    = proj (fun k => X (ix2 r k)) (fun k => G (ix2 0 k)) (fun k => W (ix2 k ⟨768 + c.val, by omega⟩)) := by
  refine Eq.trans ?_ (pay4_apply X G W r ⟨768 + c.val, by omega⟩)
  pointwise []

/-- Their heads, normed. -/
theorem lanes11 (hM : Heads M) (c : Fin 512) :
    k0_pay1 (F := Ideal) (k0_pay5 (F := Ideal) M) (extractStridedSlice S512x512 ![0, 768] (k0_pay4 (F := Ideal) X G W) slices_S512x2560_o0_768_S512x512) cq (ix2 r c)
      = lane 768 (by omega) (by decide) (fun k => X (ix2 r k)) (fun k => G (ix2 0 k)) (fun k e => W (ix2 k e)) (cq (ix2 0 c)) c := by
  rw [pay5_eq, pay1_apply M hM]
  exact congrArg (fun f => normed w64 f _ _) (funext fun d => cols11 X G W r ⟨64 * (c.val / 64) + d.val, by omega⟩)

/-- The stored block of `q_ca`. -/
theorem out11_apply (hM : Heads M) (c : Fin 512) : out0_11 (F := Ideal) X G W gq gk cq ck M (ix2 r c)
    = lane 768 (by omega) (by decide) (fun k => X (ix2 r k)) (fun k => G (ix2 0 k)) (fun k e => W (ix2 k e)) (cq (ix2 0 c)) c := by
  refine Eq.trans ?_ (lanes11 X G W cq M r hM c)
  unfold_out out0_11
  rw [ldX, ldG, ldW, ldM, ldc]
  canon_tiles x e
  idx_vars x
  obtain rfl : r = x0 := Fin.ext e0
  obtain rfl : c = x1 := Fin.ext e1
  rfl

/-- The projection's columns of `k_ca`. -/
theorem cols12 (c : Fin 512) : extractStridedSlice S512x512 ![0, 1280] (k0_pay4 (F := Ideal) X G W) slices_S512x2560_o0_1280_S512x512 (ix2 r c)
    = proj (fun k => X (ix2 r k)) (fun k => G (ix2 0 k)) (fun k => W (ix2 k ⟨1280 + c.val, by omega⟩)) := by
  refine Eq.trans ?_ (pay4_apply X G W r ⟨1280 + c.val, by omega⟩)
  pointwise []

/-- Their heads, normed. -/
theorem lanes12 (hM : Heads M) (c : Fin 512) :
    k0_pay1 (F := Ideal) (k0_pay5 (F := Ideal) M) (extractStridedSlice S512x512 ![0, 1280] (k0_pay4 (F := Ideal) X G W) slices_S512x2560_o0_1280_S512x512) ck (ix2 r c)
      = lane 1280 (by omega) (by decide) (fun k => X (ix2 r k)) (fun k => G (ix2 0 k)) (fun k e => W (ix2 k e)) (ck (ix2 0 c)) c := by
  rw [pay5_eq, pay1_apply M hM]
  exact congrArg (fun f => normed w64 f _ _) (funext fun d => cols12 X G W r ⟨64 * (c.val / 64) + d.val, by omega⟩)

/-- The stored block of `k_ca`. -/
theorem out12_apply (hM : Heads M) (c : Fin 512) : out0_12 (F := Ideal) X G W gq gk cq ck M (ix2 r c)
    = lane 1280 (by omega) (by decide) (fun k => X (ix2 r k)) (fun k => G (ix2 0 k)) (fun k e => W (ix2 k e)) (ck (ix2 0 c)) c := by
  refine Eq.trans ?_ (lanes12 X G W ck M r hM c)
  unfold_out out0_12
  rw [ldX, ldG, ldW, ldM, ldc]
  canon_tiles x e
  idx_vars x
  obtain rfl : r = x0 := Fin.ext e0
  obtain rfl : c = x1 := Fin.ext e1
  rfl

/-- The stored block of `v_sb`. -/
theorem out10_apply (c : Fin 256) : out0_10 (F := Ideal) X G W gq gk cq ck M (ix2 r c)
    = plain 512 (by omega) (fun k => X (ix2 r k)) (fun k => G (ix2 0 k)) (fun k e => W (ix2 k e)) c := by
  unfold_out out0_10
  rw [ldX, ldG, ldW]
  canon_tiles x e
  idx_vars x
  obtain rfl : r = x0 := Fin.ext e0
  obtain rfl : c = x1 := Fin.ext e1
  refine Eq.trans ?_ (pay4_apply X G W r ⟨512 + c.val, by omega⟩)
  pointwise [k0_pay9]

/-- The stored block of `v_ca`. -/
theorem out13_apply (c : Fin 512) : out0_13 (F := Ideal) X G W gq gk cq ck M (ix2 r c)
    = plain 1792 (by omega) (fun k => X (ix2 r k)) (fun k => G (ix2 0 k)) (fun k e => W (ix2 k e)) c := by
  unfold_out out0_13
  rw [ldX, ldG, ldW]
  canon_tiles x e
  idx_vars x
  obtain rfl : r = x0 := Fin.ext e0
  obtain rfl : c = x1 := Fin.ext e1
  refine Eq.trans ?_ (pay4_apply X G W r ⟨1792 + c.val, by omega⟩)
  pointwise [k0_pay2]

/-- The stored block of `u`. -/
theorem out14_apply (c : Fin 256) : out0_14 (F := Ideal) X G W gq gk cq ck M (ix2 r c)
    = plain 2304 (by omega) (fun k => X (ix2 r k)) (fun k => G (ix2 0 k)) (fun k e => W (ix2 k e)) c := by
  unfold_out out0_14
  rw [ldX, ldG, ldW]
  canon_tiles x e
  idx_vars x
  obtain rfl : r = x0 := Fin.ext e0
  obtain rfl : c = x1 := Fin.ext e1
  refine Eq.trans ?_ (pay4_apply X G W r ⟨2304 + c.val, by omega⟩)
  pointwise [k0_pay3]

end

end Cert.Kernel4Ideal.Proj

end
-- ==== Proof.ProjHost.lean ====
/- What the input projection's region is entered with: the gains tiled over the heads and the matrix of ones. -/
module

public import proofs.«01_k».proof.Proof.ProjBlock

@[expose] public section

set_option maxRecDepth 16384

noncomputable section

namespace Cert.Kernel4Ideal.Proj

open Idealize.ShloMosaic Idealize.ShloMosaic.TcCoe Idealize.SL.Sem
open Cert.Kernel4Ideal Cert.Kernel4Ideal.Gen Cert.Norm

/-- The number of each lane's head, as the region's entry computes it: the lane's number over 64, rounded down. -/
def lanes : S256.Idx → BitVec 32 := iotaInDim S256 32 0
def sixty : S256.Idx → BitVec 32 := broadcastInDim S256 ![] bcast_S_S256 (constantI S_ 32 64#32)
def headNo : S256.Idx → BitVec 32 :=
  select (andi (cmpi .ne (signi lanes) (broadcastInDim S256 ![] bcast_S_S256 (signi (constantI S_ 32 64#32))))
      (cmpi .ne (Host.remsi lanes sixty) (broadcastInDim S256 ![] bcast_S_S256 (constantI S_ 32 0#32))))
    (subi (Host.divsi lanes sixty) (broadcastInDim S256 ![] bcast_S_S256 (constantI S_ 32 1#32))) (Host.divsi lanes sixty)

theorem headNo_apply : ∀ k : Fin 256, headNo (ix1 k) = BitVec.ofNat 32 (k.val / 64) := by decide +kernel

/-- Two lanes' ones: 1 where their heads are the same. -/
def ones : FVec Ideal S256x256 .bf16 :=
  uitofp .bf16 (cmpi .eq (broadcastInDim S256x256 ![0, 1] bcast_S256x1_S256x256_0_1 (broadcastInDim S256x1 ![0] bcast_S256_S256x1_0 headNo))
    (broadcastInDim S256x256 ![0, 1] bcast_S1x256_S256x256_0_1 (broadcastInDim S1x256 ![1] bcast_S256_S1x256_1 headNo)))

/-- A gain tiled over the heads. -/
def tile4 (g : FVec Ideal S64 .f32) : FVec Ideal S1x256 .f32 :=
  shapeCast S1x256 (shapeCast S256 (broadcastInDim S4x64 ![0, 1] bcast_S1x64_S4x64_0_1 (shapeCast S1x64 g shapeCasts_S64_S1x64)) shapeCasts_S4x64_S256)
    shapeCasts_S256_S1x256
def tile8 (g : FVec Ideal S64 .f32) : FVec Ideal S1x512 .f32 :=
  shapeCast S1x512 (shapeCast S512 (broadcastInDim S8x64 ![0, 1] bcast_S1x64_S8x64_0_1 (shapeCast S1x64 g shapeCasts_S64_S1x64)) shapeCasts_S8x64_S512)
    shapeCasts_S512_S1x512

theorem tile4_apply (g : FVec Ideal S64 .f32) (k : Fin 256) : tile4 g (ix2 0 k) = g (ix1 ⟨k.val % 64, by omega⟩) := by
  pointwise [tile4]

theorem tile8_apply (g : FVec Ideal S64 .f32) (k : Fin 512) : tile8 g (ix2 0 k) = g (ix1 ⟨k.val % 64, by omega⟩) := by
  pointwise [tile8]

theorem ones_heads : Heads ones := by
  intro j k
  pointwise [ones]
  simp only [headNo_apply]
  have d : ∀ b : Bool, FloatOps.uitofp (F := Ideal) .bf16 (BitVec.ofBool b) = if b = true then (1 : EReal) else 0 := fun b => by
    cases b
    · exact (congrArg (fun n : ℕ => ((n : ℝ) : EReal)) (show (BitVec.ofBool false).toNat = 0 from rfl)).trans (by simp)
    · exact (congrArg (fun n : ℕ => ((n : ℝ) : EReal)) (show (BitVec.ofBool true).toNat = 1 from rfl)).trans (by simp)
  have e : (BitVec.ofNat 32 (j.val / 64) == BitVec.ofNat 32 (k.val / 64)) = decide (j.val / 64 = k.val / 64) := by
    by_cases h : j.val / 64 = k.val / 64
    · simp [h]
    · rw [decide_eq_false h, beq_eq_false_iff_ne]
      intro h'
      have := congrArg BitVec.toNat h'
      simp only [BitVec.toNat_ofNat] at this
      omega
  refine (d _).trans ?_
  show (if (BitVec.ofNat 32 (j.val / 64) == BitVec.ofNat 32 (k.val / 64)) = true then (1 : EReal) else 0) = _
  rw [e]
  simp only [decide_eq_true_eq]

variable (m : (ℓ : Loc nD τ sig) → Buf (Elt Ideal) ℓ)

/-- The weights are the argument's. -/
theorem V_weights (c : Dev nD) : V (F := Ideal) m c main_v9 = m ((c : Thread nD τ).loc main_arg2) := by
  dsimp only [V, List.flatten_cons, List.flatten_nil, List.append_nil, List.cons_append, List.nil_append, hostOps0, hostOps0_1, hostOps0_2]
  after_results
  rfl

/-- The row gain, as one row. -/
theorem V_gain (c : Dev nD) (k : Fin 1024) : (show FVec Ideal S1x1024 .f32 from V (F := Ideal) m c main_v8) (ix2 0 k)
    = (show FVec Ideal S1024 .f32 from m ((c : Thread nD τ).loc main_arg1)) (ix1 k) := by
  refine Eq.trans (b := shapeCast S1x1024 (show FVec Ideal S1024 .f32 from m ((c : Thread nD τ).loc main_arg1)) shapeCasts_S1024_S1x1024 (ix2 0 k)) ?_ ?_
  · dsimp only [V, List.flatten_cons, List.flatten_nil, List.append_nil, List.cons_append, List.nil_append, hostOps0, hostOps0_1, hostOps0_2]
    after_results
    rfl
  · pointwise []

/-- The queries' gain, with the scale. -/
theorem V_v15 (c : Dev nD) : V (F := Ideal) m c main_v15 = mulf (tile4 (m ((c : Thread nD τ).loc main_arg3))) (broadcastInDim S1x256 ![] bcast_S_S1x256 (constant (F := Ideal) S_ .f32 0x3E38AA3B#32)) := by
  dsimp only [V, List.flatten_cons, List.flatten_nil, List.append_nil, List.cons_append, List.nil_append, hostOps0, hostOps0_1, hostOps0_2]
  after_results
  rfl

/-- The keys' gain. -/
theorem V_v19 (c : Dev nD) : V (F := Ideal) m c main_v19 = tile4 (m ((c : Thread nD τ).loc main_arg4)) := by
  dsimp only [V, List.flatten_cons, List.flatten_nil, List.append_nil, List.cons_append, List.nil_append, hostOps0, hostOps0_1, hostOps0_2]
  after_results
  rfl

/-- The queries' gain, with the scale. -/
theorem V_v25 (c : Dev nD) : V (F := Ideal) m c main_v25 = mulf (tile8 (m ((c : Thread nD τ).loc main_arg5))) (broadcastInDim S1x512 ![] bcast_S_S1x512 (constant (F := Ideal) S_ .f32 0x3E000000#32)) := by
  dsimp only [V, List.flatten_cons, List.flatten_nil, List.append_nil, List.cons_append, List.nil_append, hostOps0, hostOps0_1, hostOps0_2]
  after_results
  rfl

/-- The keys' gain. -/
theorem V_v29 (c : Dev nD) : V (F := Ideal) m c main_v29 = tile8 (m ((c : Thread nD τ).loc main_arg6)) := by
  dsimp only [V, List.flatten_cons, List.flatten_nil, List.append_nil, List.cons_append, List.nil_append, hostOps0, hostOps0_1, hostOps0_2]
  after_results
  rfl

/-- The matrix of ones. -/
theorem V_ones (c : Dev nD) : V (F := Ideal) m c main_v7 = ones := by
  dsimp only [V, List.flatten_cons, List.flatten_nil, List.append_nil, List.cons_append, List.nil_append, hostOps0, hostOps0_1, hostOps0_2]
  after_results
  rfl

end Cert.Kernel4Ideal.Proj

end
-- ==== Proof.ProjRef.lean ====
/- The input projection's plain reference at the ideal numbers. -/
module

public import proofs.«01_k».proof.Proof.Norm
public import proofs.«01_k».proof.Proof.Gen.Reference4Ideal
public import proofs.«01_k».proof.Proof.Gen.Reference4Ideal.Run
public import proofs.«01_k».proof.Proof.Gen.Reference4Ideal.Read
public import Idealize.ShloMosaic.Lib.Pointwise

@[expose] public section

set_option maxRecDepth 16384

noncomputable section

namespace Cert.Reference4Ideal.Proj

open Idealize.ShloMosaic Idealize.ShloMosaic.TcCoe Idealize.SL.Sem
open Cert.Reference4Ideal Cert.Reference4Ideal.Read Cert.Norm

variable (x : FVec Ideal S16384x1024 .f32) (g : FVec Ideal S1024 .f32) (w : FVec Ideal S1024x2560 .f32) (q : FVec Ideal S64 .f32) (t : Fin 16384)

/-- A normed row. -/
theorem row (k : Fin 1024) : val_main_v12 (F := Ideal) x g (ix2 t k) = normed w1024 (fun k => x (ix2 t k)) k (g (ix1 k)) := by
  have e : val_main_v1 (F := Ideal) x (ix1 t) = ∑ j, x (ix2 t j) * x (ix2 t j) :=
    (val_main_v1_apply x _).trans ((congrArg₂ (· + ·) (Ideal.ofBits_zero_f32) rfl).trans ((zero_add _).trans
      (Finset.sum_congr rfl fun j _ => congrArg₂ (· * ·) (congrArg x (eq_ix2 _)) (congrArg x (eq_ix2 _)))))
  pointwise [val_main_v12, val_main_v11, val_main_v10, val_main_v9, val_main_v8, val_main_v7, val_main_v6, val_main_v5, val_main_v4, val_main_v3, val_main_v2, val_main_cst_0, val_main_cst_1]
  rw [e]
  rfl

/-- The projection. -/
theorem col (e : Fin 2560) : val_main_v13 (F := Ideal) x g w (ix2 t e)
    = proj (fun k => x (ix2 t k)) (fun k => g (ix1 k)) (fun k => w (ix2 k e)) :=
  (val_main_v13_apply x g w (ix2 t e)).trans (Finset.sum_congr rfl fun k _ => congrArg₂ (· * ·)
    ((congrArg _ (eq_ix2 _)).trans (row x g t k)) (congrArg w (eq_ix2 _)))

/-- The heads of `q_sb`. -/
theorem head_q_sb (h : Fin 4) (d : Fin 64) : val_main_v15 (F := Ideal) x g w (ix3 t h d)
    = proj (fun k => x (ix2 t k)) (fun k => g (ix1 k)) (fun k => w (ix2 k ⟨0 + (64 * h.val + d.val), by omega⟩)) := by
  refine Eq.trans ?_ (col x g w t ⟨0 + (64 * h.val + d.val), by omega⟩)
  pointwise [val_main_v15, val_main_v14]
  exact congrArg (fun e => val_main_v13 (F := Ideal) x g w (ix2 t e)) (Fin.ext (by show h.val * 64 + d.val = 64 * h.val + d.val; omega))

/-- A head of `q_sb`, normed. -/
theorem norm_q_sb (h : Fin 4) (d : Fin 64) : val_main_v30 (F := Ideal) x g w q (ix3 t h d)
    = normed w64 (fun d => proj (fun k => x (ix2 t k)) (fun k => g (ix1 k)) (fun k => w (ix2 k ⟨0 + (64 * h.val + d.val), by omega⟩))) d (q (ix1 d)) * Ideal.ofBits .f32 0x3E38AA3B#32 := by
  have e : val_main_v17 (F := Ideal) x g w (ix2 t h) = ∑ j, val_main_v15 (F := Ideal) x g w (ix3 t h j) * val_main_v15 (F := Ideal) x g w (ix3 t h j) :=
    (val_main_v17_apply x g w _).trans ((congrArg₂ (· + ·) (Ideal.ofBits_zero_f32) rfl).trans ((zero_add _).trans
      (Finset.sum_congr rfl fun j _ => congrArg₂ (· * ·) (congrArg _ (eq_ix3 _)) (congrArg _ (eq_ix3 _)))))
  pointwise [val_main_v30, val_main_v29, val_main_v28, val_main_v27, val_main_v26, val_main_v25, val_main_v24, val_main_v23, val_main_v22, val_main_v21, val_main_v20, val_main_v19, val_main_v18, val_main_cst_3, val_main_cst_4, val_main_cst_5]
  rw [e]
  simp only [head_q_sb, zero_add]
  rfl

/-- The result `q_sb`. -/
theorem res_q_sb (c : Fin 256) : val_main_v79 (F := Ideal) x g w q (ix2 t c)
    = lane 0 (by omega) (by decide) (fun k => x (ix2 t k)) (fun k => g (ix1 k)) (fun k e => w (ix2 k e)) (q (ix1 ⟨c.val % 64, by omega⟩)) c * Ideal.ofBits .f32 0x3E38AA3B#32 := by
  refine Eq.trans ?_ (norm_q_sb x g w q t ⟨c.val / 64, by omega⟩ ⟨c.val % 64, by omega⟩)
  pointwise [val_main_v79, val_main_v78]

/-- The heads of `k_sb`. -/
theorem head_k_sb (h : Fin 4) (d : Fin 64) : val_main_v32 (F := Ideal) x g w (ix3 t h d)
    = proj (fun k => x (ix2 t k)) (fun k => g (ix1 k)) (fun k => w (ix2 k ⟨256 + (64 * h.val + d.val), by omega⟩)) := by
  refine Eq.trans ?_ (col x g w t ⟨256 + (64 * h.val + d.val), by omega⟩)
  pointwise [val_main_v32, val_main_v31]
  exact congrArg (fun e => val_main_v13 (F := Ideal) x g w (ix2 t e)) (Fin.ext (by show 256 + (h.val * 64 + d.val) = 256 + (64 * h.val + d.val); omega))

/-- A head of `k_sb`, normed. -/
theorem norm_k_sb (h : Fin 4) (d : Fin 64) : val_main_v45 (F := Ideal) x g w q (ix3 t h d)
    = normed w64 (fun d => proj (fun k => x (ix2 t k)) (fun k => g (ix1 k)) (fun k => w (ix2 k ⟨256 + (64 * h.val + d.val), by omega⟩))) d (q (ix1 d)) := by
  have e : val_main_v34 (F := Ideal) x g w (ix2 t h) = ∑ j, val_main_v32 (F := Ideal) x g w (ix3 t h j) * val_main_v32 (F := Ideal) x g w (ix3 t h j) :=
    (val_main_v34_apply x g w _).trans ((congrArg₂ (· + ·) (Ideal.ofBits_zero_f32) rfl).trans ((zero_add _).trans
      (Finset.sum_congr rfl fun j _ => congrArg₂ (· * ·) (congrArg _ (eq_ix3 _)) (congrArg _ (eq_ix3 _)))))
  pointwise [val_main_v45, val_main_v44, val_main_v43, val_main_v42, val_main_v41, val_main_v40, val_main_v39, val_main_v38, val_main_v37, val_main_v36, val_main_v35, val_main_cst_7, val_main_cst_8]
  rw [e]
  simp only [head_k_sb]
  rfl

/-- The result `k_sb`. -/
theorem res_k_sb (c : Fin 256) : val_main_v81 (F := Ideal) x g w q (ix2 t c)
    = lane 256 (by omega) (by decide) (fun k => x (ix2 t k)) (fun k => g (ix1 k)) (fun k e => w (ix2 k e)) (q (ix1 ⟨c.val % 64, by omega⟩)) c := by
  refine Eq.trans ?_ (norm_k_sb x g w q t ⟨c.val / 64, by omega⟩ ⟨c.val % 64, by omega⟩)
  pointwise [val_main_v81, val_main_v80]

/-- The heads of `q_ca`. -/
theorem head_q_ca (h : Fin 8) (d : Fin 64) : val_main_v47 (F := Ideal) x g w (ix3 t h d)
    = proj (fun k => x (ix2 t k)) (fun k => g (ix1 k)) (fun k => w (ix2 k ⟨768 + (64 * h.val + d.val), by omega⟩)) := by
  refine Eq.trans ?_ (col x g w t ⟨768 + (64 * h.val + d.val), by omega⟩)
  pointwise [val_main_v47, val_main_v46]
  exact congrArg (fun e => val_main_v13 (F := Ideal) x g w (ix2 t e)) (Fin.ext (by show 768 + (h.val * 64 + d.val) = 768 + (64 * h.val + d.val); omega))

/-- A head of `q_ca`, normed. -/
theorem norm_q_ca (h : Fin 8) (d : Fin 64) : val_main_v62 (F := Ideal) x g w q (ix3 t h d)
    = normed w64 (fun d => proj (fun k => x (ix2 t k)) (fun k => g (ix1 k)) (fun k => w (ix2 k ⟨768 + (64 * h.val + d.val), by omega⟩))) d (q (ix1 d)) * Ideal.ofBits .f32 0x3E000000#32 := by
  have e : val_main_v49 (F := Ideal) x g w (ix2 t h) = ∑ j, val_main_v47 (F := Ideal) x g w (ix3 t h j) * val_main_v47 (F := Ideal) x g w (ix3 t h j) :=
    (val_main_v49_apply x g w _).trans ((congrArg₂ (· + ·) (Ideal.ofBits_zero_f32) rfl).trans ((zero_add _).trans
      (Finset.sum_congr rfl fun j _ => congrArg₂ (· * ·) (congrArg _ (eq_ix3 _)) (congrArg _ (eq_ix3 _)))))
  pointwise [val_main_v62, val_main_v61, val_main_v60, val_main_v59, val_main_v58, val_main_v57, val_main_v56, val_main_v55, val_main_v54, val_main_v53, val_main_v52, val_main_v51, val_main_v50, val_main_cst_10, val_main_cst_11, val_main_cst_12]
  rw [e]
  simp only [head_q_ca]
  rfl

/-- The result `q_ca`. -/
theorem res_q_ca (c : Fin 512) : val_main_v85 (F := Ideal) x g w q (ix2 t c)
    = lane 768 (by omega) (by decide) (fun k => x (ix2 t k)) (fun k => g (ix1 k)) (fun k e => w (ix2 k e)) (q (ix1 ⟨c.val % 64, by omega⟩)) c * Ideal.ofBits .f32 0x3E000000#32 := by
  refine Eq.trans ?_ (norm_q_ca x g w q t ⟨c.val / 64, by omega⟩ ⟨c.val % 64, by omega⟩)
  pointwise [val_main_v85, val_main_v84]

/-- The heads of `k_ca`. -/
theorem head_k_ca (h : Fin 8) (d : Fin 64) : val_main_v64 (F := Ideal) x g w (ix3 t h d)
    = proj (fun k => x (ix2 t k)) (fun k => g (ix1 k)) (fun k => w (ix2 k ⟨1280 + (64 * h.val + d.val), by omega⟩)) := by
  refine Eq.trans ?_ (col x g w t ⟨1280 + (64 * h.val + d.val), by omega⟩)
  pointwise [val_main_v64, val_main_v63]
  exact congrArg (fun e => val_main_v13 (F := Ideal) x g w (ix2 t e)) (Fin.ext (by show 1280 + (h.val * 64 + d.val) = 1280 + (64 * h.val + d.val); omega))

/-- A head of `k_ca`, normed. -/
theorem norm_k_ca (h : Fin 8) (d : Fin 64) : val_main_v77 (F := Ideal) x g w q (ix3 t h d)
    = normed w64 (fun d => proj (fun k => x (ix2 t k)) (fun k => g (ix1 k)) (fun k => w (ix2 k ⟨1280 + (64 * h.val + d.val), by omega⟩))) d (q (ix1 d)) := by
  have e : val_main_v66 (F := Ideal) x g w (ix2 t h) = ∑ j, val_main_v64 (F := Ideal) x g w (ix3 t h j) * val_main_v64 (F := Ideal) x g w (ix3 t h j) :=
    (val_main_v66_apply x g w _).trans ((congrArg₂ (· + ·) (Ideal.ofBits_zero_f32) rfl).trans ((zero_add _).trans
      (Finset.sum_congr rfl fun j _ => congrArg₂ (· * ·) (congrArg _ (eq_ix3 _)) (congrArg _ (eq_ix3 _)))))
  pointwise [val_main_v77, val_main_v76, val_main_v75, val_main_v74, val_main_v73, val_main_v72, val_main_v71, val_main_v70, val_main_v69, val_main_v68, val_main_v67, val_main_cst_14, val_main_cst_15]
  rw [e]
  simp only [head_k_ca]
  rfl

/-- The result `k_ca`. -/
theorem res_k_ca (c : Fin 512) : val_main_v87 (F := Ideal) x g w q (ix2 t c)
    = lane 1280 (by omega) (by decide) (fun k => x (ix2 t k)) (fun k => g (ix1 k)) (fun k e => w (ix2 k e)) (q (ix1 ⟨c.val % 64, by omega⟩)) c := by
  refine Eq.trans ?_ (norm_k_ca x g w q t ⟨c.val / 64, by omega⟩ ⟨c.val % 64, by omega⟩)
  pointwise [val_main_v87, val_main_v86]

/-- The result `v_sb`. -/
theorem res_v_sb (c : Fin 256) : val_main_v83 (F := Ideal) x g w (ix2 t c)
    = plain 512 (by omega) (fun k => x (ix2 t k)) (fun k => g (ix1 k)) (fun k e => w (ix2 k e)) c := by
  refine Eq.trans ?_ (col x g w t ⟨512 + c.val, by omega⟩)
  pointwise [val_main_v83, val_main_v82]

/-- The result `v_ca`. -/
theorem res_v_ca (c : Fin 512) : val_main_v89 (F := Ideal) x g w (ix2 t c)
    = plain 1792 (by omega) (fun k => x (ix2 t k)) (fun k => g (ix1 k)) (fun k e => w (ix2 k e)) c := by
  refine Eq.trans ?_ (col x g w t ⟨1792 + c.val, by omega⟩)
  pointwise [val_main_v89, val_main_v88]

/-- The result `u`. -/
theorem res_u (c : Fin 256) : val_main_v90 (F := Ideal) x g w (ix2 t c)
    = plain 2304 (by omega) (fun k => x (ix2 t k)) (fun k => g (ix1 k)) (fun k e => w (ix2 k e)) c := by
  refine Eq.trans ?_ (col x g w t ⟨2304 + c.val, by omega⟩)
  pointwise [val_main_v90]

end Cert.Reference4Ideal.Proj

end
-- ==== Proof.ProjValue.lean ====
/- The input projection: the kernel's seven result arrays, the reference's, and their equations. -/
module

public import proofs.«01_k».proof.Defs
public import proofs.«01_k».proof.Proof.ProjHost
public import proofs.«01_k».proof.Proof.ProjRef
public import Idealize.ShloMosaic.Lib.Pipeline.ValueKit

@[expose] public section

set_option maxRecDepth 16384

noncomputable section

namespace Cert.Kernel4Ideal.Proj

open Idealize.ShloMosaic Idealize.ShloMosaic.TcCoe Idealize.SL.Sem
open Cert.Kernel4Ideal Cert.Kernel4Ideal.Gen Cert.Norm

/-! The results as functions of the arguments. -/

def q_sb (x : FVec Ideal S16384x1024 .f32) (g : FVec Ideal S1024 .f32) (w : FVec Ideal S1024x2560 .f32) (q : FVec Ideal S64 .f32) :
    FVec Ideal S16384x256 .bf16 := fun i =>
  lane 0 (by omega) (by decide) (fun k => x (ix2 (i 0) k)) (fun k => g (ix1 k)) (fun k e => w (ix2 k e))
    (q (ix1 ⟨(show Fin 256 from i 1).val % 64, by omega⟩)) (show Fin 256 from i 1) * Ideal.ofBits .f32 0x3E38AA3B#32

def k_sb (x : FVec Ideal S16384x1024 .f32) (g : FVec Ideal S1024 .f32) (w : FVec Ideal S1024x2560 .f32) (q : FVec Ideal S64 .f32) :
    FVec Ideal S16384x256 .bf16 := fun i =>
  lane 256 (by omega) (by decide) (fun k => x (ix2 (i 0) k)) (fun k => g (ix1 k)) (fun k e => w (ix2 k e))
    (q (ix1 ⟨(show Fin 256 from i 1).val % 64, by omega⟩)) (show Fin 256 from i 1)

def v_sb (x : FVec Ideal S16384x1024 .f32) (g : FVec Ideal S1024 .f32) (w : FVec Ideal S1024x2560 .f32) :
    FVec Ideal S16384x256 .bf16 := fun i =>
  plain 512 (by omega) (fun k => x (ix2 (i 0) k)) (fun k => g (ix1 k)) (fun k e => w (ix2 k e)) (show Fin 256 from i 1)

def q_ca (x : FVec Ideal S16384x1024 .f32) (g : FVec Ideal S1024 .f32) (w : FVec Ideal S1024x2560 .f32) (q : FVec Ideal S64 .f32) :
    FVec Ideal S16384x512 .bf16 := fun i =>
  lane 768 (by omega) (by decide) (fun k => x (ix2 (i 0) k)) (fun k => g (ix1 k)) (fun k e => w (ix2 k e))
    (q (ix1 ⟨(show Fin 512 from i 1).val % 64, by omega⟩)) (show Fin 512 from i 1) * Ideal.ofBits .f32 0x3E000000#32

def k_ca (x : FVec Ideal S16384x1024 .f32) (g : FVec Ideal S1024 .f32) (w : FVec Ideal S1024x2560 .f32) (q : FVec Ideal S64 .f32) :
    FVec Ideal S16384x512 .bf16 := fun i =>
  lane 1280 (by omega) (by decide) (fun k => x (ix2 (i 0) k)) (fun k => g (ix1 k)) (fun k e => w (ix2 k e))
    (q (ix1 ⟨(show Fin 512 from i 1).val % 64, by omega⟩)) (show Fin 512 from i 1)

def v_ca (x : FVec Ideal S16384x1024 .f32) (g : FVec Ideal S1024 .f32) (w : FVec Ideal S1024x2560 .f32) :
    FVec Ideal S16384x512 .bf16 := fun i =>
  plain 1792 (by omega) (fun k => x (ix2 (i 0) k)) (fun k => g (ix1 k)) (fun k e => w (ix2 k e)) (show Fin 512 from i 1)

def u (x : FVec Ideal S16384x1024 .f32) (g : FVec Ideal S1024 .f32) (w : FVec Ideal S1024x2560 .f32) :
    FVec Ideal S16384x256 .f32 := fun i =>
  plain 2304 (by omega) (fun k => x (ix2 (i 0) k)) (fun k => g (ix1 k)) (fun k e => w (ix2 k e)) (show Fin 256 from i 1)

/-- The windows' block indices at a grid point. -/
theorem idx0 : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![0, 0] ∧ win0_7.index t = ![0, 0] :=
  (by decide +kernel : ∀ t : Fin grid0.N, _)

theorem idx1 : ∀ t : Fin cfg0.N, win0_8.index t = ![t.val, 0] ∧ win0_9.index t = ![t.val, 0] ∧ win0_10.index t = ![t.val, 0]
    ∧ win0_11.index t = ![t.val, 0] ∧ win0_12.index t = ![t.val, 0] ∧ win0_13.index t = ![t.val, 0] ∧ win0_14.index t = ![t.val, 0] :=
  (by decide +kernel : ∀ t : Fin grid0.N, _)

variable (m : (ℓ : Loc nD τ sig) → Buf (Elt Ideal) ℓ) (ρ : Dev nD → PrngReg)

/-- The input windows' blocks, read at their arrays. -/
theorem in0 (c : Dev nD) (t : Fin cfg0.N) (r : Fin 512) (T : Fin 16384) (hT : T.val = 512 * t.val + r.val) (k : Fin 1024) :
    iblk m c 0 t (ix2 r k) = m ((c : Thread nD τ).loc main_arg0) (ix2 T k) := by
  obtain ⟨e0, _⟩ := idx0 t
  rw [← V_main_arg0 m c]
  blk_ext [iblk, e0, hT]

theorem in1 (c : Dev nD) (t : Fin cfg0.N) (k : Fin 1024) : iblk m c 1 t (ix2 0 k) = m ((c : Thread nD τ).loc main_arg1) (ix1 k) := by
  obtain ⟨_, e1, _⟩ := idx0 t
  refine Eq.trans ?_ (V_gain m c k)
  blk_ext [iblk, e1]

theorem in2 (c : Dev nD) (t : Fin cfg0.N) (k : Fin 1024) (e : Fin 2560) :
    iblk m c 2 t (ix2 k e) = m ((c : Thread nD τ).loc main_arg2) (ix2 k e) := by
  obtain ⟨_, _, e2, _⟩ := idx0 t
  rw [← V_weights m c]
  blk_ext [iblk, e2]

theorem in3 (c : Dev nD) (t : Fin cfg0.N) (q : FVec Ideal S64 .f32) (hq : q = m ((c : Thread nD τ).loc main_arg3)) (k : Fin 256) :
    iblk m c 3 t (ix2 0 k) = q (ix1 ⟨k.val % 64, by omega⟩) * Ideal.ofBits .f32 0x3E38AA3B#32 := by
  obtain ⟨_, _, _, e, _⟩ := idx0 t
  have b : iblk m c 3 t (ix2 0 k) = V m c main_v15 (ix2 0 k) := by blk_ext [iblk, e]
  rw [b, V_v15, hq]
  exact congrArg (· * Ideal.ofBits .f32 0x3E38AA3B#32) (tile4_apply _ k)

theorem in4 (c : Dev nD) (t : Fin cfg0.N) (k : Fin 256) :
    iblk m c 4 t (ix2 0 k) = m ((c : Thread nD τ).loc main_arg4) (ix1 ⟨k.val % 64, by omega⟩) := by
  obtain ⟨_, _, _, _, e, _⟩ := idx0 t
  have b : iblk m c 4 t (ix2 0 k) = V m c main_v19 (ix2 0 k) := by blk_ext [iblk, e]
  rw [b, V_v19]
  exact tile4_apply _ k

theorem in5 (c : Dev nD) (t : Fin cfg0.N) (q : FVec Ideal S64 .f32) (hq : q = m ((c : Thread nD τ).loc main_arg5)) (k : Fin 512) :
    iblk m c 5 t (ix2 0 k) = q (ix1 ⟨k.val % 64, by omega⟩) * Ideal.ofBits .f32 0x3E000000#32 := by
  obtain ⟨_, _, _, _, _, e, _⟩ := idx0 t
  have b : iblk m c 5 t (ix2 0 k) = V m c main_v25 (ix2 0 k) := by blk_ext [iblk, e]
  rw [b, V_v25, hq]
  exact congrArg (· * Ideal.ofBits .f32 0x3E000000#32) (tile8_apply _ k)

theorem in6 (c : Dev nD) (t : Fin cfg0.N) (k : Fin 512) :
    iblk m c 6 t (ix2 0 k) = m ((c : Thread nD τ).loc main_arg6) (ix1 ⟨k.val % 64, by omega⟩) := by
  obtain ⟨_, _, _, _, _, _, e, _⟩ := idx0 t
  have b : iblk m c 6 t (ix2 0 k) = V m c main_v29 (ix2 0 k) := by blk_ext [iblk, e]
  rw [b, V_v29]
  exact tile8_apply _ k

theorem in7 (c : Dev nD) (t : Fin cfg0.N) : Heads (iblk m c 7 t) := by
  intro j k
  obtain ⟨_, _, _, _, _, _, _, e⟩ := idx0 t
  have b : iblk m c 7 t (ix2 j k) = V m c main_v7 (ix2 j k) := by blk_ext [iblk, e]
  rw [b, V_ones]
  exact ones_heads j k

/-- The array of `q_sb`. -/
theorem array8 (c : Dev nD) : (dats (F := Ideal) m 0 c).arrAt 8 cfg0.N
    = q_sb (m ((c : Thread nD τ).loc main_arg0)) (m ((c : Thread nD τ).loc main_arg1)) (m ((c : Thread nD τ).loc main_arg2)) (m ((c : Thread nD τ).loc main_arg3)) := by
  refine (dats (F := Ideal) m 0 c).arrAt_eq_of_covers 8 _ (by decide +kernel) fun t hf y => ?_
  blk_simp
  rw [after0_8]
  obtain ⟨e, _⟩ := idx1 t
  have ht : t.val < 32 := t.isLt
  obtain ⟨r, j, rfl⟩ : ∃ (r : Fin 512) (j : Fin 256), y = ix2 r j := ⟨y 0, y 1, eq_ix2 y⟩
  obtain ⟨T, hT⟩ : ∃ T : Fin 16384, T.val = 512 * t.val + r.val := ⟨⟨512 * t.val + r.val, by omega⟩, rfl⟩
  have hI : (win0_8.blk t).view.emb (ix2 r j) = ix2 T j := by blk_ext [e, hT]
  refine (out8_apply _ _ _ _ _ _ _ _ r (in7 m c t) j).trans ?_
  simp only [in0 m c t r T hT, in1, in2, in3 m c t _ rfl]
  rw [lane_mul]
  exact (congrArg (q_sb (m ((c : Thread nD τ).loc main_arg0)) (m ((c : Thread nD τ).loc main_arg1)) (m ((c : Thread nD τ).loc main_arg2)) (m ((c : Thread nD τ).loc main_arg3))) hI).symm

/-- The array of `k_sb`. -/
theorem array9 (c : Dev nD) : (dats (F := Ideal) m 0 c).arrAt 9 cfg0.N
    = k_sb (m ((c : Thread nD τ).loc main_arg0)) (m ((c : Thread nD τ).loc main_arg1)) (m ((c : Thread nD τ).loc main_arg2)) (m ((c : Thread nD τ).loc main_arg4)) := by
  refine (dats (F := Ideal) m 0 c).arrAt_eq_of_covers 9 _ (by decide +kernel) fun t hf y => ?_
  blk_simp
  rw [after0_9]
  obtain ⟨_, e, _⟩ := idx1 t
  have ht : t.val < 32 := t.isLt
  obtain ⟨r, j, rfl⟩ : ∃ (r : Fin 512) (j : Fin 256), y = ix2 r j := ⟨y 0, y 1, eq_ix2 y⟩
  obtain ⟨T, hT⟩ : ∃ T : Fin 16384, T.val = 512 * t.val + r.val := ⟨⟨512 * t.val + r.val, by omega⟩, rfl⟩
  have hI : (win0_9.blk t).view.emb (ix2 r j) = ix2 T j := by blk_ext [e, hT]
  refine (out9_apply _ _ _ _ _ _ _ _ r (in7 m c t) j).trans ?_
  simp only [in0 m c t r T hT, in1, in2, in4]
  exact (congrArg (k_sb (m ((c : Thread nD τ).loc main_arg0)) (m ((c : Thread nD τ).loc main_arg1)) (m ((c : Thread nD τ).loc main_arg2)) (m ((c : Thread nD τ).loc main_arg4))) hI).symm

/-- The array of `v_sb`. -/
theorem array10 (c : Dev nD) : (dats (F := Ideal) m 0 c).arrAt 10 cfg0.N
    = v_sb (m ((c : Thread nD τ).loc main_arg0)) (m ((c : Thread nD τ).loc main_arg1)) (m ((c : Thread nD τ).loc main_arg2)) := by
  refine (dats (F := Ideal) m 0 c).arrAt_eq_of_covers 10 _ (by decide +kernel) fun t hf y => ?_
  blk_simp
  rw [after0_10]
  obtain ⟨_, _, e, _⟩ := idx1 t
  have ht : t.val < 32 := t.isLt
  obtain ⟨r, j, rfl⟩ : ∃ (r : Fin 512) (j : Fin 256), y = ix2 r j := ⟨y 0, y 1, eq_ix2 y⟩
  obtain ⟨T, hT⟩ : ∃ T : Fin 16384, T.val = 512 * t.val + r.val := ⟨⟨512 * t.val + r.val, by omega⟩, rfl⟩
  have hI : (win0_10.blk t).view.emb (ix2 r j) = ix2 T j := by blk_ext [e, hT]
  refine (out10_apply _ _ _ _ _ _ _ _ r j).trans ?_
  simp only [in0 m c t r T hT, in1, in2]
  exact (congrArg (v_sb (m ((c : Thread nD τ).loc main_arg0)) (m ((c : Thread nD τ).loc main_arg1)) (m ((c : Thread nD τ).loc main_arg2))) hI).symm

/-- The array of `q_ca`. -/
theorem array11 (c : Dev nD) : (dats (F := Ideal) m 0 c).arrAt 11 cfg0.N
    = q_ca (m ((c : Thread nD τ).loc main_arg0)) (m ((c : Thread nD τ).loc main_arg1)) (m ((c : Thread nD τ).loc main_arg2)) (m ((c : Thread nD τ).loc main_arg5)) := by
  refine (dats (F := Ideal) m 0 c).arrAt_eq_of_covers 11 _ (by decide +kernel) fun t hf y => ?_
  blk_simp
  rw [after0_11]
  obtain ⟨_, _, _, e, _⟩ := idx1 t
  have ht : t.val < 32 := t.isLt
  obtain ⟨r, j, rfl⟩ : ∃ (r : Fin 512) (j : Fin 512), y = ix2 r j := ⟨y 0, y 1, eq_ix2 y⟩
  obtain ⟨T, hT⟩ : ∃ T : Fin 16384, T.val = 512 * t.val + r.val := ⟨⟨512 * t.val + r.val, by omega⟩, rfl⟩
  have hI : (win0_11.blk t).view.emb (ix2 r j) = ix2 T j := by blk_ext [e, hT]
  refine (out11_apply _ _ _ _ _ _ _ _ r (in7 m c t) j).trans ?_
  simp only [in0 m c t r T hT, in1, in2, in5 m c t _ rfl]
  rw [lane_mul]
  exact (congrArg (q_ca (m ((c : Thread nD τ).loc main_arg0)) (m ((c : Thread nD τ).loc main_arg1)) (m ((c : Thread nD τ).loc main_arg2)) (m ((c : Thread nD τ).loc main_arg5))) hI).symm

/-- The array of `k_ca`. -/
theorem array12 (c : Dev nD) : (dats (F := Ideal) m 0 c).arrAt 12 cfg0.N
    = k_ca (m ((c : Thread nD τ).loc main_arg0)) (m ((c : Thread nD τ).loc main_arg1)) (m ((c : Thread nD τ).loc main_arg2)) (m ((c : Thread nD τ).loc main_arg6)) := by
  refine (dats (F := Ideal) m 0 c).arrAt_eq_of_covers 12 _ (by decide +kernel) fun t hf y => ?_
  blk_simp
  rw [after0_12]
  obtain ⟨_, _, _, _, e, _⟩ := idx1 t
  have ht : t.val < 32 := t.isLt
  obtain ⟨r, j, rfl⟩ : ∃ (r : Fin 512) (j : Fin 512), y = ix2 r j := ⟨y 0, y 1, eq_ix2 y⟩
  obtain ⟨T, hT⟩ : ∃ T : Fin 16384, T.val = 512 * t.val + r.val := ⟨⟨512 * t.val + r.val, by omega⟩, rfl⟩
  have hI : (win0_12.blk t).view.emb (ix2 r j) = ix2 T j := by blk_ext [e, hT]
  refine (out12_apply _ _ _ _ _ _ _ _ r (in7 m c t) j).trans ?_
  simp only [in0 m c t r T hT, in1, in2, in6]
  exact (congrArg (k_ca (m ((c : Thread nD τ).loc main_arg0)) (m ((c : Thread nD τ).loc main_arg1)) (m ((c : Thread nD τ).loc main_arg2)) (m ((c : Thread nD τ).loc main_arg6))) hI).symm

/-- The array of `v_ca`. -/
theorem array13 (c : Dev nD) : (dats (F := Ideal) m 0 c).arrAt 13 cfg0.N
    = v_ca (m ((c : Thread nD τ).loc main_arg0)) (m ((c : Thread nD τ).loc main_arg1)) (m ((c : Thread nD τ).loc main_arg2)) := by
  refine (dats (F := Ideal) m 0 c).arrAt_eq_of_covers 13 _ (by decide +kernel) fun t hf y => ?_
  blk_simp
  rw [after0_13]
  obtain ⟨_, _, _, _, _, e, _⟩ := idx1 t
  have ht : t.val < 32 := t.isLt
  obtain ⟨r, j, rfl⟩ : ∃ (r : Fin 512) (j : Fin 512), y = ix2 r j := ⟨y 0, y 1, eq_ix2 y⟩
  obtain ⟨T, hT⟩ : ∃ T : Fin 16384, T.val = 512 * t.val + r.val := ⟨⟨512 * t.val + r.val, by omega⟩, rfl⟩
  have hI : (win0_13.blk t).view.emb (ix2 r j) = ix2 T j := by blk_ext [e, hT]
  refine (out13_apply _ _ _ _ _ _ _ _ r j).trans ?_
  simp only [in0 m c t r T hT, in1, in2]
  exact (congrArg (v_ca (m ((c : Thread nD τ).loc main_arg0)) (m ((c : Thread nD τ).loc main_arg1)) (m ((c : Thread nD τ).loc main_arg2))) hI).symm

/-- The array of `u`. -/
theorem array14 (c : Dev nD) : (dats (F := Ideal) m 0 c).arrAt 14 cfg0.N
    = u (m ((c : Thread nD τ).loc main_arg0)) (m ((c : Thread nD τ).loc main_arg1)) (m ((c : Thread nD τ).loc main_arg2)) := by
  refine (dats (F := Ideal) m 0 c).arrAt_eq_of_covers 14 _ (by decide +kernel) fun t hf y => ?_
  blk_simp
  rw [after0_14]
  obtain ⟨_, _, _, _, _, _, e⟩ := idx1 t
  have ht : t.val < 32 := t.isLt
  obtain ⟨r, j, rfl⟩ : ∃ (r : Fin 512) (j : Fin 256), y = ix2 r j := ⟨y 0, y 1, eq_ix2 y⟩
  obtain ⟨T, hT⟩ : ∃ T : Fin 16384, T.val = 512 * t.val + r.val := ⟨⟨512 * t.val + r.val, by omega⟩, rfl⟩
  have hI : (win0_14.blk t).view.emb (ix2 r j) = ix2 T j := by blk_ext [e, hT]
  refine (out14_apply _ _ _ _ _ _ _ _ r j).trans ?_
  simp only [in0 m c t r T hT, in1, in2]
  exact (congrArg (u (m ((c : Thread nD τ).loc main_arg0)) (m ((c : Thread nD τ).loc main_arg1)) (m ((c : Thread nD τ).loc main_arg2))) hI).symm

/-- The kernel's run. -/
theorem run : θ_run (defs (F := Ideal)) (onTc (τ := τ) (main (F := Ideal))) ⟨m, fun _ => 0, ρ⟩ fun r => ∀ c : Dev nD,
      r.2.mem ((c.tc : Thread nD τ).loc main_v30_0) = q_sb (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v30_1) = k_sb (m ((c.tc : Thread nD τ).loc main_arg0)) (m ((c.tc : Thread nD τ).loc main_arg1)) (m ((c.tc : Thread nD τ).loc main_arg2)) (m ((c.tc : Thread nD τ).loc main_arg4))
      ∧ r.2.mem ((c.tc : Thread nD τ).loc main_v30_2) = v_sb (m ((c.tc : Thread nD τ).loc main_arg0)) (m ((c.tc : Thread nD τ).loc main_arg1)) (m ((c.tc : Thread nD τ).loc main_arg2))
      ∧ r.2.mem ((c.tc : Thread nD τ).loc main_v30_3) = q_ca (m ((c.tc : Thread nD τ).loc main_arg0)) (m ((c.tc : Thread nD τ).loc main_arg1)) (m ((c.tc : Thread nD τ).loc main_arg2)) (m ((c.tc : Thread nD τ).loc main_arg5))
      ∧ r.2.mem ((c.tc : Thread nD τ).loc main_v30_4) = k_ca (m ((c.tc : Thread nD τ).loc main_arg0)) (m ((c.tc : Thread nD τ).loc main_arg1)) (m ((c.tc : Thread nD τ).loc main_arg2)) (m ((c.tc : Thread nD τ).loc main_arg6))
      ∧ r.2.mem ((c.tc : Thread nD τ).loc main_v30_5) = v_ca (m ((c.tc : Thread nD τ).loc main_arg0)) (m ((c.tc : Thread nD τ).loc main_arg1)) (m ((c.tc : Thread nD τ).loc main_arg2))
      ∧ r.2.mem ((c.tc : Thread nD τ).loc main_v30_6) = u (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run (defs (F := Ideal)) _ _).mono (fun _ h c => by
    obtain ⟨h8, h9, h10, h11, h12, h13, h14, k⟩ := h c
    exact ⟨h8.trans (array8 m c), h9.trans (array9 m c), h10.trans (array10 m c), h11.trans (array11 m c), h12.trans (array12 m c),
      h13.trans (array13 m c), h14.trans (array14 m c), k⟩) (Value.run_blocks m ρ)

end Cert.Kernel4Ideal.Proj

namespace Cert.Reference4Ideal.Proj

open Idealize.ShloMosaic Idealize.ShloMosaic.TcCoe Idealize.SL.Sem
open Cert.Reference4Ideal Cert.Reference4Ideal.Read Cert.Norm

/-! The reference's arrays are the same functions. -/

theorem eq_q_sb (x : FVec Ideal S16384x1024 .f32) (g : FVec Ideal S1024 .f32) (w : FVec Ideal S1024x2560 .f32) (q : FVec Ideal S64 .f32) :
    val_main_v79 (F := Ideal) x g w q = Cert.Kernel4Ideal.Proj.q_sb x g w q :=
  funext fun i => (congrArg _ (eq_ix2 i)).trans (res_q_sb x g w q (i 0) (i 1))

theorem eq_k_sb (x : FVec Ideal S16384x1024 .f32) (g : FVec Ideal S1024 .f32) (w : FVec Ideal S1024x2560 .f32) (q : FVec Ideal S64 .f32) :
    val_main_v81 (F := Ideal) x g w q = Cert.Kernel4Ideal.Proj.k_sb x g w q :=
  funext fun i => (congrArg _ (eq_ix2 i)).trans (res_k_sb x g w q (i 0) (i 1))

theorem eq_v_sb (x : FVec Ideal S16384x1024 .f32) (g : FVec Ideal S1024 .f32) (w : FVec Ideal S1024x2560 .f32) :
    val_main_v83 (F := Ideal) x g w = Cert.Kernel4Ideal.Proj.v_sb x g w :=
  funext fun i => (congrArg _ (eq_ix2 i)).trans (res_v_sb x g w (i 0) (i 1))

theorem eq_q_ca (x : FVec Ideal S16384x1024 .f32) (g : FVec Ideal S1024 .f32) (w : FVec Ideal S1024x2560 .f32) (q : FVec Ideal S64 .f32) :
    val_main_v85 (F := Ideal) x g w q = Cert.Kernel4Ideal.Proj.q_ca x g w q :=
  funext fun i => (congrArg _ (eq_ix2 i)).trans (res_q_ca x g w q (i 0) (i 1))

theorem eq_k_ca (x : FVec Ideal S16384x1024 .f32) (g : FVec Ideal S1024 .f32) (w : FVec Ideal S1024x2560 .f32) (q : FVec Ideal S64 .f32) :
    val_main_v87 (F := Ideal) x g w q = Cert.Kernel4Ideal.Proj.k_ca x g w q :=
  funext fun i => (congrArg _ (eq_ix2 i)).trans (res_k_ca x g w q (i 0) (i 1))

theorem eq_v_ca (x : FVec Ideal S16384x1024 .f32) (g : FVec Ideal S1024 .f32) (w : FVec Ideal S1024x2560 .f32) :
    val_main_v89 (F := Ideal) x g w = Cert.Kernel4Ideal.Proj.v_ca x g w :=
  funext fun i => (congrArg _ (eq_ix2 i)).trans (res_v_ca x g w (i 0) (i 1))

theorem eq_u (x : FVec Ideal S16384x1024 .f32) (g : FVec Ideal S1024 .f32) (w : FVec Ideal S1024x2560 .f32) :
    val_main_v90 (F := Ideal) x g w = Cert.Kernel4Ideal.Proj.u x g w :=
  funext fun i => (congrArg _ (eq_ix2 i)).trans (res_u x g w (i 0) (i 1))

/-- The reference ends with its arguments unchanged and every counter at zero. -/
theorem frame (m : (ℓ : Loc nD τ sig) → Buf (Elt Ideal) ℓ) (ρ : Dev nD → PrngReg) :
    θ_run (defs (F := Ideal)) (onTc (τ := τ) (main (F := Ideal))) ⟨m, fun _ => 0, ρ⟩ (fun r => (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6))
      ∧ r.2.sem = fun _ => 0) :=
  (θ_run defs _ _).mono (fun r h => ⟨fun c => (h c).2.2.2.2.2.2.2, Idealize.ShloMosaic.sem_eq_zero_of_no_sems (by decide) r.2⟩)
    (Value.run (F := Ideal) m ρ)

end Cert.Reference4Ideal.Proj

namespace Cert.Norm

open Idealize.ShloMosaic Idealize.ShloMosaic.TcCoe Idealize.SL.Sem

/-- KERNEL AND REFERENCE COMPUTE THE SAME ARRAYS, from any arguments. -/
theorem proj_algebraic : Cert.algebraic_Kernel4Ideal_Reference4Ideal (hKernel4Ideal := Cert.Kernel4Ideal.Gen.facts)
    (hReference4Ideal := Cert.Reference4Ideal.Gen.facts) := by
  intro m g m' g' _ hargs
  refine ⟨_, _, _, _, _, _, _, Cert.Kernel4Ideal.Proj.run m g, ?_⟩
  refine (θ_run Cert.Reference4Ideal.defs _ _).mono (fun r h c => ?_) (Cert.Reference4Ideal.Value.run (F := Ideal) m' g')
  obtain ⟨e0, e1, e2, e3, e4, e5, e6⟩ := hargs c
  obtain ⟨h0, h1, h2, h3, h4, h5, h6, k⟩ := h c
  refine ⟨?_, ?_, ?_, ?_, ?_, ?_, ?_, k⟩
  · exact h0.trans ((Cert.Reference4Ideal.Read.val_main_v79_eq _ _ _ _).trans ((Cert.Reference4Ideal.Proj.eq_q_sb _ _ _ _).trans (congr (congr (congr (congrArg Cert.Kernel4Ideal.Proj.q_sb e0) e1) e2) e3)))
  · exact h1.trans ((Cert.Reference4Ideal.Read.val_main_v81_eq _ _ _ _).trans ((Cert.Reference4Ideal.Proj.eq_k_sb _ _ _ _).trans (congr (congr (congr (congrArg Cert.Kernel4Ideal.Proj.k_sb e0) e1) e2) e4)))
  · exact h2.trans ((Cert.Reference4Ideal.Read.val_main_v83_eq _ _ _).trans ((Cert.Reference4Ideal.Proj.eq_v_sb _ _ _).trans (congr (congr (congrArg Cert.Kernel4Ideal.Proj.v_sb e0) e1) e2)))
  · exact h3.trans ((Cert.Reference4Ideal.Read.val_main_v85_eq _ _ _ _).trans ((Cert.Reference4Ideal.Proj.eq_q_ca _ _ _ _).trans (congr (congr (congr (congrArg Cert.Kernel4Ideal.Proj.q_ca e0) e1) e2) e5)))
  · exact h4.trans ((Cert.Reference4Ideal.Read.val_main_v87_eq _ _ _ _).trans ((Cert.Reference4Ideal.Proj.eq_k_ca _ _ _ _).trans (congr (congr (congr (congrArg Cert.Kernel4Ideal.Proj.k_ca e0) e1) e2) e6)))
  · exact h5.trans ((Cert.Reference4Ideal.Read.val_main_v89_eq _ _ _).trans ((Cert.Reference4Ideal.Proj.eq_v_ca _ _ _).trans (congr (congr (congrArg Cert.Kernel4Ideal.Proj.v_ca e0) e1) e2)))
  · exact h6.trans ((Cert.Reference4Ideal.Read.val_main_v90_eq _ _ _).trans ((Cert.Reference4Ideal.Proj.eq_u _ _ _).trans (congr (congr (congrArg Cert.Kernel4Ideal.Proj.u e0) e1) e2)))

end Cert.Norm

end
-- ==== Proof.MixSpec.lean ====
/- The output projection of a row: the three attention outputs normed side by side, projected onto the residual, and normed again. -/
module

public import proofs.«01_k».proof.Proof.Norm

@[expose] public section

noncomputable section

namespace Cert.Norm

open Idealize.ShloMosaic

def w256 : EReal := Ideal.ofBits .f32 0x43800000#32
def w512 : EReal := Ideal.ofBits .f32 0x44000000#32

/-- The three rows normed with their parts of the gain, side by side. -/
def mixed (a : Fin 256 → EReal) (b : Fin 512 → EReal) (s : Fin 256 → EReal) (g : Fin 1024 → EReal) (k : Fin 1024) : EReal :=
  if h : k.val < 256 then normed w256 a ⟨k.val, h⟩ (g k)
  else if h' : k.val - 256 < 512 then normed w512 b ⟨k.val - 256, h'⟩ (g k)
  else normed w256 s ⟨k.val - 256 - 512, by omega⟩ (g k)

/-- Three arrays side by side are that row once each of them is its part. -/
theorem mixed_of (a : Fin 256 → EReal) (b : Fin 512 → EReal) (s : Fin 256 → EReal) (g : Fin 1024 → EReal) (f₁ : Fin 256 → EReal)
    (f₂ : Fin 512 → EReal) (f₃ : Fin 256 → EReal) (h₁ : ∀ k : Fin 256, f₁ k = normed w256 a k (g ⟨k.val, by omega⟩))
    (h₂ : ∀ k : Fin 512, f₂ k = normed w512 b k (g ⟨256 + k.val, by omega⟩))
    (h₃ : ∀ k : Fin 256, f₃ k = normed w256 s k (g ⟨768 + k.val, by omega⟩)) (k : Fin 1024) :
    (if h : k.val < 256 then f₁ ⟨k.val, h⟩ else if h' : k.val - 256 < 512 then f₂ ⟨k.val - 256, h'⟩
      else f₃ ⟨k.val - 256 - 512, by omega⟩) = mixed a b s g k := by
  unfold mixed
  split
  · exact h₁ _
  · split
    · rw [h₂]
      exact congrArg (fun i => normed w512 b _ (g i)) (Fin.ext (by dsimp only; omega))
    · rw [h₃]
      exact congrArg (fun i => normed w256 s _ (g i)) (Fin.ext (by dsimp only; omega))

/-- The residual with the projection. -/
def outRow (a : Fin 256 → EReal) (b : Fin 512 → EReal) (s : Fin 256 → EReal) (x g : Fin 1024 → EReal) (w : Fin 1024 → Fin 1024 → EReal)
    (j : Fin 1024) : EReal := x j + ∑ k, mixed a b s g k * w k j

end Cert.Norm

end
-- ==== Proof.MixBlock.lean ====
/- One grid point of the output projection at the ideal numbers. -/
module

public import proofs.«01_k».proof.Proof.Gen.Kernel5Ideal.Value
public import proofs.«01_k».proof.Proof.MixSpec
public import Idealize.ShloMosaic.Lib.Pointwise
public import Idealize.ShloMosaic.Lib.Pipeline.ValueKit
public import Idealize.ShloMosaic.Lib.Pipeline.ValueKit.Tiles

@[expose] public section

set_option maxRecDepth 16384

noncomputable section

namespace Cert.Kernel5Ideal.Mix

open Idealize.ShloMosaic Idealize.ShloMosaic.TcCoe Idealize.SL.Sem
open Cert.Kernel5Ideal Cert.Kernel5Ideal.Gen Cert.Norm

variable (A : Vec Ideal S512x256 .bf16) (B : Vec Ideal S512x512 .bf16) (S : Vec Ideal S512x256 .bf16) (X : Vec Ideal S512x1024 .f32)
  (G : Vec Ideal S1x1024 .f32) (W : Vec Ideal S1024x1024 .bf16) (H : Vec Ideal S1x1024 .f32) (r : Fin 512)

/-- The first part. -/
theorem pay4_apply (k : Fin 256) : k0_pay4 (F := Ideal) G A (ix2 r k) = normed w256 (fun k => A (ix2 r k)) k (G (ix2 0 ⟨k.val, by omega⟩)) := by
  pointwise [k0_pay4, k0_pay3]
  rfl

/-- The second part. -/
theorem pay5_apply (k : Fin 512) : k0_pay5 (F := Ideal) G B (ix2 r k) = normed w512 (fun k => B (ix2 r k)) k (G (ix2 0 ⟨256 + k.val, by omega⟩)) := by
  pointwise [k0_pay5, k0_pay3]
  rfl

/-- The third part. -/
theorem third (k : Fin 256) : k0_pay6 (F := Ideal) S (ix2 r k) * Ideal.rsqrt (k0_pay8 (F := Ideal) S (ix2 r 0) + Ideal.ofBits .f32 897988541#32) * k0_pay7 (F := Ideal) G (ix2 0 k)
    = normed w256 (fun k => S (ix2 r k)) k (G (ix2 0 ⟨768 + k.val, by omega⟩)) := by
  pointwise [k0_pay6, k0_pay7, k0_pay8, k0_pay3]
  rfl

/-- The residual with the projection. -/
theorem pay1_apply (j : Fin 1024) :
    k0_pay1 (F := Ideal) (k0_pay4 G A) (k0_pay5 G B) (k0_pay6 S) (k0_pay7 G) (k0_pay8 S) X W (ix2 r j)
      = outRow (fun k => A (ix2 r k)) (fun k => B (ix2 r k)) (fun k => S (ix2 r k)) (fun k => X (ix2 r k)) (fun k => G (ix2 0 k)) (fun k j => W (ix2 k j)) j := by
  pointwise [k0_pay1]
  exact congrArg (X (ix2 r j) + ·) (Finset.sum_congr rfl fun k _ => congrArg (· * W (ix2 k j))
    (mixed_of _ _ _ (fun k => G (ix2 0 k)) (fun k => k0_pay4 G A (ix2 r k)) (fun k => k0_pay5 G B (ix2 r k))
      (fun k => k0_pay6 S (ix2 r k) * Ideal.rsqrt (k0_pay8 S (ix2 r 0) + Ideal.ofBits .f32 897988541#32) * k0_pay7 G (ix2 0 k))
      (pay4_apply A G r) (pay5_apply B G r) (third S G r) k))

/-- The same normed. -/
theorem pay2_apply (j : Fin 1024) :
    k0_pay2 (F := Ideal) (k0_pay4 G A) (k0_pay5 G B) (k0_pay6 S) (k0_pay7 G) (k0_pay8 S) X W H (ix2 r j)
      = normed w1024 (outRow (fun k => A (ix2 r k)) (fun k => B (ix2 r k)) (fun k => S (ix2 r k)) (fun k => X (ix2 r k)) (fun k => G (ix2 0 k)) (fun k j => W (ix2 k j))) j (H (ix2 0 j)) := by
  pointwise [k0_pay2]
  simp only [pay1_apply]
  rfl

/-- A whole block read back. -/
theorem ld_whole {s : Shape} {φ : EltTy} (x : Vec Ideal s φ) (o : Fin s.rank → Nat) (ho : ∀ a, o a = 0) (h) :
    View.ld x (Rect.unit (s := s) o s.size h) = x :=
  funext fun y => View.ld_unit_apply_of x _ _ _ _ y fun a => by rw [ho a]; exact (Nat.zero_add _).symm

theorem ldA : View.ld A r0_1 = A := ld_whole A _ (by decide) _
theorem ldB : View.ld B r0_2 = B := ld_whole B _ (by decide) _
theorem ldX : View.ld X r0_3 = X := ld_whole X _ (by decide) _
theorem ldG : View.ld G r0_0 = G := ld_whole G _ (by decide) _
theorem ldW : View.ld W r0_4 = W := ld_whole W _ (by decide) _

/-- The stored block of the residual. -/
theorem out7_apply (j : Fin 1024) : out0_7 (F := Ideal) A B S X G W H (ix2 r j)
    = outRow (fun k => A (ix2 r k)) (fun k => B (ix2 r k)) (fun k => S (ix2 r k)) (fun k => X (ix2 r k)) (fun k => G (ix2 0 k)) (fun k j => W (ix2 k j)) j := by
  refine Eq.trans ?_ (pay1_apply A B S X G W r j)
  unfold_out out0_7
  simp only [ldA, ldB, ldX, ldG, ldW]
  canon_tiles x e
  idx_vars x
  obtain rfl : r = x0 := Fin.ext e0
  obtain rfl : j = x1 := Fin.ext e1
  rfl

/-- The stored block of the normed rows. -/
theorem out8_apply (j : Fin 1024) : out0_8 (F := Ideal) A B S X G W H (ix2 r j)
    = normed w1024 (outRow (fun k => A (ix2 r k)) (fun k => B (ix2 r k)) (fun k => S (ix2 r k)) (fun k => X (ix2 r k)) (fun k => G (ix2 0 k)) (fun k j => W (ix2 k j))) j (H (ix2 0 j)) := by
  refine Eq.trans ?_ (pay2_apply A B S X G W H r j)
  unfold_out out0_8
  simp only [ldA, ldB, ldX, ldG, ldW]
  canon_tiles x e
  idx_vars x
  obtain rfl : r = x0 := Fin.ext e0
  obtain rfl : j = x1 := Fin.ext e1
  rfl

end Cert.Kernel5Ideal.Mix

end
-- ==== Proof.MixRef.lean ====
/- The output projection's plain reference at the ideal numbers. -/
module

public import proofs.«01_k».proof.Proof.MixSpec
public import proofs.«01_k».proof.Proof.Gen.Reference5Ideal
public import proofs.«01_k».proof.Proof.Gen.Reference5Ideal.Run
public import proofs.«01_k».proof.Proof.Gen.Reference5Ideal.Read
public import Idealize.ShloMosaic.Lib.Pointwise

@[expose] public section

set_option maxRecDepth 16384

noncomputable section

namespace Cert.Reference5Ideal.Mix

open Idealize.ShloMosaic Idealize.ShloMosaic.TcCoe Idealize.SL.Sem
open Cert.Reference5Ideal Cert.Reference5Ideal.Read Cert.Norm

variable (a : FVec Ideal S16384x256 .f32) (b : FVec Ideal S16384x512 .f32) (s : FVec Ideal S16384x256 .f32) (x : FVec Ideal S16384x1024 .f32)
  (g : FVec Ideal S1024 .f32) (w : FVec Ideal S1024x1024 .f32) (h : FVec Ideal S1024 .f32) (t : Fin 16384)

/-- The first part. -/
theorem first (k : Fin 256) : val_main_v13 (F := Ideal) a g (ix2 t k) = normed w256 (fun k => a (ix2 t k)) k (g (ix1 ⟨k.val, by omega⟩)) := by
  have e : val_main_v2 (F := Ideal) a (ix1 t) = ∑ j, a (ix2 t j) * a (ix2 t j) :=
    (val_main_v2_apply a _).trans ((congrArg₂ (· + ·) (Ideal.ofBits_zero_f32) rfl).trans ((zero_add _).trans
      (Finset.sum_congr rfl fun j _ => congrArg₂ (· * ·) (congrArg a (eq_ix2 _)) (congrArg a (eq_ix2 _)))))
  pointwise [val_main_v13, val_main_v12, val_main_v11, val_main_v10, val_main_v9, val_main_v8, val_main_v7, val_main_v6, val_main_v5, val_main_v4, val_main_v3, val_main_v0, val_main_cst_0, val_main_cst_1]
  rw [e]
  rfl

/-- The second part. -/
theorem second (k : Fin 512) : val_main_v27 (F := Ideal) b g (ix2 t k) = normed w512 (fun k => b (ix2 t k)) k (g (ix1 ⟨256 + k.val, by omega⟩)) := by
  have e : val_main_v16 (F := Ideal) b (ix1 t) = ∑ j, b (ix2 t j) * b (ix2 t j) :=
    (val_main_v16_apply b _).trans ((congrArg₂ (· + ·) (Ideal.ofBits_zero_f32) rfl).trans ((zero_add _).trans
      (Finset.sum_congr rfl fun j _ => congrArg₂ (· * ·) (congrArg b (eq_ix2 _)) (congrArg b (eq_ix2 _)))))
  pointwise [val_main_v27, val_main_v26, val_main_v25, val_main_v24, val_main_v23, val_main_v22, val_main_v21, val_main_v20, val_main_v19, val_main_v18, val_main_v17, val_main_v14, val_main_cst_3, val_main_cst_4]
  rw [e]
  rfl

/-- The third part. -/
theorem third (k : Fin 256) : val_main_v41 (F := Ideal) s g (ix2 t k) = normed w256 (fun k => s (ix2 t k)) k (g (ix1 ⟨768 + k.val, by omega⟩)) := by
  have e : val_main_v30 (F := Ideal) s (ix1 t) = ∑ j, s (ix2 t j) * s (ix2 t j) :=
    (val_main_v30_apply s _).trans ((congrArg₂ (· + ·) (Ideal.ofBits_zero_f32) rfl).trans ((zero_add _).trans
      (Finset.sum_congr rfl fun j _ => congrArg₂ (· * ·) (congrArg s (eq_ix2 _)) (congrArg s (eq_ix2 _)))))
  pointwise [val_main_v41, val_main_v40, val_main_v39, val_main_v38, val_main_v37, val_main_v36, val_main_v35, val_main_v34, val_main_v33, val_main_v32, val_main_v31, val_main_v28, val_main_cst_6, val_main_cst_7]
  rw [e]
  rfl

/-- Side by side. -/
theorem sides (k : Fin 1024) : val_main_v42 (F := Ideal) a b s g (ix2 t k) = mixed (fun k => a (ix2 t k)) (fun k => b (ix2 t k)) (fun k => s (ix2 t k)) (fun k => g (ix1 k)) k := by
  pointwise [val_main_v42]
  exact mixed_of _ _ _ _ (fun k => val_main_v13 (F := Ideal) a g (ix2 t k)) (fun k => val_main_v27 (F := Ideal) b g (ix2 t k))
    (fun k => val_main_v41 (F := Ideal) s g (ix2 t k)) (first a g t) (second b g t) (third s g t) k

/-- The residual with the projection. -/
theorem resid (j : Fin 1024) : val_main_v44 (F := Ideal) a b s x g w (ix2 t j)
    = outRow (fun k => a (ix2 t k)) (fun k => b (ix2 t k)) (fun k => s (ix2 t k)) (fun k => x (ix2 t k)) (fun k => g (ix1 k)) (fun k j => w (ix2 k j)) j :=
  congrArg (x (ix2 t j) + ·) ((val_main_v43_apply a b s g w (ix2 t j)).trans (Finset.sum_congr rfl fun k _ => congrArg₂ (· * ·)
    ((congrArg _ (eq_ix2 _)).trans (sides a b s g t k)) (congrArg w (eq_ix2 _))))

/-- The same normed. -/
theorem again (j : Fin 1024) : val_main_v58 (F := Ideal) a b s x g w h (ix2 t j)
    = normed w1024 (outRow (fun k => a (ix2 t k)) (fun k => b (ix2 t k)) (fun k => s (ix2 t k)) (fun k => x (ix2 t k)) (fun k => g (ix1 k)) (fun k j => w (ix2 k j))) j (h (ix1 j)) := by
  have e : val_main_v46 (F := Ideal) a b s x g w (ix1 t) = ∑ j, val_main_v44 (F := Ideal) a b s x g w (ix2 t j) * val_main_v44 (F := Ideal) a b s x g w (ix2 t j) :=
    (val_main_v46_apply a b s x g w _).trans ((congrArg₂ (· + ·) (Ideal.ofBits_zero_f32) rfl).trans ((zero_add _).trans
      (Finset.sum_congr rfl fun j _ => congrArg₂ (· * ·) (congrArg _ (eq_ix2 _)) (congrArg _ (eq_ix2 _)))))
  pointwise [val_main_v58, val_main_v57, val_main_v56, val_main_v55, val_main_v54, val_main_v53, val_main_v52, val_main_v51, val_main_v50, val_main_v49, val_main_v48, val_main_v47, val_main_cst_9, val_main_cst_10]
  rw [e]
  simp only [resid]
  rfl

end Cert.Reference5Ideal.Mix

end
-- ==== Proof.MixValue.lean ====
/- The output projection: the kernel's two result arrays, the reference's, and their equations. -/
module

public import proofs.«01_k».proof.Defs
public import proofs.«01_k».proof.Proof.MixBlock
public import proofs.«01_k».proof.Proof.MixRef
public import Idealize.ShloMosaic.Lib.Pipeline.ValueKit

@[expose] public section

set_option maxRecDepth 16384

noncomputable section

namespace Cert.Kernel5Ideal.Mix

open Idealize.ShloMosaic Idealize.ShloMosaic.TcCoe Idealize.SL.Sem
open Cert.Kernel5Ideal Cert.Kernel5Ideal.Gen Cert.Norm

/-- The residual with the projection, as a function of the arguments. -/
def resid (a : FVec Ideal S16384x256 .f32) (b : FVec Ideal S16384x512 .f32) (s : FVec Ideal S16384x256 .f32) (x : FVec Ideal S16384x1024 .f32)
    (g : FVec Ideal S1024 .f32) (w : FVec Ideal S1024x1024 .f32) :
    FVec Ideal S16384x1024 .f32 := fun i =>
  outRow (fun k => a (ix2 (i 0) k)) (fun k => b (ix2 (i 0) k)) (fun k => s (ix2 (i 0) k)) (fun k => x (ix2 (i 0) k)) (fun k => g (ix1 k)) (fun k j => w (ix2 k j)) (i 1)

/-- The same normed. -/
def normedResid (a : FVec Ideal S16384x256 .f32) (b : FVec Ideal S16384x512 .f32) (s : FVec Ideal S16384x256 .f32) (x : FVec Ideal S16384x1024 .f32)
    (g : FVec Ideal S1024 .f32) (w : FVec Ideal S1024x1024 .f32) (h : FVec Ideal S1024 .f32) :
    FVec Ideal S16384x1024 .bf16 := fun i =>
  normed w1024 (outRow (fun k => a (ix2 (i 0) k)) (fun k => b (ix2 (i 0) k)) (fun k => s (ix2 (i 0) k)) (fun k => x (ix2 (i 0) k)) (fun k => g (ix1 k)) (fun k j => w (ix2 k j))) (i 1) (h (ix1 (i 1)))

/-- The windows' block indices at a grid point. -/
theorem idx0 : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![0, 0] ∧ win0_6.index t = ![0, 0]
    ∧ win0_7.index t = ![t.val, 0] ∧ win0_8.index t = ![t.val, 0] :=
  (by decide +kernel : ∀ t : Fin grid0.N, _)

variable (m : (ℓ : Loc nD τ sig) → Buf (Elt Ideal) ℓ) (ρ : Dev nD → PrngReg)

/-! What the region is entered with: the arguments. -/

theorem V_v0 (c : Dev nD) : V (F := Ideal) m c main_v0 = m ((c : Thread nD τ).loc main_arg0) := by
  dsimp only [V]
  after_results
  rfl

theorem V_v1 (c : Dev nD) : V (F := Ideal) m c main_v1 = m ((c : Thread nD τ).loc main_arg1) := by
  dsimp only [V]
  after_results
  rfl

theorem V_v2 (c : Dev nD) : V (F := Ideal) m c main_v2 = m ((c : Thread nD τ).loc main_arg2) := by
  dsimp only [V]
  after_results
  rfl

theorem V_v4 (c : Dev nD) : V (F := Ideal) m c main_v4 = m ((c : Thread nD τ).loc main_arg5) := by
  dsimp only [V]
  after_results
  rfl

theorem V_v3 (c : Dev nD) (k : Fin 1024) : (show FVec Ideal S1x1024 .f32 from V (F := Ideal) m c main_v3) (ix2 0 k)
    = (show FVec Ideal S1024 .f32 from m ((c : Thread nD τ).loc main_arg4)) (ix1 k) := by
  refine Eq.trans (b := shapeCast S1x1024 (show FVec Ideal S1024 .f32 from m ((c : Thread nD τ).loc main_arg4)) shapeCasts_S1024_S1x1024 (ix2 0 k)) ?_ ?_
  · dsimp only [V]
    after_results
    rfl
  · pointwise []

theorem V_v5 (c : Dev nD) (k : Fin 1024) : (show FVec Ideal S1x1024 .f32 from V (F := Ideal) m c main_v5) (ix2 0 k)
    = (show FVec Ideal S1024 .f32 from m ((c : Thread nD τ).loc main_arg6)) (ix1 k) := by
  refine Eq.trans (b := shapeCast S1x1024 (show FVec Ideal S1024 .f32 from m ((c : Thread nD τ).loc main_arg6)) shapeCasts_S1024_S1x1024 (ix2 0 k)) ?_ ?_
  · dsimp only [V]
    after_results
    rfl
  · pointwise []

/-! The input windows' blocks, read at their arrays. -/

theorem in0 (c : Dev nD) (t : Fin cfg0.N) (r : Fin 512) (T : Fin 16384) (hT : T.val = 512 * t.val + r.val) (k : Fin 256) :
    iblk m c 0 t (ix2 r k) = m ((c : Thread nD τ).loc main_arg0) (ix2 T k) := by
  obtain ⟨e, _⟩ := idx0 t
  rw [← V_v0 m c]
  blk_ext [iblk, e, hT]

theorem in1 (c : Dev nD) (t : Fin cfg0.N) (r : Fin 512) (T : Fin 16384) (hT : T.val = 512 * t.val + r.val) (k : Fin 512) :
    iblk m c 1 t (ix2 r k) = m ((c : Thread nD τ).loc main_arg1) (ix2 T k) := by
  obtain ⟨_, e, _⟩ := idx0 t
  rw [← V_v1 m c]
  blk_ext [iblk, e, hT]

theorem in2 (c : Dev nD) (t : Fin cfg0.N) (r : Fin 512) (T : Fin 16384) (hT : T.val = 512 * t.val + r.val) (k : Fin 256) :
    iblk m c 2 t (ix2 r k) = m ((c : Thread nD τ).loc main_arg2) (ix2 T k) := by
  obtain ⟨_, _, e, _⟩ := idx0 t
  rw [← V_v2 m c]
  blk_ext [iblk, e, hT]

theorem in3 (c : Dev nD) (t : Fin cfg0.N) (r : Fin 512) (T : Fin 16384) (hT : T.val = 512 * t.val + r.val) (k : Fin 1024) :
    iblk m c 3 t (ix2 r k) = m ((c : Thread nD τ).loc main_arg3) (ix2 T k) := by
  obtain ⟨_, _, _, e, _⟩ := idx0 t
  rw [← V_main_arg3 m c]
  blk_ext [iblk, e, hT]

theorem in4 (c : Dev nD) (t : Fin cfg0.N) (k : Fin 1024) : iblk m c 4 t (ix2 0 k) = m ((c : Thread nD τ).loc main_arg4) (ix1 k) := by
  obtain ⟨_, _, _, _, e, _⟩ := idx0 t
  refine Eq.trans ?_ (V_v3 m c k)
  blk_ext [iblk, e]

theorem in5 (c : Dev nD) (t : Fin cfg0.N) (k j : Fin 1024) : iblk m c 5 t (ix2 k j) = m ((c : Thread nD τ).loc main_arg5) (ix2 k j) := by
  obtain ⟨_, _, _, _, _, e, _⟩ := idx0 t
  rw [← V_v4 m c]
  blk_ext [iblk, e]

theorem in6 (c : Dev nD) (t : Fin cfg0.N) (k : Fin 1024) : iblk m c 6 t (ix2 0 k) = m ((c : Thread nD τ).loc main_arg6) (ix1 k) := by
  obtain ⟨_, _, _, _, _, _, e, _⟩ := idx0 t
  refine Eq.trans ?_ (V_v5 m c k)
  blk_ext [iblk, e]

/-- The array of the residual. -/
theorem array7 (c : Dev nD) : (dats (F := Ideal) m 0 c).arrAt 7 cfg0.N
    = resid (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats (F := Ideal) m 0 c).arrAt_eq_of_covers 7 _ (by decide +kernel) fun t hf y => ?_
  blk_simp
  rw [after0_7]
  obtain ⟨_, _, _, _, _, _, _, e, _⟩ := idx0 t
  have ht : t.val < 32 := t.isLt
  obtain ⟨r, j, rfl⟩ : ∃ (r : Fin 512) (j : Fin 1024), y = ix2 r j := ⟨y 0, y 1, eq_ix2 y⟩
  obtain ⟨T, hT⟩ : ∃ T : Fin 16384, T.val = 512 * t.val + r.val := ⟨⟨512 * t.val + r.val, by omega⟩, rfl⟩
  have hI : (win0_7.blk t).view.emb (ix2 r j) = ix2 T j := by blk_ext [e, hT]
  refine (out7_apply _ _ _ _ _ _ _ r j).trans ?_
  simp only [in0 m c t r T hT, in1 m c t r T hT, in2 m c t r T hT, in3 m c t r T hT, in4, in5]
  exact (congrArg (resid (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) hI).symm

/-- The array of the normed rows. -/
theorem array8 (c : Dev nD) : (dats (F := Ideal) m 0 c).arrAt 8 cfg0.N
    = normedResid (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats (F := Ideal) m 0 c).arrAt_eq_of_covers 8 _ (by decide +kernel) fun t hf y => ?_
  blk_simp
  rw [after0_8]
  obtain ⟨_, _, _, _, _, _, _, _, e⟩ := idx0 t
  have ht : t.val < 32 := t.isLt
  obtain ⟨r, j, rfl⟩ : ∃ (r : Fin 512) (j : Fin 1024), y = ix2 r j := ⟨y 0, y 1, eq_ix2 y⟩
  obtain ⟨T, hT⟩ : ∃ T : Fin 16384, T.val = 512 * t.val + r.val := ⟨⟨512 * t.val + r.val, by omega⟩, rfl⟩
  have hI : (win0_8.blk t).view.emb (ix2 r j) = ix2 T j := by blk_ext [e, hT]
  refine (out8_apply _ _ _ _ _ _ _ r j).trans ?_
  simp only [in0 m c t r T hT, in1 m c t r T hT, in2 m c t r T hT, in3 m c t r T hT, in4, in5, in6]
  exact (congrArg (normedResid (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) hI).symm

/-- The kernel's run. -/
theorem run : θ_run (defs (F := Ideal)) (onTc (τ := τ) (main (F := Ideal))) ⟨m, fun _ => 0, ρ⟩ fun r => ∀ c : Dev nD,
      r.2.mem ((c.tc : Thread nD τ).loc main_v6_0) = resid (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v6_1) = normedResid (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run (defs (F := Ideal)) _ _).mono (fun _ h c => ⟨(h c).1.trans (array7 m c), (h c).2.1.trans (array8 m c), (h c).2.2⟩) (Value.run_blocks m ρ)

end Cert.Kernel5Ideal.Mix

namespace Cert.Reference5Ideal.Mix

open Idealize.ShloMosaic Idealize.ShloMosaic.TcCoe Idealize.SL.Sem
open Cert.Reference5Ideal Cert.Reference5Ideal.Read Cert.Norm

/-! The reference's arrays are the same functions. -/

theorem eq_resid (a : FVec Ideal S16384x256 .f32) (b : FVec Ideal S16384x512 .f32) (s : FVec Ideal S16384x256 .f32) (x : FVec Ideal S16384x1024 .f32)
    (g : FVec Ideal S1024 .f32) (w : FVec Ideal S1024x1024 .f32) :
    val_main_v44 (F := Ideal) a b s x g w = Cert.Kernel5Ideal.Mix.resid a b s x g w :=
  funext fun i => (congrArg _ (eq_ix2 i)).trans (resid a b s x g w (i 0) (i 1))

theorem eq_normed (a : FVec Ideal S16384x256 .f32) (b : FVec Ideal S16384x512 .f32) (s : FVec Ideal S16384x256 .f32) (x : FVec Ideal S16384x1024 .f32)
    (g : FVec Ideal S1024 .f32) (w : FVec Ideal S1024x1024 .f32) (h : FVec Ideal S1024 .f32) :
    val_main_v58 (F := Ideal) a b s x g w h = Cert.Kernel5Ideal.Mix.normedResid a b s x g w h :=
  funext fun i => (congrArg _ (eq_ix2 i)).trans (again a b s x g w h (i 0) (i 1))

/-- The reference ends with its arguments unchanged and every counter at zero. -/
theorem frame (m : (ℓ : Loc nD τ sig) → Buf (Elt Ideal) ℓ) (ρ : Dev nD → PrngReg) :
    θ_run (defs (F := Ideal)) (onTc (τ := τ) (main (F := Ideal))) ⟨m, fun _ => 0, ρ⟩ (fun r => (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6))
      ∧ r.2.sem = fun _ => 0) :=
  (θ_run defs _ _).mono (fun r h => ⟨fun c => (h c).2.2, Idealize.ShloMosaic.sem_eq_zero_of_no_sems (by decide) r.2⟩)
    (Value.run (F := Ideal) m ρ)

end Cert.Reference5Ideal.Mix

namespace Cert.Norm

open Idealize.ShloMosaic Idealize.ShloMosaic.TcCoe Idealize.SL.Sem

/-- KERNEL AND REFERENCE COMPUTE THE SAME ARRAYS, from any arguments. -/
theorem mix_algebraic : Cert.algebraic_Kernel5Ideal_Reference5Ideal (hKernel5Ideal := Cert.Kernel5Ideal.Gen.facts)
    (hReference5Ideal := Cert.Reference5Ideal.Gen.facts) := by
  intro m g m' g' _ hargs
  refine ⟨_, _, Cert.Kernel5Ideal.Mix.run m g, ?_⟩
  refine (θ_run Cert.Reference5Ideal.defs _ _).mono (fun r h c => ?_) (Cert.Reference5Ideal.Value.run (F := Ideal) m' g')
  obtain ⟨e0, e1, e2, e3, e4, e5, e6⟩ := hargs c
  obtain ⟨h0, h1, k⟩ := h c
  refine ⟨?_, ?_, k⟩
  · exact h0.trans ((Cert.Reference5Ideal.Read.val_main_v44_eq _ _ _ _ _ _).trans ((Cert.Reference5Ideal.Mix.eq_resid _ _ _ _ _ _).trans
      (congr (congr (congr (congr (congr (congrArg Cert.Kernel5Ideal.Mix.resid e0) e1) e2) e3) e4) e5)))
  · exact h1.trans ((Cert.Reference5Ideal.Read.val_main_v58_eq _ _).trans ((Cert.Reference5Ideal.Mix.eq_normed _ _ _ _ _ _ _).trans
      (congr (congr (congr (congr (congr (congr (congrArg Cert.Kernel5Ideal.Mix.normedResid e0) e1) e2) e3) e4) e5) e6)))

end Cert.Norm

end
-- ==== Proof.StickKit.lean ====
/- The generated set-up of the stick-breaking attention's programs, in one import. -/
module
public import proofs.«01_k».proof.Proof.Gen.Kernel6Ideal.Launch
public import proofs.«01_k».proof.Proof.Gen.Kernel6Ideal.Skeleton
public import proofs.«01_k».proof.Proof.Gen.Kernel6.Launch
public import proofs.«01_k».proof.Proof.Gen.Kernel6.Skeleton
public import proofs.«01_k».proof.Proof.Gen.Reference6Ideal.Read
public import proofs.«01_k».proof.Proof.Gen.Reference6Ideal.Run
-- ==== Proof.StickRun.lean ====
/- The loop of the attention kernel: what one trip computes, and that the loop runs.

   One point of the grid handles one block of queries. Its loop walks the blocks of keys from the queries' own block
   down, two at a time, and carries a counter, a flag that stops the walk early, the four heads' running totals and the
   two running sums of weighted values. `step` is one trip as a function of what is carried; `loop` is the walk. The
   label the loop is printed as is met by `loop 32` because the counter starts at 63 or below and falls by two. -/
module

public import proofs.«01_k».proof.Proof.StickKit
public import Idealize.ShloMosaic.Lib.Tactic
public import Idealize.ShloMosaic.Lib.Pipeline.FrameBody

@[expose] public section

set_option maxRecDepth 16384

noncomputable section

namespace Cert.Kernel6Ideal.Stick

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel6Ideal.Gen

variable {F : FTy → Type} [FloatOps F] [Named F]

local notation "𝕄" => MT nD τ sig Unit (Elt F) ℕ (UR sig nD τ) ℕ

/-- A loop that runs down a counter: the trips left bound its calls. -/
abbrev 𝒱₀ : Variants := Variants.nat

/-! ## The counter -/

/-- The counter `n - 2`, as a word: two below a natural number, so that it can run past zero. -/
def cnt (n : ℕ) : BitVec 32 := BitVec.ofNat 32 n - 2#32

theorem cnt_chk : ∀ n : Fin 66, 2 ≤ n.val → k0_chk1 (cnt n.val) := by decide +kernel

theorem cnt_next : ∀ n : Fin 66, 2 ≤ n.val → Scalar.subi (cnt n.val) 2#32 = cnt (n.val - 2) := by decide +kernel

/-- Whether the loop goes on: the counter is not negative and the flag is down. -/
def goes (j : BitVec 32) (d : BitVec 1) : Prop :=
  Scalar.andi (Scalar.cmpi .sge j 0#32) (Scalar.xori d 1#1) = 1#1

instance (j : BitVec 32) (d : BitVec 1) : Decidable (goes j d) := by unfold goes; infer_instance

theorem goes_iff : ∀ (n : Fin 66) (d : BitVec 1), goes (cnt n.val) d ↔ 2 ≤ n.val ∧ d = 0#1 := by decide +kernel

/-! ## One trip -/

/-- What the loop carries: the counter, the flag, the four totals and the two sums. -/
abbrev St (F : FTy → Type) : Type :=
  BitVec 32 × BitVec 1 × FVec F S256x1 .f32 × FVec F S256x1 .f32 × FVec F S256x1 .f32 × FVec F S256x1 .f32 × FVec F S256x128 .f32 × FVec F S256x128 .f32

/-- What a trip reads and does not change: the four heads' queries, the triangle, and the two halves of the lanes. -/
structure Env (F : FTy → Type) where
  i : grid0.Coords
  rel : IVec S256x256 32
  q0 : FVec F S256x128 .bf16
  q1 : FVec F S256x128 .bf16
  q2 : FVec F S256x128 .bf16
  q3 : FVec F S256x128 .bf16
  tri : FVec F S256x256 .bf16
  lo : IVec S256x128 1
  hi : IVec S256x128 1

/-- The first block's left and right columns, and the second block's. -/
abbrev b00 (j : BitVec 32) (h : k0_chk1 j) : Rect S16384x256 := Rect.unit (s := S16384x256) (k0_off1 j 0#32) S256x128.size (k0_off1_inb j h 0)
abbrev b01 (j : BitVec 32) (h : k0_chk1 j) : Rect S16384x256 := Rect.unit (s := S16384x256) (k0_off2 j 0#32) S256x128.size (k0_off2_inb j h 0)
abbrev b10 (j : BitVec 32) (h : k0_chk1 j) : Rect S16384x256 := Rect.unit (s := S16384x256) (k0_off1 j 1#32) S256x128.size (k0_off1_inb j h 1)
abbrev b11 (j : BitVec 32) (h : k0_chk1 j) : Rect S16384x256 := Rect.unit (s := S16384x256) (k0_off2 j 1#32) S256x128.size (k0_off2_inb j h 1)

section Trip

variable (e : Env F) (xk xv : Vec F S16384x256 .bf16) (j : BitVec 32) (h : k0_chk1 j)

/-- The two masks. -/
def m0 : IVec S256x256 1 := k0_pay20 e.rel j (BitVec.ofNat 32 (e.i 0).val)
def m1 : IVec S256x256 1 := k0_pay21 e.rel j (BitVec.ofNat 32 (e.i 0).val)

/-- The scores: head by head, against the first block and the second. -/
def z00 : FVec F S256x256 .f32 := k0_pay30 e.q0 (m0 e j) (k0_pay22 (View.ld xk (b00 j h)))
def z10 : FVec F S256x256 .f32 := k0_pay31 e.q1 (m0 e j) (k0_pay22 (View.ld xk (b00 j h)))
def z20 : FVec F S256x256 .f32 := k0_pay32 e.q2 (m0 e j) (k0_pay23 (View.ld xk (b01 j h)))
def z30 : FVec F S256x256 .f32 := k0_pay33 e.q3 (m0 e j) (k0_pay23 (View.ld xk (b01 j h)))
def z01 : FVec F S256x256 .f32 := k0_pay34 e.q0 (m1 e j) (k0_pay24 (View.ld xk (b10 j h)))
def z11 : FVec F S256x256 .f32 := k0_pay35 e.q1 (m1 e j) (k0_pay24 (View.ld xk (b10 j h)))
def z21 : FVec F S256x256 .f32 := k0_pay36 e.q2 (m1 e j) (k0_pay25 (View.ld xk (b11 j h)))
def z31 : FVec F S256x256 .f32 := k0_pay37 e.q3 (m1 e j) (k0_pay25 (View.ld xk (b11 j h)))

/-- What each key takes of the stick, on the logarithm's scale. -/
def s00 : FVec F S256x256 .f32 := k0_pay40 (k0_pay38 e.q0 (m0 e j) (k0_pay22 (View.ld xk (b00 j h)))) (k0_pay39 e.q0 (m0 e j) (k0_pay22 (View.ld xk (b00 j h))))
def s10 : FVec F S256x256 .f32 := k0_pay41 (z10 e xk j h)
def s20 : FVec F S256x256 .f32 := k0_pay42 (z20 e xk j h)
def s30 : FVec F S256x256 .f32 := k0_pay43 (z30 e xk j h)
def s01 : FVec F S256x256 .f32 := k0_pay45 (z01 e xk j h) (k0_pay44 (z01 e xk j h))
def s11 : FVec F S256x256 .f32 := k0_pay46 (z11 e xk j h)
def s21 : FVec F S256x256 .f32 := k0_pay47 (z21 e xk j h)

/-- The totals after the first block and after both. -/
def t00 (c : FVec F S256x1 .f32) : FVec F S256x1 .f32 := k0_pay58 c (s00 e xk j h)
def t01 (c : FVec F S256x1 .f32) : FVec F S256x1 .f32 := k0_pay59 c (s00 e xk j h) (s01 e xk j h)
def t10 (c : FVec F S256x1 .f32) : FVec F S256x1 .f32 := k0_pay60 c (s10 e xk j h)
def t11 (c : FVec F S256x1 .f32) : FVec F S256x1 .f32 := k0_pay61 c (s10 e xk j h) (s11 e xk j h)
def t20 (c : FVec F S256x1 .f32) : FVec F S256x1 .f32 := k0_pay62 c (s20 e xk j h)
def t21 (c : FVec F S256x1 .f32) : FVec F S256x1 .f32 := k0_pay63 c (s20 e xk j h) (s21 e xk j h)
def t30 (c : FVec F S256x1 .f32) : FVec F S256x1 .f32 := k0_pay64 c (s30 e xk j h)
def t31 (c : FVec F S256x1 .f32) : FVec F S256x1 .f32 := k0_pay65 c (s30 e xk j h) (k0_pay48 (z31 e xk j h)) (k0_pay49 (z31 e xk j h))

/-- The weighted values: head by head, of the first block and the second. -/
def y00 (c : FVec F S256x1 .f32) : FVec F S256x128 .f32 :=
  k0_pay69 (k0_pay26 (View.ld xv (b00 j h))) (k0_pay66 (z00 e xk j h) (s00 e xk j h)) (k0_pay67 e.tri c (s00 e xk j h))
def y10 (c : FVec F S256x1 .f32) : FVec F S256x128 .f32 :=
  k0_pay70 c (k0_pay26 (View.ld xv (b00 j h))) (z10 e xk j h) (s10 e xk j h) (k0_pay51 e.tri (s10 e xk j h))
def y20 (c : FVec F S256x1 .f32) : FVec F S256x128 .f32 :=
  k0_pay71 c (k0_pay27 (View.ld xv (b01 j h))) (z20 e xk j h) (s20 e xk j h) (k0_pay52 e.tri (s20 e xk j h))
def y30 (c : FVec F S256x1 .f32) : FVec F S256x128 .f32 :=
  k0_pay72 c (k0_pay27 (View.ld xv (b01 j h))) (z30 e xk j h) (s30 e xk j h) (k0_pay53 e.tri (s30 e xk j h))
def y01 (c : FVec F S256x1 .f32) : FVec F S256x128 .f32 :=
  k0_pay73 (k0_pay28 (View.ld xv (b10 j h))) (z01 e xk j h) (s01 e xk j h) (k0_pay54 e.tri (s01 e xk j h)) (t00 e xk j h c)
def y11 (c : FVec F S256x1 .f32) : FVec F S256x128 .f32 :=
  k0_pay74 (k0_pay28 (View.ld xv (b10 j h))) (z11 e xk j h) (s11 e xk j h) (k0_pay55 e.tri (s11 e xk j h)) (t10 e xk j h c)
def y21 (c : FVec F S256x1 .f32) : FVec F S256x128 .f32 :=
  k0_pay75 (k0_pay29 (View.ld xv (b11 j h))) (z21 e xk j h) (s21 e xk j h) (k0_pay56 e.tri (s21 e xk j h)) (t20 e xk j h c)
/-- The last head's weights of the second block, not yet against the values. -/
def w31 (c : FVec F S256x1 .f32) : FVec F S256x256 .bf16 :=
  k0_pay68 (z31 e xk j h) (k0_pay50 (k0_pay48 (z31 e xk j h)) (k0_pay49 (z31 e xk j h)))
    (k0_pay57 e.tri (k0_pay48 (z31 e xk j h)) (k0_pay49 (z31 e xk j h))) (t30 e xk j h c)

end Trip

/-- The flag after a trip. -/
def done (c0 c1 c2 c3 : FVec F S256x1 .f32) : BitVec 1 :=
  Scalar.cmpf .ogt (k0_pay12 c0 c1 c2 c3) (Named.named κ "underflow" 0x43160A50#32 : F .f32)

/-- One trip, the counter's blocks inside the arrays. -/
def step (e : Env F) (xk xv : Vec F S16384x256 .bf16) (s : St F) (h : k0_chk1 s.1) : St F :=
  (Scalar.subi s.1 2#32,
    done (t01 e xk s.1 h s.2.2.1) (t11 e xk s.1 h s.2.2.2.1) (t21 e xk s.1 h s.2.2.2.2.1) (t31 e xk s.1 h s.2.2.2.2.2.1),
    t01 e xk s.1 h s.2.2.1, t11 e xk s.1 h s.2.2.2.1, t21 e xk s.1 h s.2.2.2.2.1, t31 e xk s.1 h s.2.2.2.2.2.1,
    k0_pay10 e.lo e.hi s.2.2.2.2.2.2.1 (y00 e xk xv s.1 h s.2.2.1) (y10 e xk xv s.1 h s.2.2.2.1) (y01 e xk xv s.1 h s.2.2.1) (y11 e xk xv s.1 h s.2.2.2.1),
    k0_pay11 e.lo e.hi s.2.2.2.2.2.2.2 (k0_pay29 (View.ld xv (b11 s.1 h))) (w31 e xk s.1 h s.2.2.2.2.2.1)
      (y20 e xk xv s.1 h s.2.2.2.2.1) (y30 e xk xv s.1 h s.2.2.2.2.2.1) (y21 e xk xv s.1 h s.2.2.2.2.1) (constant S256x128 .f32 0x00000000#32))

/-- At most `k` trips. -/
def loop (e : Env F) (xk xv : Vec F S16384x256 .bf16) : ℕ → St F → St F
  | 0, s => s
  | k + 1, s => if h : goes s.1 s.2.1 ∧ k0_chk1 s.1 then loop e xk xv k (step e xk xv s h.2) else s

theorem loop_go (e : Env F) (xk xv : Vec F S16384x256 .bf16) (k : ℕ) (s : St F) (hg : goes s.1 s.2.1) (hc : k0_chk1 s.1) :
    loop e xk xv (k + 1) s = loop e xk xv k (step e xk xv s hc) := by
  rw [loop, dif_pos ⟨hg, hc⟩]

theorem loop_stop (e : Env F) (xk xv : Vec F S16384x256 .bf16) (k : ℕ) (s : St F) (hg : ¬goes s.1 s.2.1) :
    loop e xk xv (k + 1) s = s := by
  rw [loop, dif_neg fun h => hg h.1]

/-! ## The label -/

section Label

variable (c : Dev nD) (e : Env F) (arg2 : Memref sig .tc .vmem S16384x256 .bf16) (harg2 : arg2.IsWhole) (arg3 : Memref sig .tc .vmem S16384x256 .bf16) (harg3 : arg3.IsWhole)
  (xk xv : Vec F S16384x256 .bf16)

/-- The keys' and the values' buffers, held whole. -/
def held : sProp 𝕄 := iprop(owns (c : Thread nD τ) arg2 fullShare xk ∗ owns (c : Thread nD τ) arg3 fullShare xv)

/-- The loop's record: what does not change, the two buffers, and what is carried. -/
def record (s : St F) : Cc0While1 F :=
  ⟨e.i, e.rel, arg2, harg2, arg3, harg3, e.q0, e.q1, e.q2, e.q3, e.tri, e.lo, e.hi, s.1, s.2.1, s.2.2.1, s.2.2.2.1, s.2.2.2.2.1, s.2.2.2.2.2.1, s.2.2.2.2.2.2.1, s.2.2.2.2.2.2.2⟩

/-- The label returns what `k` trips leave, the two buffers as they were. -/
def spec (k : ℕ) (s : St F) : sWPT 𝕄 (St F) := do
  sWPT.consume (held c arg2 arg3 xk xv)
  let r ← sWPT.arbitrary
  sWPT.assume (r = loop e xk xv k s)
  sWPT.produce (held c arg2 arg3 xk xv)
  pure r

theorem spec_apply (k : ℕ) (s : St F) (K : St F → sProp 𝕄) :
    spec c e arg2 arg3 xk xv k s K
      = iprop(held c arg2 arg3 xk xv ∗ ∀ r : St F, ⌜r = loop e xk xv k s⌝ -∗ (held c arg2 arg3 xk xv -∗ K r)) := rfl

set_option maxHeartbeats 4000000 in
theorem spec_le (E : Set ℕ) :
    ∀ (k n : ℕ), n < 66 → n ≤ 2 * k + 1 → ∀ (s : St F), s.1 = cnt n → ∀ K, spec c e arg2 arg3 xk xv k s K
      ⊢ wp frame (wpE (defs₀ (F := F)) 𝒱₀ (c : Thread nD τ) (some k)) E
          (defs₀ (F := F) .tc 1 (record e arg2 harg2 arg3 harg3 s)) K := by
  intro k
  induction k with
  | zero =>
    intro n hn hk s hs K
    rw [spec_apply]
    show _ ⊢ wp frame (wpE (defs₀ (F := F)) 𝒱₀ (c : Thread nD τ) (some 0)) E
      (cc0_while1 e.i e.rel arg2 harg2 arg3 harg3 e.q0 e.q1 e.q2 e.q3 e.tri e.lo e.hi s.1 s.2.1 s.2.2.1 s.2.2.2.1 s.2.2.2.2.1 s.2.2.2.2.2.1 s.2.2.2.2.2.2.1 s.2.2.2.2.2.2.2) K
    simp only [cc0_while1_eq_skeleton]; unfold cc0_while1_skel
    have htest : ¬ (Scalar.andi (Scalar.cmpi .sge s.1 0#32) (Scalar.xori s.2.1 1#1) = 1#1) := by
      intro hg
      rw [hs] at hg
      have h2 : 2 ≤ n := ((goes_iff ⟨n, hn⟩ s.2.1).1 hg).1
      omega
    simp only [htest, ↓reduceIte, Prog.pure_eq_ret]
    iintro ⟨H, Hk⟩
    rw [wp_ret]; imodintro
    iapply Hk
    · ipureintro; rfl
    · iexact H
  | succ k ih =>
    intro n hn hk s hs K
    rw [spec_apply]
    show _ ⊢ wp frame (wpE (defs₀ (F := F)) 𝒱₀ (c : Thread nD τ) (some (k + 1))) E
      (cc0_while1 e.i e.rel arg2 harg2 arg3 harg3 e.q0 e.q1 e.q2 e.q3 e.tri e.lo e.hi s.1 s.2.1 s.2.2.1 s.2.2.2.1 s.2.2.2.2.1 s.2.2.2.2.2.1 s.2.2.2.2.2.2.1 s.2.2.2.2.2.2.2) K
    simp only [cc0_while1_eq_skeleton]; unfold cc0_while1_skel
    by_cases htest : Scalar.andi (Scalar.cmpi .sge s.1 0#32) (Scalar.xori s.2.1 1#1) = 1#1
    · have hg : goes s.1 s.2.1 := htest
      have h2 := (goes_iff ⟨n, hn⟩ s.2.1).1 (by rw [← hs]; exact htest)
      have hc : k0_chk1 s.1 := by rw [hs]; exact cnt_chk ⟨n, hn⟩ h2.1
      have hnext : Scalar.subi s.1 2#32 = cnt (n - 2) := by rw [hs]; exact cnt_next ⟨n, hn⟩ h2.1
      simp only [htest, ↓reduceIte, k0_part2_eq_skeleton, k0_part3_eq_skeleton, k0_part4_eq_skeleton, k0_part5_eq_skeleton, k0_part6_eq_skeleton, k0_part7_eq_skeleton]
      unfold k0_part2_skel k0_part3_skel k0_part4_skel k0_part5_skel k0_part6_skel k0_part7_skel
      simp only [Prog.lift, Prog.bind_op, Prog.bind_ret, Prog.pure_eq_ret]
      unfold held owns
      iintro ⟨⟨⟨%f2, %hf2, H2⟩, ⟨%f3, %hf3, H3⟩⟩, Hk⟩
      subst hf2 hf3
      iapply (wp_assume 𝒱₀ (c : Thread nD τ) (some (k + 1)) E hc)
      iapply (wp_load 𝒱₀ (c : Thread nD τ) (some (k + 1)) E (m := arg2) (View.setOn_subset_set _ _)) $$ H2; iintro H2
      iapply (wp_load 𝒱₀ (c : Thread nD τ) (some (k + 1)) E (m := arg2) (View.setOn_subset_set _ _)) $$ H2; iintro H2
      iapply (wp_load 𝒱₀ (c : Thread nD τ) (some (k + 1)) E (m := arg2) (View.setOn_subset_set _ _)) $$ H2; iintro H2
      iapply (wp_load 𝒱₀ (c : Thread nD τ) (some (k + 1)) E (m := arg2) (View.setOn_subset_set _ _)) $$ H2; iintro H2
      iapply (wp_load 𝒱₀ (c : Thread nD τ) (some (k + 1)) E (m := arg3) (View.setOn_subset_set _ _)) $$ H3; iintro H3
      iapply (wp_load 𝒱₀ (c : Thread nD τ) (some (k + 1)) E (m := arg3) (View.setOn_subset_set _ _)) $$ H3; iintro H3
      iapply (wp_load 𝒱₀ (c : Thread nD τ) (some (k + 1)) E (m := arg3) (View.setOn_subset_set _ _)) $$ H3; iintro H3
      iapply (wp_load 𝒱₀ (c : Thread nD τ) (some (k + 1)) E (m := arg3) (View.setOn_subset_set _ _)) $$ H3; iintro H3
      iapply (wp_call_spec 𝒱₀ (c : Thread nD τ) (some (k + 1)) E (spec c e arg2 arg3 (arg2.view.read (Elt F) f2) (arg3.view.read (Elt F) f3) k (step e (arg2.view.read (Elt F) f2) (arg3.view.read (Elt F) f3) s hc)) k
        (fun u hu => by cases hu; exact Nat.lt_succ_self k)
        (ih (n - 2) (by omega) (by omega) (step e (arg2.view.read (Elt F) f2) (arg3.view.read (Elt F) f3) s hc) hnext))
      rw [spec_apply]; unfold held owns
      isplitl [H2 H3]
      · isplitl [H2]
        · iexists f2; isplitr; · ipureintro; rfl
          iexact H2
        iexists f3; isplitr; · ipureintro; rfl
        iexact H3
      iintro %r %hr H
      rw [wp_ret]; imodintro
      iapply Hk
      · ipureintro
        rw [hr, loop_go _ _ _ _ _ hg hc]
      · iexact H
    · simp only [htest, ↓reduceIte, Prog.pure_eq_ret]
      iintro ⟨H, Hk⟩
      rw [wp_ret]; imodintro
      iapply Hk
      · ipureintro
        exact (loop_stop _ _ _ _ _ htest).symm
      · iexact H

end Label

/-! ## The body at a point -/

abbrev rL : Rect S256x256 := Rect.unit (s := S256x256) ![0, 0] S256x128.size inb_S256x256_S256x128_0_0
abbrev rR : Rect S256x256 := Rect.unit (s := S256x256) ![0, 128] S256x128.size inb_S256x256_S256x128_0_128
abbrev rAll : Rect S256x256 := Rect.unit (s := S256x256) ![0, 0] S256x256.size inb_S256x256_S256x256_0_0

/-- What the loop of point `i` reads besides keys and values, from the queries' block and the triangle. -/
def envAt (i : grid0.Coords) (xq xt : Vec F S256x256 .bf16) : Env F :=
  ⟨i, k0_pay14, k0_pay17 (View.ld xq rL), k0_pay18 (View.ld xq rL), k0_pay19 (View.ld xq rR), k0_pay1 k0_pay16 (View.ld xq rR), k0_pay13 (View.ld xt rAll), k0_pay15, k0_pay16⟩

/-- What the loop starts from. -/
def start (i : grid0.Coords) : St F :=
  (BitVec.ofNat 32 (i 0).val, 0#1, k0_pay2 (F := F), k0_pay3 (F := F), k0_pay4 (F := F), k0_pay5 (F := F), k0_pay6 (F := F), k0_pay7 (F := F))

/-- What the loop leaves. -/
def final (i : grid0.Coords) (xq : Vec F S256x256 .bf16) (xk xv : Vec F S16384x256 .bf16) (xt : Vec F S256x256 .bf16) : St F := loop (envAt i xq xt) xk xv 32 (start i)

/-- The output's buffer after the body: the two sums, side by side. -/
def outAt (i : grid0.Coords) (xq : Vec F S256x256 .bf16) (xk xv : Vec F S16384x256 .bf16) (xt : Vec F S256x256 .bf16) : Vec F S256x256 .bf16 :=
  View.canon [⟨rR, k0_pay9 (final i xq xk xv xt).2.2.2.2.2.2.2⟩, ⟨rL, k0_pay8 (final i xq xk xv xt).2.2.2.2.2.2.1⟩]

theorem cover (p0 p1 : Vec F S256x128 .bf16) (y : S256x256.Idx) :
    ∃ pc ∈ ([⟨rR, p0⟩, ⟨rL, p1⟩] : List (View.Piece (Elt F) S256x256 .bf16)), y ∈ pc.1.set :=
  View.cover_of_tiled [⟨rR, p0⟩, ⟨rL, p1⟩] S256x128.size (by rfl) y

theorem start_cnt : ∀ i : Fin 64, BitVec.ofNat 32 i.val = cnt (i.val + 2) := by decide +kernel

set_option maxHeartbeats 4000000 in
/-- The body on its five buffers. -/
theorem sound_kernel (c : Dev nD) (E : Set ℕ) (i : grid0.Coords) (arg1 : Memref sig .tc .vmem S256x256 .bf16) (harg1 : arg1.IsWhole) (arg2 : Memref sig .tc .vmem S16384x256 .bf16) (harg2 : arg2.IsWhole) (arg3 : Memref sig .tc .vmem S16384x256 .bf16) (harg3 : arg3.IsWhole) (arg4 : Memref sig .tc .vmem S256x256 .bf16) (harg4 : arg4.IsWhole) (arg5 : Memref sig .tc .vmem S256x256 .bf16) (harg5 : arg5.IsWhole)
    (xq : Vec F S256x256 .bf16) (xk xv : Vec F S16384x256 .bf16) (xt : Vec F S256x256 .bf16) (K : PUnit → sProp 𝕄) :
    iprop(owns (c : Thread nD τ) arg1 fullShare xq ∗ owns (c : Thread nD τ) arg2 fullShare xk ∗ owns (c : Thread nD τ) arg3 fullShare xv ∗ owns (c : Thread nD τ) arg4 fullShare xt ∗ (∃ d, owns (c : Thread nD τ) arg5 fullShare d)
        ∗ (iprop(owns (c : Thread nD τ) arg1 fullShare xq ∗ owns (c : Thread nD τ) arg2 fullShare xk ∗ owns (c : Thread nD τ) arg3 fullShare xv ∗ owns (c : Thread nD τ) arg4 fullShare xt ∗ owns (c : Thread nD τ) arg5 fullShare (outAt i xq xk xv xt)) -∗ K ⟨⟩))
      ⊢ wp frame (wpE (defs₀ (F := F)) 𝒱₀ c none) E (cc0_sb_attention i arg1 harg1 arg2 harg2 arg3 harg3 arg4 harg4 arg5 harg5) K := by
  simp only [cc0_sb_attention_eq_skeleton]; unfold cc0_sb_attention_skel
  simp only [k0_part1_eq_skeleton]; unfold k0_part1_skel
  simp only [Prog.lift, Prog.bind_op, Prog.bind_ret, Prog.pure_eq_ret]
  have hs : (start i : St F).1 = cnt ((i 0).val + 2) := start_cnt (i 0)
  have hi : (i 0).val < 64 := (i 0).isLt
  iintro ⟨H1, H2, H3, H4, ⟨%d5, H5⟩, Hk⟩
  unfold owns
  icases H1 with ⟨%f1, %hf1, H1⟩
  icases H4 with ⟨%f4, %hf4, H4⟩
  icases H5 with ⟨%f5, %hf5, H5⟩
  subst hf1 hf4
  iapply (wp_load 𝒱₀ (c : Thread nD τ) none E (m := arg4) (View.setOn_subset_set _ _)) $$ H4; iintro H4
  iapply (wp_load 𝒱₀ (c : Thread nD τ) none E (m := arg1) (View.setOn_subset_set _ _)) $$ H1; iintro H1
  iapply (wp_load 𝒱₀ (c : Thread nD τ) none E (m := arg1) (View.setOn_subset_set _ _)) $$ H1; iintro H1
  iapply (wp_load 𝒱₀ (c : Thread nD τ) none E (m := arg1) (View.setOn_subset_set _ _)) $$ H1; iintro H1
  iapply (wp_load 𝒱₀ (c : Thread nD τ) none E (m := arg1) (View.setOn_subset_set _ _)) $$ H1; iintro H1
  iapply (wp_call_spec 𝒱₀ (c : Thread nD τ) none E (spec c (envAt i (arg1.view.read (Elt F) f1) (arg4.view.read (Elt F) f4)) arg2 arg3 xk xv 32 (start i)) 32
    (fun u hu => nomatch hu)
    (spec_le c (envAt i (arg1.view.read (Elt F) f1) (arg4.view.read (Elt F) f4)) arg2 harg2 arg3 harg3 xk xv E 32 ((i 0).val + 2) (by omega) (by omega) (start i) hs))
  rw [spec_apply]; unfold held owns
  isplitl [H2 H3]
  · isplitl [H2]
    · iexact H2
    iexact H3
  iintro %r %hr ⟨H2, H3⟩
  subst hr
  sl_exec
  sl_step
  iapply Hk
  isplitl [H1]
  · iexists f1; isplitr; · ipureintro; rfl
    iexact H1
  isplitl [H2]; · iexact H2
  isplitl [H3]; · iexact H3
  isplitl [H4]
  · iexists f4; isplitr; · ipureintro; rfl
    iexact H4
  iexists _; isplitr
  swap; · iexact H5
  ipureintro
  refine (View.read_writes_eq_canon _ _ _ (cover _ _)).trans ?_
  rfl

end Cert.Kernel6Ideal.Stick

end
-- ==== Proof.StickFrame.lean ====
/- The attention call runs: from any memory every run ends, with the arguments unchanged and the output block by block
   as `StickRun` says. -/
module

public import proofs.«01_k».proof.Proof.StickRun
public import Idealize.ShloMosaic.Lib.Claim

@[expose] public section

set_option maxRecDepth 16384

noncomputable section

namespace Cert.Kernel6Ideal.Stick

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel6Ideal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The program up to the grid -/

/-- What each buffer holds when the grid is entered: the host operations have run. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- The program is the host operations, then the grid. -/
theorem hmain : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The host operations leave argument 0 alone. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, Finset.mem_singleton]
    repeat' apply And.intro
    all_goals exact StableHlo.devRef_ne_of_ne (by decide)))
/-- The host operations leave argument 1 alone. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, Finset.mem_singleton]
    repeat' apply And.intro
    all_goals exact StableHlo.devRef_ne_of_ne (by decide)))
/-- The host operations leave argument 2 alone. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, Finset.mem_singleton]
    repeat' apply And.intro
    all_goals exact StableHlo.devRef_ne_of_ne (by decide)))

/-! ## The windows' blocks -/

/-- Window `w`'s block at point `t`, of its array as the grid finds it. -/
def iblk (c : Dev nD) (w : Fin (cfg0 (F := F)).W) (t : Fin (cfg0 (F := F)).N) : (((cfg0 (F := F)).win w).xblock ((cfg0 (F := F)).grid.coords t)).Idx → Elt F ((cfg0 (F := F)).win w).elt :=
  (((cfg0 (F := F)).win w).blk t).view.read (Elt F) (V m c (Pipeline.arrRef spec0 w))

/-- The run's data: after a point each input's buffer still holds its block and the output's what the body left. -/
def dats (_ : Fin 1) (c : Dev nD) : Dat τ (Elt F) Unit ℕ (UR sig nD τ) ℕ (cfg0 (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt (grid0.coords t) (iblk m c 0 t) (iblk m c 1 t) (iblk m c 2 t) (iblk m c 3 t)
  Φ _ := Pipeline.ΦA spec0 c
  q _ := fullShare
  owed _ := 0

theorem A_eq (c : Dev nD) (w : Fin (cfg0 (F := F)).W) : (dats m 0 c).A w = V m c (Pipeline.arrRef spec0 w) := by
  dsimp only [dats]

theorem after0 (c : Dev nD) (t : Fin (cfg0 (F := F)).N) : (dats m 0 c).after 0 t = iblk m c 0 t := by dsimp only [dats]; rfl
theorem after1 (c : Dev nD) (t : Fin (cfg0 (F := F)).N) : (dats m 0 c).after 1 t = iblk m c 1 t := by dsimp only [dats]; rfl
theorem after2 (c : Dev nD) (t : Fin (cfg0 (F := F)).N) : (dats m 0 c).after 2 t = iblk m c 2 t := by dsimp only [dats]; rfl
theorem after3 (c : Dev nD) (t : Fin (cfg0 (F := F)).N) : (dats m 0 c).after 3 t = iblk m c 3 t := by dsimp only [dats]; rfl
theorem after4 (c : Dev nD) (t : Fin (cfg0 (F := F)).N) : (dats m 0 c).after 4 t = outAt (grid0.coords t) (iblk m c 0 t) (iblk m c 1 t) (iblk m c 2 t) (iblk m c 3 t) := by dsimp only [dats]; rfl

theorem before0 (c : Dev nD) (t : Fin (cfg0 (F := F)).N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin (cfg0 (F := F)).N) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin (cfg0 (F := F)).N) (d) : (dats m 0 c).before 2 t d = iblk m c 2 t :=
  ((dats m 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin (cfg0 (F := F)).N) (d) : (dats m 0 c).before 3 t d = iblk m c 3 t :=
  ((dats m 0 c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)

/-! ## The body at a point of the run -/

abbrev st0_0 (t : Fin (cfg0 (F := F)).N) := ((cfg0 (F := F)).win 0).stage ((cfg0 (F := F)).slots t 0)
abbrev st0_1 (t : Fin (cfg0 (F := F)).N) := ((cfg0 (F := F)).win 1).stage ((cfg0 (F := F)).slots t 1)
abbrev st0_2 (t : Fin (cfg0 (F := F)).N) := ((cfg0 (F := F)).win 2).stage ((cfg0 (F := F)).slots t 2)
abbrev st0_3 (t : Fin (cfg0 (F := F)).N) := ((cfg0 (F := F)).win 3).stage ((cfg0 (F := F)).slots t 3)
abbrev st0_4 (t : Fin (cfg0 (F := F)).N) := ((cfg0 (F := F)).win 4).stage ((cfg0 (F := F)).slots t 4)

/-- The body at point `t`, on the staging buffers of that point. -/
abbrev bodyAt0 (t : Fin (cfg0 (F := F)).N) : Prog (TpuEff nD τ sig (Elt F) (Λ₀ F) .tc) PUnit :=
  cc0_sb_attention (grid0.coords t) (st0_0 t) (hstage0_0 (((cfg0 (F := F)).slots t 0).cast nbuf0_0)) (st0_1 t) (hstage0_1 (((cfg0 (F := F)).slots t 1).cast nbuf0_1)) (st0_2 t) (hstage0_2 (((cfg0 (F := F)).slots t 2).cast nbuf0_2)) (st0_3 t) (hstage0_3 (((cfg0 (F := F)).slots t 3).cast nbuf0_3)) (st0_4 t) (hstage0_4 (((cfg0 (F := F)).slots t 4).cast nbuf0_4))

/-- Before the body. -/
def bodyPre (c : Dev nD) (t : Fin (cfg0 (F := F)).N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- After it. -/
def bodyPost (c : Dev nD) (t : Fin (cfg0 (F := F)).N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

theorem sound_body (c : Dev nD) (t : Fin (cfg0 (F := F)).N) :
    bodyPre m c t ⊢ wp frame (wpE (defs₀ (F := F)) 𝒱₀ c none) Set.univ (bodyAt0 t) (fun _ => bodyPost m c t) := by
  unfold bodyPre bodyPost bodyAt0
  simp only [before0, before1, before2, before3]
  rw [show (dats m 0 c).Φ t.succ = (dats m 0 c).Φ t.castSucc from rfl,
    show (dats m 0 c).owesAt () t.succ = (dats m 0 c).owesAt () t.castSucc from rfl,
    after0, after1, after2, after3, after4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem defs₀_row (t : Fin (cfg0 (F := F)).N) :
    defs₀ (F := F) .tc (cfg0 (F := F)).body ((cfg0 (F := F)).bodyArgs t ((cfg0 (F := F)).slots t)) = bodyAt0 t := by
  unfold defs₀; rw [Defs.onTc_tc]; rfl

theorem body_obligation (c : Dev nD) : BodyObligation (dats (F := F) m 0 c) (defs₀ (F := F)) 𝒱₀ () Set.univ := fun t => by
  rw [bigSep_W0, bigSep_W0, defs₀_row]
  exact triple_restated (sound_body m c t) rfl .rfl fun _ => .rfl

/-! ## The run and the frame -/

set_option backward.isDefEq.respectTransparency.types false in
set_option maxHeartbeats 800000 in
/-- Every run ends, with every array of the grid as the data says and every other buffer as the grid found it. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ 𝒱₀ m ρ main
    (hbody := fun c => (body_obligation m c).loose) (hshare := fun c => (dats m 0 c).share_full fun _ => rfl)
    (howed := fun _ _ => rfl) (V := V m) (hmain := hmain m) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The arguments end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).2 main_arg0 (Pipeline.mem_restRefs_of main_arg0 (by decide) (show ∀ w : Fin 5, (spec0 w).arr.view.ref ≠ main_arg0 by decide))).trans (V_main_arg0 m c),
      ((h c).2 main_arg1 (Pipeline.mem_restRefs_of main_arg1 (by decide) (show ∀ w : Fin 5, (spec0 w).arr.view.ref ≠ main_arg1 by decide))).trans (V_main_arg1 m c),
      ((h c).2 main_arg2 (Pipeline.mem_restRefs_of main_arg2 (by decide) (show ∀ w : Fin 5, (spec0 w).arr.view.ref ≠ main_arg2 by decide))).trans (V_main_arg2 m c)⟩) (run_main m ρ)

/-- The frame: every run ends, the arguments unchanged, every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.Kernel6Ideal.Stick

end
-- ==== Proof.StickSpec.lean ====
/- Stick-breaking weights over the extended reals: what one query row's scores make of its keys, the same in the base
   two the kernel works in, and both taken block of keys by block of keys. -/
module

public import proofs.«01_k».proof.Kernel6Ideal
public import Idealize.ShloMosaic.Lib.Pointwise
public import Idealize.ShloMosaic.Lib.Pipeline.ValueKit.Tiles
public import Idealize.ShloMosaic.PureOps.IdealRules

@[expose] public section

noncomputable section

namespace Cert.Stick

open Idealize.ShloMosaic
open Cert.Kernel6Ideal (S16384x256)

/-- `log (1 + exp x)`, the way it is computed: `-sp x` is the logarithm of `1 - sigmoid x`. -/
def sp (x : EReal) : EReal := max x 0 + Ideal.log (1 + Ideal.exp (-(max x (-x))))

/-- What the keys after `x` leave of the stick, as minus a logarithm. -/
def later (sc : Fin 16384 → EReal) (x : Fin 16384) : EReal := ∑ d : Fin 16384, if x.val < d.val then sp (sc d) else 0

/-- The weight of key `x`: `sigmoid` of its score times `1 - sigmoid` of every later key's. -/
def weight (sc : Fin 16384 → EReal) (x : Fin 16384) : EReal := Ideal.exp (-sp (sc x) + sc x + -later sc x)

/-- A bit as a number. -/
theorem bit_one {φ : FTy} : FloatOps.uitofp (F := Ideal) φ 1#1 = (1 : EReal) := by
  show (((1#1 : BitVec 1).toNat : ℝ) : EReal) = 1
  simp
theorem bit_zero {φ : FTy} : FloatOps.uitofp (F := Ideal) φ 0#1 = (0 : EReal) := by
  show (((0#1 : BitVec 1).toNat : ℝ) : EReal) = 0
  simp

/-- Column `d` of head `h`. -/
def col (h : Fin 4) (d : Fin 64) : Fin 256 := ⟨64 * h.val + d.val, by omega⟩

/-- The scores of query `p` in head `h`: an eighth of the dot product for the keys before it, minus infinity for the others. -/
def score (q k : FVec Ideal S16384x256 .f32) (h : Fin 4) (p x : Fin 16384) : EReal :=
  if x.val < p.val then (∑ d : Fin 64, q (ix2 p (col h d)) * k (ix2 x (col h d))) * ((1 / 8 : ℝ) : EReal) else ⊥

/-- The head of a column. -/
def headOf (j : Fin 256) : Fin 4 := ⟨j.val / 64, by omega⟩

/-- THE RESULT: every query's values in every head, weighted by its sticks. -/
def result (q k v : FVec Ideal S16384x256 .f32) : FVec Ideal S16384x256 .bf16 := fun i =>
  ∑ x : Fin 16384, weight (score q k (headOf (i 1)) (i 0)) x * v (ix2 x (i 1))

/-- One over the natural logarithm of two. -/
def κ2 : ℝ := (Real.log 2)⁻¹

theorem κ2_pos : 0 < κ2 := inv_pos.2 (Real.log_pos (by norm_num))

theorem κ2_mul_add (a b : EReal) : (κ2 : EReal) * (a + b) = κ2 * a + κ2 * b :=
  EReal.left_distrib_of_nonneg_of_ne_top (by exact_mod_cast κ2_pos.le) (EReal.coe_ne_top _) a b

theorem κ2_mul_sub (a b : EReal) : (κ2 : EReal) * (a - b) = κ2 * a - κ2 * b := by
  rw [sub_eq_add_neg, κ2_mul_add, mul_neg, ← sub_eq_add_neg]

theorem κ2_mul_sum {ι : Type*} (s : Finset ι) (f : ι → EReal) : (κ2 : EReal) * ∑ i ∈ s, f i = ∑ i ∈ s, κ2 * f i := by
  classical
  induction s using Finset.induction_on with
  | empty => simp
  | insert a s ha ih => rw [Finset.sum_insert ha, Finset.sum_insert ha, κ2_mul_add, ih]

theorem κ2_bot : (κ2 : EReal) * ⊥ = ⊥ := EReal.coe_mul_bot_of_pos κ2_pos
theorem κ2_top : (κ2 : EReal) * ⊤ = ⊤ := EReal.coe_mul_top_of_pos κ2_pos

/-- Two to the power of `x / log 2` is the exponential. -/
theorem exp2_κ2 (x : EReal) : Ideal.exp2 (κ2 * x) = Ideal.exp x := by
  induction x using EReal.rec with
  | bot => rw [κ2_bot]; rfl
  | top => rw [κ2_top]; rfl
  | coe r =>
    rw [← EReal.coe_mul]
    show ((Real.rpow 2 (κ2 * r) : ℝ) : EReal) = ((Real.exp r : ℝ) : EReal)
    congr 1
    show (2 : ℝ) ^ (κ2 * r) = _
    rw [Real.rpow_def_of_pos (by norm_num), ← mul_assoc, κ2, mul_inv_cancel₀ (Real.log_pos (by norm_num)).ne', one_mul]

theorem κ2_max (a b : EReal) : (κ2 : EReal) * max a b = max (κ2 * a) (κ2 * b) := by
  have hm : Monotone fun x : EReal => (κ2 : EReal) * x := fun x y h =>
    mul_le_mul_of_nonneg_left h (by exact_mod_cast κ2_pos.le)
  exact hm.map_max

/-- The kernel's softplus in base two is the softplus scaled. -/
theorem sp_base2 (x : EReal) :
    max (κ2 * x) 0 + Ideal.log (1 + Ideal.exp2 (0 - max (κ2 * x) (-(κ2 * x)))) * κ2 = κ2 * sp x := by
  have h1 : (max (κ2 * x) 0 : EReal) = κ2 * max x 0 := by rw [κ2_max, mul_zero]
  have h2 : (0 - max (κ2 * x) (-(κ2 * x)) : EReal) = κ2 * (-(max x (-x))) := by
    rw [zero_sub, mul_neg, κ2_max, mul_neg]
  rw [h1, h2, exp2_κ2, sp, κ2_mul_add, mul_comm (Ideal.log _)]

theorem log_one_add_nonneg (y : EReal) (h : 0 ≤ y) : 0 ≤ Ideal.log (1 + y) := by
  induction y using EReal.rec with
  | bot => exact absurd h (by simp)
  | top =>
    rw [show (1 : EReal) + ⊤ = ⊤ from EReal.coe_add_top 1]
    exact le_top
  | coe r =>
    have hr : (0 : ℝ) ≤ r := by exact_mod_cast h
    rw [show (1 : EReal) + (r : EReal) = ((1 + r : ℝ) : EReal) from (EReal.coe_add 1 r).symm]
    show (0 : EReal) ≤ if 1 + r ≤ 0 then ⊥ else ((Real.log (1 + r) : ℝ) : EReal)
    rw [if_neg (by linarith)]
    exact_mod_cast Real.log_nonneg (by linarith)

theorem exp_nonneg (y : EReal) : 0 ≤ Ideal.exp y := by
  induction y using EReal.rec with
  | bot => exact le_refl _
  | top => exact le_top
  | coe r => exact EReal.coe_nonneg.2 (Real.exp_pos r).le

theorem sp_nonneg (x : EReal) : 0 ≤ sp x := add_nonneg (le_max_right _ _) (log_one_add_nonneg _ (exp_nonneg _))

theorem sp_bot : sp ⊥ = 0 := by
  have e : Ideal.exp (-(max ⊥ (-⊥))) = 0 := by
    rw [EReal.neg_bot, max_eq_right bot_le, EReal.neg_top]; rfl
  rw [sp, e, add_zero]
  show max ⊥ 0 + (if (1 : ℝ) ≤ 0 then ⊥ else ((Real.log 1 : ℝ) : EReal)) = 0
  simp

/-- The kernel's weight in base two. -/
theorem weight_base2 (z a b : EReal) (ha : 0 ≤ a) (hb : 0 ≤ b) :
    Ideal.exp2 (κ2 * z - κ2 * sp z - (κ2 * a + κ2 * b)) = Ideal.exp (-sp z + z + -(a + b)) := by
  rw [← κ2_mul_sub, ← κ2_mul_add, ← κ2_mul_sub, exp2_κ2, sub_eq_add_neg, sub_eq_add_neg, add_comm z]

/-- Minus a sum of numbers that are not negative, term by term. -/
theorem neg_sum {ι : Type*} (s : Finset ι) (f : ι → EReal) (h : ∀ i, 0 ≤ f i) : ∑ i ∈ s, -f i = -∑ i ∈ s, f i := by
  classical
  have nb : ∀ x : EReal, 0 ≤ x → x ≠ ⊥ := fun x hx e => by rw [e] at hx; simp at hx
  induction s using Finset.induction_on with
  | empty => simp
  | insert a s ha ih =>
    rw [Finset.sum_insert ha, Finset.sum_insert ha, ih,
      EReal.neg_add (.inl (nb _ (h a))) (.inr (nb _ (Finset.sum_nonneg fun i _ => h i))), sub_eq_add_neg]

/-- Key `c` of block `b`. -/
def key (b : Nat) (c : Fin 256) : Fin 16384 := ⟨(256 * b + c.val) % 16384, Nat.mod_lt _ (by decide)⟩

theorem key_val (b : Nat) (hb : b < 64) (c : Fin 256) : (key b c).val = 256 * b + c.val := Nat.mod_eq_of_lt (by omega)

/-- A sum over all keys, block by block. -/
theorem sum_key (f : Fin 16384 → EReal) : ∑ x, f x = ∑ b ∈ Finset.Ico 0 64, ∑ c, f (key b c) := by
  rw [Fin.sum_univ_tiles 64 256 rfl f, Finset.sum_Ico_eq_sum_range, Finset.sum_range]
  refine Finset.sum_congr rfl fun b _ => Finset.sum_congr rfl fun c _ => congrArg f (Fin.ext ?_)
  rw [key_val _ (by have := b.isLt; omega)]
  simp [mul_comm]

/-- A block's sum of softplus. -/
def blockSum (sc : Fin 16384 → EReal) (b : Nat) : EReal := ∑ c, sp (sc (key b c))

/-- A block's weighted values. -/
def blockVal (sc : Fin 16384 → EReal) (v : Fin 16384 → EReal) (b : Nat) : EReal := ∑ c, weight sc (key b c) * v (key b c)

/-- What is later than a key: the later keys of its own block, and the later blocks. -/
theorem later_key (sc : Fin 16384 → EReal) (b : Nat) (hb : b < 64) (c : Fin 256) :
    later sc (key b c) = (∑ d : Fin 256, if c.val < d.val then sp (sc (key b d)) else 0) + ∑ b' ∈ Finset.Ico (b + 1) 64, blockSum sc b' := by
  rw [later, sum_key, ← Finset.sum_Ico_consecutive _ (Nat.zero_le b) (by omega : b ≤ 64), Finset.sum_eq_sum_Ico_succ_bot (by omega : b < 64)]
  have h0 : ∑ b' ∈ Finset.Ico 0 b, ∑ d : Fin 256, (if (key b c).val < (key b' d).val then sp (sc (key b' d)) else 0) = 0 := by
    refine Finset.sum_eq_zero fun b' h' => Finset.sum_eq_zero fun d _ => if_neg ?_
    have := (Finset.mem_Ico.1 h').2
    rw [key_val b hb, key_val b' (by omega)]
    omega
  rw [h0, zero_add]
  congr 1
  · refine Finset.sum_congr rfl fun d _ => ?_
    rw [key_val b hb, key_val b hb]
    exact if_congr (by omega) rfl rfl
  · refine Finset.sum_congr rfl fun b' h' => Finset.sum_congr rfl fun d _ => if_pos ?_
    have := Finset.mem_Ico.1 h'
    rw [key_val b hb, key_val b' (by omega)]
    omega

/-- The weight of key `c` of block `b` as the kernel has it. -/
theorem weight_key (sc : Fin 16384 → EReal) (b : Nat) (hb : b < 64) (c : Fin 256) :
    Ideal.exp2 (κ2 * sc (key b c) - κ2 * sp (sc (key b c))
        - ((∑ d : Fin 256, κ2 * sp (sc (key b d)) * (if c.val < d.val then 1 else 0)) + κ2 * ∑ b' ∈ Finset.Ico (b + 1) 64, blockSum sc b'))
      = weight sc (key b c) := by
  have e : ∑ d : Fin 256, (κ2 : EReal) * sp (sc (key b d)) * (if c.val < d.val then 1 else 0)
      = κ2 * ∑ d : Fin 256, if c.val < d.val then sp (sc (key b d)) else 0 := by
    rw [κ2_mul_sum]
    refine Finset.sum_congr rfl fun d _ => ?_
    by_cases h : c.val < d.val
    · rw [if_pos h, if_pos h, mul_one]
    · rw [if_neg h, if_neg h, mul_zero, mul_zero]
  have h1 : 0 ≤ ∑ d : Fin 256, if c.val < d.val then sp (sc (key b d)) else 0 :=
    Finset.sum_nonneg fun d _ => by split; exacts [sp_nonneg _, le_refl _]
  have h2 : 0 ≤ ∑ b' ∈ Finset.Ico (b + 1) 64, blockSum sc b' :=
    Finset.sum_nonneg fun b _ => Finset.sum_nonneg fun d _ => sp_nonneg _
  rw [e, weight_base2 _ _ _ h1 h2, weight, later_key sc b hb]

/-- A key that is not seen has no weight. -/
theorem weight_bot (sc : Fin 16384 → EReal) (x : Fin 16384) (h : sc x = ⊥) : weight sc x = 0 := by
  rw [weight, h, EReal.add_bot, EReal.bot_add]; rfl

end Cert.Stick

end
-- ==== Proof.StickTrip.lean ====
/- One trip of the attention kernel's loop at the ideal numbers, a query row and a head at a time: two blocks of keys
   join the running total and the running sum of weighted values. -/
module

public import proofs.«01_k».proof.Proof.StickRun
public import proofs.«01_k».proof.Proof.StickSpec
public import proofs.«01_k».proof.Proof.FfnBlock

@[expose] public section

set_option maxRecDepth 16384

noncomputable section

namespace Cert.Kernel6Ideal.Stick

open Idealize.ShloMosaic Idealize.ShloMosaic.TcCoe Idealize.SL.Sem
open Cert.Kernel6Ideal Cert.Kernel6Ideal.Gen Cert.Stick

/-! ## The named constants -/

theorem masked_bot : Named.named (F := Ideal) (φ := .f32) κ "masked" 0xC6616BCD#32 = (⊥ : EReal) :=
  IdealRules.named_const.ideal_named_scalar κ "masked" _ _ rfl

theorem underflow_top : Named.named (F := Ideal) (φ := .f32) κ "underflow" 0x43160A50#32 = (⊤ : EReal) :=
  IdealRules.named_const.ideal_named_scalar κ "underflow" _ _ rfl

theorem inv_ln2_κ2 : Named.named (F := Ideal) (φ := .f32) κ "inv_ln2" 0x3FB8AA3B#32 = (κ2 : EReal) :=
  IdealRules.named_const.ideal_named_scalar κ "inv_ln2" _ _ rfl

theorem scale_κ2 : Named.named (F := Ideal) (φ := .f32) κ "scale_log2e" 0x3E38AA3B#32 = ((κ2 * (1 / 8) : ℝ) : EReal) :=
  (IdealRules.named_const.ideal_named_scalar κ "scale_log2e" _ _ rfl).trans (congrArg _ (by
    rw [κ2, mul_inv]; ring))

/-! ## The pieces of a trip, the same for every head and both blocks -/

/-- A block's scores. -/
abbrev zf (q : FVec Ideal S256x128 .bf16) (m : IVec S256x256 1) (k : FVec Ideal S256x128 .bf16) : FVec Ideal S256x256 .f32 := k0_pay30 q m k
/-- Their softplus. -/
abbrev sf (z : FVec Ideal S256x256 .f32) : FVec Ideal S256x256 .f32 := k0_pay41 z
/-- The total with a block added. -/
abbrev tf (c : FVec Ideal S256x1 .f32) (s : FVec Ideal S256x256 .f32) : FVec Ideal S256x1 .f32 := k0_pay58 c s
/-- A block's weighted values. -/
abbrev yf (c : FVec Ideal S256x1 .f32) (v : FVec Ideal S256x128 .bf16) (z : FVec Ideal S256x256 .f32) (t : FVec Ideal S256x256 .bf16) : FVec Ideal S256x128 .f32 :=
  k0_pay70 c v z (sf z) (k0_pay51 t (sf z))

section Same

variable (e : Env Ideal) (xk xv : Vec Ideal S16384x256 .bf16) (j : BitVec 32) (h : k0_chk1 j) (c : FVec Ideal S256x1 .f32)

theorem t00_eq : t00 e xk j h c = tf c (sf (z00 e xk j h)) := rfl
theorem t10_eq : t10 e xk j h c = tf c (sf (z10 e xk j h)) := rfl
theorem t20_eq : t20 e xk j h c = tf c (sf (z20 e xk j h)) := rfl
theorem t30_eq : t30 e xk j h c = tf c (sf (z30 e xk j h)) := rfl
theorem t01_eq : t01 e xk j h c = tf (tf c (sf (z00 e xk j h))) (sf (z01 e xk j h)) := rfl
theorem t11_eq : t11 e xk j h c = tf (tf c (sf (z10 e xk j h))) (sf (z11 e xk j h)) := rfl
theorem t21_eq : t21 e xk j h c = tf (tf c (sf (z20 e xk j h))) (sf (z21 e xk j h)) := rfl
theorem t31_eq : t31 e xk j h c = tf (tf c (sf (z30 e xk j h))) (sf (z31 e xk j h)) := rfl
theorem y00_eq : y00 e xk xv j h c = yf c (k0_pay26 (View.ld xv (b00 j h))) (z00 e xk j h) e.tri := rfl
theorem y10_eq : y10 e xk xv j h c = yf c (k0_pay26 (View.ld xv (b00 j h))) (z10 e xk j h) e.tri := rfl
theorem y20_eq : y20 e xk xv j h c = yf c (k0_pay27 (View.ld xv (b01 j h))) (z20 e xk j h) e.tri := rfl
theorem y30_eq : y30 e xk xv j h c = yf c (k0_pay27 (View.ld xv (b01 j h))) (z30 e xk j h) e.tri := rfl
theorem y01_eq : y01 e xk xv j h c = yf (tf c (sf (z00 e xk j h))) (k0_pay28 (View.ld xv (b10 j h))) (z01 e xk j h) e.tri := rfl
theorem y11_eq : y11 e xk xv j h c = yf (tf c (sf (z10 e xk j h))) (k0_pay28 (View.ld xv (b10 j h))) (z11 e xk j h) e.tri := rfl
theorem y21_eq : y21 e xk xv j h c = yf (tf c (sf (z20 e xk j h))) (k0_pay29 (View.ld xv (b11 j h))) (z21 e xk j h) e.tri := rfl

theorem acc1_eq (lo hi : IVec S256x128 1) (a y20 y30 y21 : FVec Ideal S256x128 .f32) :
    k0_pay11 lo hi a (k0_pay29 (View.ld xv (b11 j h))) (w31 e xk j h c) y20 y30 y21 (constant S256x128 .f32 0x00000000#32)
      = k0_pay10 lo hi a y20 y30 y21 (yf (tf c (sf (z30 e xk j h))) (k0_pay29 (View.ld xv (b11 j h))) (z31 e xk j h) e.tri) := rfl

end Same

/-! ## The pieces at a row -/

theorem sf_apply (z : FVec Ideal S256x256 .f32) (r c : Fin 256) (x : EReal) (hz : z (ix2 r c) = κ2 * x) :
    sf z (ix2 r c) = κ2 * sp x := by
  rw [← sp_base2, ← hz]
  pointwise [sf, k0_pay41]
  rw [inv_ln2_κ2]
  rfl

theorem tf_apply (c : FVec Ideal S256x1 .f32) (s : FVec Ideal S256x256 .f32) (r : Fin 256) :
    tf c s (ix2 r 0) = c (ix2 r 0) + ∑ x, s (ix2 r x) := by
  pointwise [tf, k0_pay58]

theorem yf_apply (c : FVec Ideal S256x1 .f32) (v : FVec Ideal S256x128 .bf16) (z : FVec Ideal S256x256 .f32) (t : FVec Ideal S256x256 .bf16)
    (r : Fin 256) (l : Fin 128) :
    yf c v z t (ix2 r l) = ∑ x, Ideal.exp2 (z (ix2 r x) - sf z (ix2 r x) - (∑ d, sf z (ix2 r d) * t (ix2 d x) + c (ix2 r 0))) * v (ix2 x l) := by
  unfold yf
  generalize sf z = s
  pointwise [k0_pay70, k0_pay51]
  rfl

theorem acc_apply (lo hi : IVec S256x128 1) (a y0 y1 y0' y1' : FVec Ideal S256x128 .f32) (r : Fin 256) (l : Fin 128) :
    k0_pay10 lo hi a y0 y1 y0' y1' (ix2 r l)
      = a (ix2 r l) + (Scalar.select (lo (ix2 r l)) (y0 (ix2 r l) + y0' (ix2 r l)) 0 + Scalar.select (hi (ix2 r l)) (y1 (ix2 r l) + y1' (ix2 r l)) 0) := by
  pointwise [k0_pay10]

/-- A block whose keys are none of them seen adds nothing to the total. -/
theorem sf_bot (z : FVec Ideal S256x256 .f32) (r c : Fin 256) (hz : z (ix2 r c) = ⊥) : sf z (ix2 r c) = 0 := by
  rw [sf_apply z r c ⊥ (hz.trans κ2_bot.symm), sp_bot, mul_zero]

/-- A block added to the total. -/
theorem tf_block (sc : Fin 16384 → EReal) (b : Nat) (hb : b < 64) (c : FVec Ideal S256x1 .f32) (z : FVec Ideal S256x256 .f32) (r : Fin 256)
    (hc : c (ix2 r 0) = κ2 * ∑ b' ∈ Finset.Ico (b + 1) 64, blockSum sc b') (hz : ∀ x, z (ix2 r x) = κ2 * sc (key b x)) :
    tf c (sf z) (ix2 r 0) = κ2 * ∑ b' ∈ Finset.Ico b 64, blockSum sc b' := by
  rw [tf_apply, hc, Finset.sum_eq_sum_Ico_succ_bot hb, κ2_mul_add, add_comm]
  congr 1
  rw [blockSum, κ2_mul_sum]
  exact Finset.sum_congr rfl fun x _ => sf_apply z r x _ (hz x)

/-- A block's weighted values. -/
theorem yf_block (sc V : Fin 16384 → EReal) (b : Nat) (hb : b < 64) (c : FVec Ideal S256x1 .f32) (v : FVec Ideal S256x128 .bf16)
    (z : FVec Ideal S256x256 .f32) (t : FVec Ideal S256x256 .bf16) (r : Fin 256) (l : Fin 128)
    (ht : ∀ d x : Fin 256, t (ix2 d x) = if x.val < d.val then 1 else 0)
    (hc : c (ix2 r 0) = κ2 * ∑ b' ∈ Finset.Ico (b + 1) 64, blockSum sc b') (hz : ∀ x, z (ix2 r x) = κ2 * sc (key b x))
    (hv : ∀ x, v (ix2 x l) = V (key b x)) :
    yf c v z t (ix2 r l) = blockVal sc V b := by
  rw [yf_apply, blockVal]
  refine Finset.sum_congr rfl fun x _ => ?_
  rw [← weight_key sc b hb x, hv x, sf_apply z r x _ (hz x), hz x, hc]
  congr 4
  exact Finset.sum_congr rfl fun d _ => by rw [sf_apply z r d _ (hz d), ht d x]

/-- A block whose keys are none of them seen has no weighted values. -/
theorem yf_bot (c : FVec Ideal S256x1 .f32) (v : FVec Ideal S256x128 .bf16)
    (z : FVec Ideal S256x256 .f32) (t : FVec Ideal S256x256 .bf16) (r : Fin 256) (l : Fin 128) (hz : ∀ x, z (ix2 r x) = ⊥) :
    yf c v z t (ix2 r l) = 0 := by
  rw [yf_apply]
  refine Finset.sum_eq_zero fun x _ => ?_
  rw [hz x, sub_eq_add_neg, sub_eq_add_neg, EReal.bot_add, EReal.bot_add]
  exact zero_mul _

/-! ## A head's two blocks -/

section Head

variable (sc V : Fin 16384 → EReal) (n : Nat) (h2 : 2 ≤ n) (hn : n < 66) (c : FVec Ideal S256x1 .f32) (z0 z1 : FVec Ideal S256x256 .f32) (r : Fin 256)
  (hc : c (ix2 r 0) = κ2 * ∑ b ∈ Finset.Ico (n - 1) 64, blockSum sc b) (hz0 : ∀ x, z0 (ix2 r x) = κ2 * sc (key (n - 2) x))
  (hz1 : ∀ x, z1 (ix2 r x) = if 3 ≤ n then κ2 * sc (key (n - 3) x) else ⊥)

include h2 hn hc hz0 in
theorem head_first : tf c (sf z0) (ix2 r 0) = κ2 * ∑ b ∈ Finset.Ico (n - 2) 64, blockSum sc b :=
  tf_block sc (n - 2) (by omega) c z0 r (by rw [hc, show n - 2 + 1 = n - 1 by omega]) hz0

include h2 hn hc hz0 hz1 in
/-- The total after both blocks. -/
theorem head_total : tf (tf c (sf z0)) (sf z1) (ix2 r 0) = κ2 * ∑ b ∈ Finset.Ico (n - 2 - 1) 64, blockSum sc b := by
  have e := head_first sc n h2 hn c z0 r hc hz0
  by_cases h3 : 3 ≤ n
  · exact tf_block sc (n - 2 - 1) (by omega) _ z1 r (by rw [e, show n - 2 - 1 + 1 = n - 2 by omega]) fun x => by
      rw [hz1 x, if_pos h3, show n - 2 - 1 = n - 3 by omega]
  · rw [tf_apply, e, Finset.sum_eq_zero fun x _ => sf_bot z1 r x (by rw [hz1 x, if_neg h3]), add_zero, show n - 2 - 1 = n - 2 by omega]

include h2 hn hc hz0 hz1 in
/-- The weighted values of both blocks, added to those of the later blocks. -/
theorem head_value (t : FVec Ideal S256x256 .bf16) (v0 v1 : FVec Ideal S256x128 .bf16) (l : Fin 128)
    (ht : ∀ d x : Fin 256, t (ix2 d x) = if x.val < d.val then 1 else 0)
    (hv0 : ∀ x, v0 (ix2 x l) = V (key (n - 2) x)) (hv1 : ∀ x, v1 (ix2 x l) = V (key (n - 3) x)) :
    (∑ b ∈ Finset.Ico (n - 1) 64, blockVal sc V b) + (yf c v0 z0 t (ix2 r l) + yf (tf c (sf z0)) v1 z1 t (ix2 r l))
      = ∑ b ∈ Finset.Ico (n - 2 - 1) 64, blockVal sc V b := by
  have e := head_first sc n h2 hn c z0 r hc hz0
  rw [yf_block sc V (n - 2) (by omega) c v0 z0 t r l ht (by rw [hc, show n - 2 + 1 = n - 1 by omega]) hz0 hv0]
  have g : ∑ b ∈ Finset.Ico (n - 2) 64, blockVal sc V b = blockVal sc V (n - 2) + ∑ b ∈ Finset.Ico (n - 1) 64, blockVal sc V b := by
    rw [Finset.sum_eq_sum_Ico_succ_bot (by omega : n - 2 < 64), show n - 2 + 1 = n - 1 by omega]
  by_cases h3 : 3 ≤ n
  · rw [yf_block sc V (n - 3) (by omega) _ v1 z1 t r l ht (by rw [e, show n - 3 + 1 = n - 2 by omega]) (fun x => by rw [hz1 x, if_pos h3]) hv1,
      show n - 2 - 1 = n - 3 by omega, Finset.sum_eq_sum_Ico_succ_bot (by omega : n - 3 < 64), show n - 3 + 1 = n - 2 by omega, g]
    abel
  · rw [yf_bot _ v1 z1 t r l (fun x => by rw [hz1 x, if_neg h3]), show n - 2 - 1 = n - 2 by omega, g, add_zero, add_comm]

end Head

end Cert.Kernel6Ideal.Stick

end
-- ==== Proof.StickBlock.lean ====
/- One grid point of the attention kernel at the ideal numbers: 256 queries, all four heads, against every key. -/
module

public import proofs.«01_k».proof.Proof.StickTrip
public import proofs.«01_k».proof.Proof.AttnPoint

@[expose] public section

set_option maxRecDepth 16384

noncomputable section

namespace Cert.Kernel6Ideal.Stick

open Idealize.ShloMosaic Idealize.ShloMosaic.TcCoe Idealize.SL.Sem
open Cert.Kernel6Ideal Cert.Kernel6Ideal.Gen Cert.Stick
open Cert.KernelIdeal.Attn (lane_lower lane_upper sum_lower sum_upper)

/-! ## The masks -/

theorem bound0 : ∀ (i : Fin 64) (n : Fin 66), 2 ≤ n.val →
    (Scalar.muli (Scalar.addi (Scalar.subi (BitVec.ofNat 32 i.val) (cnt n.val)) 0#32) 256#32).toInt = ((i.val : ℤ) - n.val + 2) * 256 := by
  decide +kernel

theorem bound1 : ∀ (i : Fin 64) (n : Fin 66), 2 ≤ n.val →
    (Scalar.muli (Scalar.addi (Scalar.subi (BitVec.ofNat 32 i.val) (cnt n.val)) 1#32) 256#32).toInt = ((i.val : ℤ) - n.val + 3) * 256 := by
  decide +kernel

theorem inside0 : ∀ n : Fin 66, 2 ≤ n.val → Scalar.cmpi .sge (Scalar.subi (cnt n.val) 0#32) 0#32 = 1#1 := by decide +kernel

theorem inside1 : ∀ n : Fin 66, 2 ≤ n.val → Scalar.cmpi .sge (Scalar.subi (cnt n.val) 1#32) 0#32 = if 3 ≤ n.val then 1#1 else 0#1 := by decide +kernel

/-- A key's place in its block less a query's in its own. -/
theorem rel_toInt (c r : Fin 256) : (IntOp.subi (BitVec.ofNat 32 c.val) (BitVec.ofNat 32 r.val)).toInt = (c.val : ℤ) - r.val := by
  show (BitVec.ofNat 32 c.val - BitVec.ofNat 32 r.val).toInt = _
  have e : ∀ a : Fin 256, (BitVec.ofNat 32 a.val).toInt = a.val := by decide +kernel
  rw [BitVec.toInt_sub, e, e]
  exact Int.bmod_eq_of_le (by omega) (by omega)

theorem slt_of_toInt (x y : BitVec 32) (a b : ℤ) (hx : x.toInt = a) (hy : y.toInt = b) : IntOp.cmpi .slt x y = if a < b then 1#1 else 0#1 := by
  show BitVec.ofBool (x.slt y) = _
  rw [BitVec.slt, hx, hy]
  by_cases h : a < b <;> simp [h]

theorem m0_apply (i : Fin 64) (n : Nat) (h2 : 2 ≤ n) (hn : n < 66) (r c : Fin 256) :
    k0_pay20 k0_pay14 (cnt n) (BitVec.ofNat 32 i.val) (ix2 r c) = if 256 * (n - 2) + c.val < 256 * i.val + r.val then 1#1 else 0#1 := by
  pointwise [k0_pay20, k0_pay14]
  rw [inside0 ⟨n, hn⟩ h2, slt_of_toInt _ _ _ _ (rel_toInt c r) (bound0 i ⟨n, hn⟩ h2)]
  by_cases h : 256 * (n - 2) + c.val < 256 * i.val + r.val
  · rw [if_pos h, if_pos (by push_cast; omega)]; rfl
  · rw [if_neg h, if_neg (by push_cast; omega)]; rfl

theorem m1_apply (i : Fin 64) (n : Nat) (h2 : 2 ≤ n) (hn : n < 66) (r c : Fin 256) :
    k0_pay21 k0_pay14 (cnt n) (BitVec.ofNat 32 i.val) (ix2 r c) = if 3 ≤ n ∧ 256 * (n - 3) + c.val < 256 * i.val + r.val then 1#1 else 0#1 := by
  pointwise [k0_pay21, k0_pay14]
  have hin : Scalar.cmpi .sge (Scalar.subi (cnt n) 1#32) 0#32 = if 3 ≤ n then 1#1 else 0#1 := inside1 ⟨n, hn⟩ h2
  have hb : (Scalar.muli (Scalar.addi (Scalar.subi (BitVec.ofNat 32 i.val) (cnt n)) 1#32) 256#32).toInt = ((i.val : ℤ) - n + 3) * 256 :=
    bound1 i ⟨n, hn⟩ h2
  rw [hin, slt_of_toInt _ _ _ _ (rel_toInt c r) hb]
  by_cases h3 : 3 ≤ n
  · rw [if_pos h3]
    by_cases h : 256 * (n - 3) + c.val < 256 * i.val + r.val
    · rw [if_pos (show 3 ≤ n ∧ _ from ⟨h3, h⟩), if_pos (show (c.val : ℤ) - r.val < ((i.val : ℤ) - n + 3) * 256 by omega)]; rfl
    · rw [if_neg (show ¬(3 ≤ n ∧ 256 * (n - 3) + c.val < 256 * i.val + r.val) from fun h' => h h'.2),
        if_neg (show ¬((c.val : ℤ) - r.val < ((i.val : ℤ) - n + 3) * 256) by omega)]; rfl
  · rw [if_neg h3, if_neg (show ¬(3 ≤ n ∧ 256 * (n - 3) + c.val < 256 * i.val + r.val) from fun h' => h3 h'.1)]
    by_cases h : (c.val : ℤ) - r.val < ((i.val : ℤ) - n + 3) * 256
    · rw [if_pos h]; rfl
    · rw [if_neg h]; rfl

/-! ## The blocks of keys and values -/

theorem off_00 : ∀ n : Fin 66, 2 ≤ n.val → k0_off1 (cnt n.val) 0#32 = ![256 * (n.val - 2), 0] := by decide +kernel
theorem off_01 : ∀ n : Fin 66, 2 ≤ n.val → k0_off2 (cnt n.val) 0#32 = ![256 * (n.val - 2), 128] := by decide +kernel
theorem off_10 : ∀ n : Fin 66, 2 ≤ n.val → k0_off1 (cnt n.val) 1#32 = ![256 * (n.val - 3), 0] := by decide +kernel
theorem off_11 : ∀ n : Fin 66, 2 ≤ n.val → k0_off2 (cnt n.val) 1#32 = ![256 * (n.val - 3), 128] := by decide +kernel

/-- A block read back. -/
theorem ld_block (x : Vec Ideal S16384x256 .bf16) (o : Fin 2 → Nat) (b : Nat) (hb : b < 64) (w : Nat) (ho : o = ![256 * b, w]) (h)
    (c : Fin 256) (l : Fin 128) (j : Fin 256) (hj : j.val = w + l.val) :
    View.ld x (Rect.unit (s := S16384x256) o S256x128.size h) (ix2 c l) = x (ix2 (key b c) j) := by
  subst ho
  exact View.ld_unit_apply_of x _ _ _ _ (ix2 (key b c) j) fun a => by
    match a with
    | ⟨0, _⟩ => exact key_val b hb c
    | ⟨1, _⟩ => exact hj

/-- A column of the left half, and of the right half. -/
def colL (l : Fin 128) : Fin 256 := ⟨l.val, by omega⟩
def colR (l : Fin 128) : Fin 256 := ⟨128 + l.val, by omega⟩

theorem ld00 (x : Vec Ideal S16384x256 .bf16) (n : Nat) (h2 : 2 ≤ n) (hn : n < 66) (h : k0_chk1 (cnt n)) (c : Fin 256) (l : Fin 128) :
    View.ld x (b00 (cnt n) h) (ix2 c l) = x (ix2 (key (n - 2) c) (colL l)) :=
  ld_block x _ _ (by omega) 0 (off_00 ⟨n, hn⟩ h2) _ c l _ (Nat.zero_add _).symm
theorem ld01 (x : Vec Ideal S16384x256 .bf16) (n : Nat) (h2 : 2 ≤ n) (hn : n < 66) (h : k0_chk1 (cnt n)) (c : Fin 256) (l : Fin 128) :
    View.ld x (b01 (cnt n) h) (ix2 c l) = x (ix2 (key (n - 2) c) (colR l)) :=
  ld_block x _ _ (by omega) 128 (off_01 ⟨n, hn⟩ h2) _ c l _ rfl
theorem ld10 (x : Vec Ideal S16384x256 .bf16) (n : Nat) (h2 : 2 ≤ n) (hn : n < 66) (h : k0_chk1 (cnt n)) (c : Fin 256) (l : Fin 128) :
    View.ld x (b10 (cnt n) h) (ix2 c l) = x (ix2 (key (n - 3) c) (colL l)) :=
  ld_block x _ _ (by omega) 0 (off_10 ⟨n, hn⟩ h2) _ c l _ (Nat.zero_add _).symm
theorem ld11 (x : Vec Ideal S16384x256 .bf16) (n : Nat) (h2 : 2 ≤ n) (hn : n < 66) (h : k0_chk1 (cnt n)) (c : Fin 256) (l : Fin 128) :
    View.ld x (b11 (cnt n) h) (ix2 c l) = x (ix2 (key (n - 3) c) (colR l)) :=
  ld_block x _ _ (by omega) 128 (off_11 ⟨n, hn⟩ h2) _ c l _ rfl

theorem pay22_apply (x : Vec Ideal S256x128 .bf16) (c : Fin 256) (l : Fin 128) : k0_pay22 x (ix2 c l) = x (ix2 c l) := by pointwise [k0_pay22]
theorem pay23_apply (x : Vec Ideal S256x128 .bf16) (c : Fin 256) (l : Fin 128) : k0_pay23 x (ix2 c l) = x (ix2 c l) := by pointwise [k0_pay23]
theorem pay24_apply (x : Vec Ideal S256x128 .bf16) (c : Fin 256) (l : Fin 128) : k0_pay24 x (ix2 c l) = x (ix2 c l) := by pointwise [k0_pay24]
theorem pay25_apply (x : Vec Ideal S256x128 .bf16) (c : Fin 256) (l : Fin 128) : k0_pay25 x (ix2 c l) = x (ix2 c l) := by pointwise [k0_pay25]
theorem pay26_apply (x : Vec Ideal S256x128 .bf16) (c : Fin 256) (l : Fin 128) : k0_pay26 x (ix2 c l) = x (ix2 c l) := by pointwise [k0_pay26]
theorem pay27_apply (x : Vec Ideal S256x128 .bf16) (c : Fin 256) (l : Fin 128) : k0_pay27 x (ix2 c l) = x (ix2 c l) := by pointwise [k0_pay27]
theorem pay28_apply (x : Vec Ideal S256x128 .bf16) (c : Fin 256) (l : Fin 128) : k0_pay28 x (ix2 c l) = x (ix2 c l) := by pointwise [k0_pay28]
theorem pay29_apply (x : Vec Ideal S256x128 .bf16) (c : Fin 256) (l : Fin 128) : k0_pay29 x (ix2 c l) = x (ix2 c l) := by pointwise [k0_pay29]

/-! ## The queries and the scores -/

theorem lo_apply (r : Fin 256) (l : Fin 128) : k0_pay15 (ix2 r l) = if l.val < 64 then 1#1 else 0#1 := by
  rw [← lane_lower l]; pointwise [k0_pay15]
theorem hi_apply (r : Fin 256) (l : Fin 128) : k0_pay16 (ix2 r l) = if l.val < 64 then 0#1 else 1#1 := by
  rw [← lane_upper l]; pointwise [k0_pay16]

theorem q_lower (x : Vec Ideal S256x128 .bf16) (r : Fin 256) (l : Fin 128) :
    k0_pay17 x (ix2 r l) = Scalar.select (if l.val < 64 then 1#1 else 0#1) (x (ix2 r l) * ((κ2 * (1 / 8) : ℝ) : EReal)) 0 := by
  pointwise [k0_pay17, lo_apply]
  rw [scale_κ2]
theorem q_upper (x : Vec Ideal S256x128 .bf16) (r : Fin 256) (l : Fin 128) :
    k0_pay18 x (ix2 r l) = Scalar.select (if l.val < 64 then 0#1 else 1#1) (x (ix2 r l) * ((κ2 * (1 / 8) : ℝ) : EReal)) 0 := by
  pointwise [k0_pay18, hi_apply]
  rw [scale_κ2]
theorem q_lower' (x : Vec Ideal S256x128 .bf16) (r : Fin 256) (l : Fin 128) :
    k0_pay19 x (ix2 r l) = Scalar.select (if l.val < 64 then 1#1 else 0#1) (x (ix2 r l) * ((κ2 * (1 / 8) : ℝ) : EReal)) 0 := by
  pointwise [k0_pay19, lo_apply]
  rw [scale_κ2]
theorem q_upper' (x : Vec Ideal S256x128 .bf16) (r : Fin 256) (l : Fin 128) :
    k0_pay1 k0_pay16 x (ix2 r l) = Scalar.select (if l.val < 64 then 0#1 else 1#1) (x (ix2 r l) * ((κ2 * (1 / 8) : ℝ) : EReal)) 0 := by
  pointwise [k0_pay1, hi_apply]
  rw [scale_κ2]

theorem zf_apply (q k : FVec Ideal S256x128 .bf16) (m : IVec S256x256 1) (r c : Fin 256) :
    zf q m k (ix2 r c) = Scalar.select (m (ix2 r c)) (∑ d, q (ix2 r d) * k (ix2 c d)) ⊥ := by
  pointwise [zf, k0_pay30]
  rw [masked_bot]

/-- The scaled sum: scaling each query lane scales the score. -/
theorem scaled_sum (a b : Fin 64 → EReal) :
    ∑ d, a d * ((κ2 * (1 / 8) : ℝ) : EReal) * b d = κ2 * ((∑ d, a d * b d) * ((1 / 8 : ℝ) : EReal)) := by
  rw [mul_comm (∑ d, _) _, ← mul_assoc, ← EReal.coe_mul]
  have hp : (0 : ℝ) ≤ κ2 * (1 / 8) := mul_nonneg κ2_pos.le (by norm_num)
  have key : ∀ (s : Finset (Fin 64)), ((κ2 * (1 / 8) : ℝ) : EReal) * ∑ d ∈ s, a d * b d = ∑ d ∈ s, a d * ((κ2 * (1 / 8) : ℝ) : EReal) * b d := by
    classical
    intro s
    induction s using Finset.induction_on with
    | empty => simp
    | insert x s hx ih =>
      rw [Finset.sum_insert hx, Finset.sum_insert hx,
        EReal.left_distrib_of_nonneg_of_ne_top (EReal.coe_nonneg.2 hp) (EReal.coe_ne_top _), ih, ← mul_assoc, mul_comm _ (a x)]
  exact (key _).symm

/-- A head's scores against a block, from its queries and its keys: the left head of a half of the columns. -/
theorem zf_lower (q k : FVec Ideal S16384x256 .f32) (h : Fin 4) (P X : Fin 16384) (Q K : FVec Ideal S256x128 .bf16) (xq : Vec Ideal S256x128 .bf16) (m : IVec S256x256 1)
    (r c : Fin 256) (p : Prop) [Decidable p] (hm : m (ix2 r c) = if p then 1#1 else 0#1)
    (hQ : ∀ l : Fin 128, Q (ix2 r l) = Scalar.select (if l.val < 64 then 1#1 else 0#1) (xq (ix2 r l) * ((κ2 * (1 / 8) : ℝ) : EReal)) 0)
    (hq : ∀ d : Fin 64, xq (ix2 r ⟨d.val, by omega⟩) = q (ix2 P (col h d))) (hk : ∀ d : Fin 64, K (ix2 c ⟨d.val, by omega⟩) = k (ix2 X (col h d))) :
    zf Q m K (ix2 r c) = κ2 * if p then (∑ d : Fin 64, q (ix2 P (col h d)) * k (ix2 X (col h d))) * ((1 / 8 : ℝ) : EReal) else ⊥ := by
  rw [zf_apply, hm]
  by_cases hp : p
  · rw [if_pos hp, if_pos hp, ← scaled_sum]
    have e : ∀ l : Fin 128, Q (ix2 r l) * K (ix2 c l)
        = Scalar.select (if l.val < 64 then 1#1 else 0#1) (xq (ix2 r l) * ((κ2 * (1 / 8) : ℝ) : EReal) * K (ix2 c l)) 0 := fun l => by
      rw [hQ l]; by_cases hl : l.val < 64 <;> simp [hl, Scalar.select]
    rw [show Scalar.select (1#1) (∑ l, Q (ix2 r l) * K (ix2 c l)) ⊥ = ∑ l, Q (ix2 r l) * K (ix2 c l) from rfl]
    simp only [e]
    rw [sum_lower fun l => xq (ix2 r l) * ((κ2 * (1 / 8) : ℝ) : EReal) * K (ix2 c l)]
    simp only [hq, hk]
  · rw [if_neg hp, if_neg hp, κ2_bot]; rfl

/-- The right head of a half of the columns. -/
theorem zf_upper (q k : FVec Ideal S16384x256 .f32) (h : Fin 4) (P X : Fin 16384) (Q K : FVec Ideal S256x128 .bf16) (xq : Vec Ideal S256x128 .bf16) (m : IVec S256x256 1)
    (r c : Fin 256) (p : Prop) [Decidable p] (hm : m (ix2 r c) = if p then 1#1 else 0#1)
    (hQ : ∀ l : Fin 128, Q (ix2 r l) = Scalar.select (if l.val < 64 then 0#1 else 1#1) (xq (ix2 r l) * ((κ2 * (1 / 8) : ℝ) : EReal)) 0)
    (hq : ∀ d : Fin 64, xq (ix2 r ⟨64 + d.val, by omega⟩) = q (ix2 P (col h d))) (hk : ∀ d : Fin 64, K (ix2 c ⟨64 + d.val, by omega⟩) = k (ix2 X (col h d))) :
    zf Q m K (ix2 r c) = κ2 * if p then (∑ d : Fin 64, q (ix2 P (col h d)) * k (ix2 X (col h d))) * ((1 / 8 : ℝ) : EReal) else ⊥ := by
  rw [zf_apply, hm]
  by_cases hp : p
  · rw [if_pos hp, if_pos hp, ← scaled_sum]
    have e : ∀ l : Fin 128, Q (ix2 r l) * K (ix2 c l)
        = Scalar.select (if l.val < 64 then 0#1 else 1#1) (xq (ix2 r l) * ((κ2 * (1 / 8) : ℝ) : EReal) * K (ix2 c l)) 0 := fun l => by
      rw [hQ l]; by_cases hl : l.val < 64 <;> simp [hl, Scalar.select]
    rw [show Scalar.select (1#1) (∑ l, Q (ix2 r l) * K (ix2 c l)) ⊥ = ∑ l, Q (ix2 r l) * K (ix2 c l) from rfl]
    simp only [e]
    rw [sum_upper fun l => xq (ix2 r l) * ((κ2 * (1 / 8) : ℝ) : EReal) * K (ix2 c l)]
    simp only [hq, hk]
  · rw [if_neg hp, if_neg hp, κ2_bot]; rfl

end Cert.Kernel6Ideal.Stick

end
-- ==== Proof.StickLoop.lean ====
/- The attention kernel's loop at the ideal numbers: after the last trip a query's running sums are its result. -/
module

public import proofs.«01_k».proof.Proof.StickBlock

@[expose] public section

set_option maxRecDepth 16384

noncomputable section

namespace Cert.Kernel6Ideal.Stick

open Idealize.ShloMosaic Idealize.ShloMosaic.TcCoe Idealize.SL.Sem
open Cert.Kernel6Ideal Cert.Kernel6Ideal.Gen Cert.Stick

/-- The two halves of a block of queries read back. -/
theorem ldL (x : Vec Ideal S256x256 .bf16) (r : Fin 256) (l : Fin 128) : View.ld x rL (ix2 r l) = x (ix2 r (colL l)) :=
  View.ld_unit_apply_of x _ _ _ _ (ix2 r (colL l)) fun a => by
    match a with
    | ⟨0, _⟩ => exact (Nat.zero_add _).symm
    | ⟨1, _⟩ => exact (Nat.zero_add _).symm
theorem ldR (x : Vec Ideal S256x256 .bf16) (r : Fin 256) (l : Fin 128) : View.ld x rR (ix2 r l) = x (ix2 r (colR l)) :=
  View.ld_unit_apply_of x _ _ _ _ (ix2 r (colR l)) fun a => by
    match a with
    | ⟨0, _⟩ => exact (Nat.zero_add _).symm
    | ⟨1, _⟩ => rfl
theorem tri_apply (x : Vec Ideal S256x256 .bf16) (r c : Fin 256) : k0_pay13 (View.ld x rAll) (ix2 r c) = x (ix2 r c) := by
  pointwise [k0_pay13]

section Row

variable (co : grid0.Coords) (xq xt : Vec Ideal S256x256 .bf16) (xk xv : Vec Ideal S16384x256 .bf16) (q k v : FVec Ideal S16384x256 .f32)
  (P : Fin 16384) (n : Nat) (h2 : 2 ≤ n) (hn : n < 66) (r : Fin 256) (hP : P.val = 256 * (co 0).val + r.val)

include hP hn h2 in
/-- The masks, of keys and queries. -/
theorem first_mask (c : Fin 256) : m0 (envAt co xq xt) (cnt n) (ix2 r c) = if (key (n - 2) c).val < P.val then 1#1 else 0#1 := by
  rw [hP, key_val _ (by omega)]
  exact m0_apply (co 0) n h2 hn r c

include hP hn h2 in
theorem second_mask (c : Fin 256) : m1 (envAt co xq xt) (cnt n) (ix2 r c) = if 3 ≤ n ∧ (key (n - 3) c).val < P.val then 1#1 else 0#1 := by
  rw [hP, key_val _ (by omega)]
  exact m1_apply (co 0) n h2 hn r c

variable (hq : ∀ j, xq (ix2 r j) = q (ix2 P j)) (hk : ∀ x j, xk (ix2 x j) = k (ix2 x j)) (hv : ∀ x j, xv (ix2 x j) = v (ix2 x j))
  (ht : ∀ d x : Fin 256, xt (ix2 d x) = if x.val < d.val then 1 else 0) (hc : k0_chk1 (cnt n))

/-! The scores of each head against both blocks. -/

section Scores
include h2 hn hP hq hk

theorem z00_apply (c : Fin 256) : z00 (envAt co xq xt) xk (cnt n) hc (ix2 r c) = κ2 * score q k 0 P (key (n - 2) c) :=
  zf_lower q k 0 P (key (n - 2) c) _ _ _ _ r c ((key (n - 2) c).val < P.val) (first_mask co xq xt P n h2 hn r hP c)
    (q_lower _ r) (fun d => (ldL xq r _).trans ((hq _).trans (congrArg q (congrArg (ix2 P) (Fin.ext (by simp [col, colL] <;> omega))))))
    (fun d => (pay22_apply _ c _).trans ((ld00 xk n h2 hn hc c _).trans ((hk _ _).trans (congrArg k (congrArg (ix2 (key (n - 2) c)) (Fin.ext (by simp [col, colL] <;> omega)))))))
theorem z10_apply (c : Fin 256) : z10 (envAt co xq xt) xk (cnt n) hc (ix2 r c) = κ2 * score q k 1 P (key (n - 2) c) :=
  zf_upper q k 1 P (key (n - 2) c) _ _ _ _ r c ((key (n - 2) c).val < P.val) (first_mask co xq xt P n h2 hn r hP c)
    (q_upper _ r) (fun d => (ldL xq r _).trans ((hq _).trans (congrArg q (congrArg (ix2 P) (Fin.ext (by simp [col, colL] <;> omega))))))
    (fun d => (pay22_apply _ c _).trans ((ld00 xk n h2 hn hc c _).trans ((hk _ _).trans (congrArg k (congrArg (ix2 (key (n - 2) c)) (Fin.ext (by simp [col, colL] <;> omega)))))))
theorem z20_apply (c : Fin 256) : z20 (envAt co xq xt) xk (cnt n) hc (ix2 r c) = κ2 * score q k 2 P (key (n - 2) c) :=
  zf_lower q k 2 P (key (n - 2) c) _ _ _ _ r c ((key (n - 2) c).val < P.val) (first_mask co xq xt P n h2 hn r hP c)
    (q_lower' _ r) (fun d => (ldR xq r _).trans ((hq _).trans (congrArg q (congrArg (ix2 P) (Fin.ext (by simp [col, colR] <;> omega))))))
    (fun d => (pay23_apply _ c _).trans ((ld01 xk n h2 hn hc c _).trans ((hk _ _).trans (congrArg k (congrArg (ix2 (key (n - 2) c)) (Fin.ext (by simp [col, colR] <;> omega)))))))
theorem z30_apply (c : Fin 256) : z30 (envAt co xq xt) xk (cnt n) hc (ix2 r c) = κ2 * score q k 3 P (key (n - 2) c) :=
  zf_upper q k 3 P (key (n - 2) c) _ _ _ _ r c ((key (n - 2) c).val < P.val) (first_mask co xq xt P n h2 hn r hP c)
    (q_upper' _ r) (fun d => (ldR xq r _).trans ((hq _).trans (congrArg q (congrArg (ix2 P) (Fin.ext (by simp [col, colR] <;> omega))))))
    (fun d => (pay23_apply _ c _).trans ((ld01 xk n h2 hn hc c _).trans ((hk _ _).trans (congrArg k (congrArg (ix2 (key (n - 2) c)) (Fin.ext (by simp [col, colR] <;> omega)))))))
theorem z01_apply (c : Fin 256) : z01 (envAt co xq xt) xk (cnt n) hc (ix2 r c) = if 3 ≤ n then κ2 * score q k 0 P (key (n - 3) c) else ⊥ :=
  (zf_lower q k 0 P (key (n - 3) c) _ _ _ _ r c (3 ≤ n ∧ (key (n - 3) c).val < P.val) (second_mask co xq xt P n h2 hn r hP c)
    (q_lower _ r) (fun d => (ldL xq r _).trans ((hq _).trans (congrArg q (congrArg (ix2 P) (Fin.ext (by simp [col, colL] <;> omega))))))
    (fun d => (pay24_apply _ c _).trans ((ld10 xk n h2 hn hc c _).trans ((hk _ _).trans (congrArg k (congrArg (ix2 (key (n - 3) c)) (Fin.ext (by simp [col, colL] <;> omega)))))))).trans (by rw [ite_and]; by_cases h3 : 3 ≤ n <;> simp only [h3, if_true, if_false, κ2_bot] <;> rfl)
theorem z11_apply (c : Fin 256) : z11 (envAt co xq xt) xk (cnt n) hc (ix2 r c) = if 3 ≤ n then κ2 * score q k 1 P (key (n - 3) c) else ⊥ :=
  (zf_upper q k 1 P (key (n - 3) c) _ _ _ _ r c (3 ≤ n ∧ (key (n - 3) c).val < P.val) (second_mask co xq xt P n h2 hn r hP c)
    (q_upper _ r) (fun d => (ldL xq r _).trans ((hq _).trans (congrArg q (congrArg (ix2 P) (Fin.ext (by simp [col, colL] <;> omega))))))
    (fun d => (pay24_apply _ c _).trans ((ld10 xk n h2 hn hc c _).trans ((hk _ _).trans (congrArg k (congrArg (ix2 (key (n - 3) c)) (Fin.ext (by simp [col, colL] <;> omega)))))))).trans (by rw [ite_and]; by_cases h3 : 3 ≤ n <;> simp only [h3, if_true, if_false, κ2_bot] <;> rfl)
theorem z21_apply (c : Fin 256) : z21 (envAt co xq xt) xk (cnt n) hc (ix2 r c) = if 3 ≤ n then κ2 * score q k 2 P (key (n - 3) c) else ⊥ :=
  (zf_lower q k 2 P (key (n - 3) c) _ _ _ _ r c (3 ≤ n ∧ (key (n - 3) c).val < P.val) (second_mask co xq xt P n h2 hn r hP c)
    (q_lower' _ r) (fun d => (ldR xq r _).trans ((hq _).trans (congrArg q (congrArg (ix2 P) (Fin.ext (by simp [col, colR] <;> omega))))))
    (fun d => (pay25_apply _ c _).trans ((ld11 xk n h2 hn hc c _).trans ((hk _ _).trans (congrArg k (congrArg (ix2 (key (n - 3) c)) (Fin.ext (by simp [col, colR] <;> omega)))))))).trans (by rw [ite_and]; by_cases h3 : 3 ≤ n <;> simp only [h3, if_true, if_false, κ2_bot] <;> rfl)
theorem z31_apply (c : Fin 256) : z31 (envAt co xq xt) xk (cnt n) hc (ix2 r c) = if 3 ≤ n then κ2 * score q k 3 P (key (n - 3) c) else ⊥ :=
  (zf_upper q k 3 P (key (n - 3) c) _ _ _ _ r c (3 ≤ n ∧ (key (n - 3) c).val < P.val) (second_mask co xq xt P n h2 hn r hP c)
    (q_upper' _ r) (fun d => (ldR xq r _).trans ((hq _).trans (congrArg q (congrArg (ix2 P) (Fin.ext (by simp [col, colR] <;> omega))))))
    (fun d => (pay25_apply _ c _).trans ((ld11 xk n h2 hn hc c _).trans ((hk _ _).trans (congrArg k (congrArg (ix2 (key (n - 3) c)) (Fin.ext (by simp [col, colR] <;> omega)))))))).trans (by rw [ite_and]; by_cases h3 : 3 ≤ n <;> simp only [h3, if_true, if_false, κ2_bot] <;> rfl)
end Scores

/-- What the loop carries, for one query: totals and sums over the blocks from `n - 1` on. -/
structure Inv (n : Nat) (s : St Ideal) : Prop where
  at_cnt : s.1 = cnt n
  flag : s.2.1 = 0#1
  c0 : s.2.2.1 (ix2 r 0) = κ2 * ∑ b ∈ Finset.Ico (n - 1) 64, blockSum (score q k 0 P) b
  c1 : s.2.2.2.1 (ix2 r 0) = κ2 * ∑ b ∈ Finset.Ico (n - 1) 64, blockSum (score q k 1 P) b
  c2 : s.2.2.2.2.1 (ix2 r 0) = κ2 * ∑ b ∈ Finset.Ico (n - 1) 64, blockSum (score q k 2 P) b
  c3 : s.2.2.2.2.2.1 (ix2 r 0) = κ2 * ∑ b ∈ Finset.Ico (n - 1) 64, blockSum (score q k 3 P) b
  aL : ∀ l : Fin 128, s.2.2.2.2.2.2.1 (ix2 r l)
    = ∑ b ∈ Finset.Ico (n - 1) 64, blockVal (score q k (headOf (colL l)) P) (fun x => v (ix2 x (colL l))) b
  aR : ∀ l : Fin 128, s.2.2.2.2.2.2.2 (ix2 r l)
    = ∑ b ∈ Finset.Ico (n - 1) 64, blockVal (score q k (headOf (colR l)) P) (fun x => v (ix2 x (colR l))) b

theorem head_L0 (l : Fin 128) (h : l.val < 64) : headOf (colL l) = 0 := Fin.ext (by show l.val / 64 = 0; omega)
theorem head_L1 (l : Fin 128) (h : ¬l.val < 64) : headOf (colL l) = 1 := Fin.ext (by show l.val / 64 = 1; omega)
theorem head_R0 (l : Fin 128) (h : l.val < 64) : headOf (colR l) = 2 := Fin.ext (by show (128 + l.val) / 64 = 2; omega)
theorem head_R1 (l : Fin 128) (h : ¬l.val < 64) : headOf (colR l) = 3 := Fin.ext (by show (128 + l.val) / 64 = 3; omega)

/-- The walk is never cut short: nothing is above plus infinity. -/
theorem done_zero (c0 c1 c2 c3 : FVec Ideal S256x1 .f32) : done c0 c1 c2 c3 = 0#1 := by
  unfold done
  rw [underflow_top]
  simp [Ideal.cmp]

set_option maxHeartbeats 1000000 in
include h2 hn hP hq hk hv ht in
/-- One trip. -/
theorem step_inv (s : St Ideal) (hs : k0_chk1 s.1) (I : Inv q k v P r n s) : Inv q k v P r (n - 2) (step (envAt co xq xt) xk xv s hs) := by
  obtain ⟨j, d, c0, c1, c2, c3, a0, a1⟩ := s
  obtain rfl : j = cnt n := I.at_cnt
  have hc : k0_chk1 (cnt n) := hs
  have t : ∀ d x : Fin 256, (envAt co xq xt).tri (ix2 d x) = if x.val < d.val then 1 else 0 := fun d x => (tri_apply xt d x).trans (ht d x)
  have vL0 : ∀ (l : Fin 128) (x : Fin 256), k0_pay26 (View.ld xv (b00 (cnt n) hc)) (ix2 x l) = v (ix2 (key (n - 2) x) (colL l)) :=
    fun l x => (pay26_apply _ x l).trans ((ld00 xv n h2 hn hc x l).trans (hv _ _))
  have vR0 : ∀ (l : Fin 128) (x : Fin 256), k0_pay27 (View.ld xv (b01 (cnt n) hc)) (ix2 x l) = v (ix2 (key (n - 2) x) (colR l)) :=
    fun l x => (pay27_apply _ x l).trans ((ld01 xv n h2 hn hc x l).trans (hv _ _))
  have vL1 : ∀ (l : Fin 128) (x : Fin 256), k0_pay28 (View.ld xv (b10 (cnt n) hc)) (ix2 x l) = v (ix2 (key (n - 3) x) (colL l)) :=
    fun l x => (pay28_apply _ x l).trans ((ld10 xv n h2 hn hc x l).trans (hv _ _))
  have vR1 : ∀ (l : Fin 128) (x : Fin 256), k0_pay29 (View.ld xv (b11 (cnt n) hc)) (ix2 x l) = v (ix2 (key (n - 3) x) (colR l)) :=
    fun l x => (pay29_apply _ x l).trans ((ld11 xv n h2 hn hc x l).trans (hv _ _))
  have Z00 := z00_apply co xq xt xk q k P n h2 hn r hP hq hk hc
  have Z10 := z10_apply co xq xt xk q k P n h2 hn r hP hq hk hc
  have Z20 := z20_apply co xq xt xk q k P n h2 hn r hP hq hk hc
  have Z30 := z30_apply co xq xt xk q k P n h2 hn r hP hq hk hc
  have Z01 := z01_apply co xq xt xk q k P n h2 hn r hP hq hk hc
  have Z11 := z11_apply co xq xt xk q k P n h2 hn r hP hq hk hc
  have Z21 := z21_apply co xq xt xk q k P n h2 hn r hP hq hk hc
  have Z31 := z31_apply co xq xt xk q k P n h2 hn r hP hq hk hc
  refine ⟨cnt_next ⟨n, hn⟩ h2, done_zero _ _ _ _, ?_, ?_, ?_, ?_, fun l => ?_, fun l => ?_⟩
  · exact (congrFun (t01_eq _ _ _ _ _) _).trans (head_total (score q k 0 P) n h2 hn c0 _ _ r I.c0 Z00 Z01)
  · exact (congrFun (t11_eq _ _ _ _ _) _).trans (head_total (score q k 1 P) n h2 hn c1 _ _ r I.c1 Z10 Z11)
  · exact (congrFun (t21_eq _ _ _ _ _) _).trans (head_total (score q k 2 P) n h2 hn c2 _ _ r I.c2 Z20 Z21)
  · exact (congrFun (t31_eq _ _ _ _ _) _).trans (head_total (score q k 3 P) n h2 hn c3 _ _ r I.c3 Z30 Z31)
  · refine (acc_apply _ _ _ _ _ _ _ r l).trans ?_
    dsimp only
    rw [y00_eq, y10_eq, y01_eq, y11_eq, show a0 (ix2 r l) = _ from I.aL l]
    rw [show (envAt co xq xt).lo (ix2 r l) = _ from lo_apply r l, show (envAt co xq xt).hi (ix2 r l) = _ from hi_apply r l]
    by_cases h : l.val < 64
    · rw [if_pos h, if_pos h, head_L0 l h, ← head_value (score q k 0 P) (fun x => v (ix2 x (colL l))) n h2 hn c0 _ _ r I.c0 Z00 Z01 _ _ _ l t (vL0 l) (vL1 l)]
      exact congrArg (_ + ·) (add_zero _)
    · rw [if_neg h, if_neg h, head_L1 l h, ← head_value (score q k 1 P) (fun x => v (ix2 x (colL l))) n h2 hn c1 _ _ r I.c1 Z10 Z11 _ _ _ l t (vL0 l) (vL1 l)]
      exact congrArg (_ + ·) (zero_add _)
  · refine (congrFun (acc1_eq (envAt co xq xt) xk xv (cnt n) hc c3 _ _ a1 _ _ _) _).trans ((acc_apply _ _ _ _ _ _ _ r l).trans ?_)
    dsimp only
    rw [y20_eq, y30_eq, y21_eq, show a1 (ix2 r l) = _ from I.aR l]
    rw [show (envAt co xq xt).lo (ix2 r l) = _ from lo_apply r l, show (envAt co xq xt).hi (ix2 r l) = _ from hi_apply r l]
    by_cases h : l.val < 64
    · rw [if_pos h, if_pos h, head_R0 l h, ← head_value (score q k 2 P) (fun x => v (ix2 x (colR l))) n h2 hn c2 _ _ r I.c2 Z20 Z21 _ _ _ l t (vR0 l) (vR1 l)]
      exact congrArg (_ + ·) (add_zero _)
    · rw [if_neg h, if_neg h, head_R1 l h, ← head_value (score q k 3 P) (fun x => v (ix2 x (colR l))) n h2 hn c3 _ _ r I.c3 Z30 Z31 _ _ _ l t (vR0 l) (vR1 l)]
      exact congrArg (_ + ·) (zero_add _)

include hP hq hk hv ht in
/-- All trips: the walk ends below block 0. -/
theorem loop_inv : ∀ (t n : Nat), n < 66 → n ≤ 2 * t + 1 → ∀ s : St Ideal, Inv q k v P r n s →
    ∃ n', n' ≤ 1 ∧ Inv q k v P r n' (loop (envAt co xq xt) xk xv t s) := by
  intro t
  induction t with
  | zero => exact fun n _ h s I => ⟨n, by omega, I⟩
  | succ t ih =>
    intro n hn h s I
    by_cases h2 : 2 ≤ n
    · have hg : goes s.1 s.2.1 := by rw [I.at_cnt, I.flag]; exact (goes_iff ⟨n, hn⟩ 0#1).2 ⟨h2, rfl⟩
      have hs : k0_chk1 s.1 := by rw [I.at_cnt]; exact cnt_chk ⟨n, hn⟩ h2
      rw [loop_go _ _ _ _ _ hg hs]
      exact ih (n - 2) (by omega) (by omega) _ (step_inv co xq xt xk xv q k v P n h2 hn r hP hq hk hv ht s hs I)
    · have hg : ¬goes s.1 s.2.1 := fun hg => h2 (by
        rw [I.at_cnt] at hg
        exact ((goes_iff ⟨n, hn⟩ s.2.1).1 hg).1)
      rw [loop_stop _ _ _ _ _ hg]
      exact ⟨n, by omega, I⟩

include hP in
/-- A block after the query's own is not seen. -/
theorem unseen (h : Fin 4) (b : Nat) (hb : b ∈ Finset.Ico ((co 0).val + 1) 64) (c : Fin 256) : score q k h P (key b c) = ⊥ := by
  have := Finset.mem_Ico.1 hb
  rw [score, if_neg]
  rw [hP, key_val b this.2]
  omega

include hP in
theorem unseen_sum (h : Fin 4) : ∑ b ∈ Finset.Ico ((co 0).val + 2 - 1) 64, blockSum (score q k h P) b = 0 :=
  Finset.sum_eq_zero fun b hb => Finset.sum_eq_zero fun c _ => by rw [unseen co q k P r hP h b hb c, sp_bot]

include hP in
theorem unseen_val (h : Fin 4) (V : Fin 16384 → EReal) : ∑ b ∈ Finset.Ico ((co 0).val + 2 - 1) 64, blockVal (score q k h P) V b = 0 :=
  Finset.sum_eq_zero fun b hb => Finset.sum_eq_zero fun c _ => by rw [weight_bot _ _ (unseen co q k P r hP h b hb c), zero_mul]

include hP in
/-- Where the walk starts. -/
theorem start_inv : Inv q k v P r ((co 0).val + 2) (start co) := by
  have z : ∀ (h : Fin 4), (0 : EReal) = κ2 * ∑ b ∈ Finset.Ico ((co 0).val + 2 - 1) 64, blockSum (score q k h P) b := fun h => by
    rw [unseen_sum co q k P r hP h, mul_zero]
  refine ⟨start_cnt (co 0), rfl, ?_, ?_, ?_, ?_, fun l => ?_, fun l => ?_⟩
  · rw [← z 0]; show k0_pay2 (F := Ideal) (ix2 r 0) = 0; pointwise [k0_pay2]
  · rw [← z 1]; show k0_pay3 (F := Ideal) (ix2 r 0) = 0; pointwise [k0_pay3]
  · rw [← z 2]; show k0_pay4 (F := Ideal) (ix2 r 0) = 0; pointwise [k0_pay4]
  · rw [← z 3]; show k0_pay5 (F := Ideal) (ix2 r 0) = 0; pointwise [k0_pay5]
  · rw [unseen_val co q k P r hP]; show k0_pay6 (F := Ideal) (ix2 r l) = 0; pointwise [k0_pay6]
  · rw [unseen_val co q k P r hP]; show k0_pay7 (F := Ideal) (ix2 r l) = 0; pointwise [k0_pay7]

/-- The blocks together are all keys. -/
theorem all_blocks (j : Fin 256) (n' : Nat) (h : n' ≤ 1) :
    ∑ b ∈ Finset.Ico (n' - 1) 64, blockVal (score q k (headOf j) P) (fun x => v (ix2 x j)) b = result q k v (ix2 P j) := by
  rw [show n' - 1 = 0 by omega]
  exact (sum_key fun x => weight (score q k (headOf j) P) x * v (ix2 x j)).symm

include hP hq hk hv ht in
/-- A POINT'S RESULT. -/
theorem out_apply (j : Fin 256) : outAt co xq xk xv xt (ix2 r j) = result q k v (ix2 P j) := by
  have h64 : (co 0).val < 64 := (co 0).isLt
  obtain ⟨n', hn', I⟩ := loop_inv co xq xt xk xv q k v P r hP hq hk hv ht 32 ((co 0).val + 2) (by omega) (by omega) (start co)
    (start_inv co q k v P r hP)
  unfold outAt final
  generalize loop (envAt co xq xt) xk xv 32 (start co) = s at I
  canon_tiles x e
  · idx_vars x
    obtain rfl : r = x0 := Fin.ext e0
    obtain rfl : j = colR x1 := Fin.ext e1
    exact (I.aR x1).trans (all_blocks q k v P (colR x1) n' hn')
  · idx_vars x
    obtain rfl : r = x0 := Fin.ext e0
    obtain rfl : j = colL x1 := Fin.ext e1
    exact (I.aL x1).trans (all_blocks q k v P (colL x1) n' hn')

end Row

end Cert.Kernel6Ideal.Stick

end
-- ==== Proof.StickRef.lean ====
/- The reference of the attention call: its value is the stick-breaking spec. -/
module

public import proofs.«01_k».proof.Proof.Gen.Reference6Ideal.Read
public import proofs.«01_k».proof.Proof.StickSpec

@[expose] public section

set_option maxRecDepth 16384

noncomputable section

namespace Cert.Reference6Ideal.Stick

open Idealize.ShloMosaic Idealize.ShloMosaic.TcCoe Idealize.SL.Sem
open Cert.Reference6Ideal Cert.Reference6Ideal.Read Cert.Stick

variable (q k v : FVec Ideal S16384x256 .f32)

theorem eighth : Ideal.ofBits .f32 0x3E000000#32 = ((1 / 8 : ℝ) : EReal) := by
  simp [Ideal.ofBits, Ideal.ieee]
  rw [← EReal.coe_mul]
  congr 1
  norm_num

theorem neg_inf : Ideal.ofBits .f32 0xFF800000#32 = ⊥ := by simp [Ideal.ofBits, Ideal.ieee]

/-- Positions compare as words the way they compare as numbers. -/
theorem slt_pos (a b : Fin 16384) : IntOp.cmpi .slt (BitVec.ofNat 32 a.val) (BitVec.ofNat 32 b.val) = if a.val < b.val then 1#1 else 0#1 := by
  have e : ∀ a : Fin 16384, (BitVec.ofNat 32 a.val).toInt = a.val := fun a => by
    have h : (BitVec.ofNat 32 a.val).toNat = a.val := by rw [BitVec.toNat_ofNat]; exact Nat.mod_eq_of_lt (by omega)
    rw [BitVec.toInt_eq_toNat_cond, h, if_pos (by omega)]
  show BitVec.ofBool (BitVec.slt _ _) = _
  rw [BitVec.slt, e, e]
  by_cases h : a.val < b.val <;> simp [h]

theorem sgt_pos (a b : Fin 16384) : IntOp.cmpi .sgt (BitVec.ofNat 32 a.val) (BitVec.ofNat 32 b.val) = if b.val < a.val then 1#1 else 0#1 :=
  slt_pos b a

/-- The scores. -/
theorem v12_apply (h : Fin 4) (p x : Fin 16384) : val_main_v12 (F := Ideal) q k (ix3 h p x) = score q k h p x := by
  have ei : ∀ (y : Fin 16384) (d : Fin 64), idx_main_v0 (ix3 y h d) = ix2 y (col h d) := fun y d => funext fun a => Fin.ext (by
    match a with
    | ⟨0, _⟩ => show ((y.val * 4 + h.val) * 64 + d.val) / 256 = y.val; omega
    | ⟨1, _⟩ => show ((y.val * 4 + h.val) * 64 + d.val) % 256 = 64 * h.val + d.val; omega)
  have e5 : val_main_v5 (F := Ideal) q k (ix3 h p x) = (∑ d : Fin 64, q (ix2 p (col h d)) * k (ix2 x (col h d))) * ((1 / 8 : ℝ) : EReal) := by
    rw [val_main_v5_apply, val_main_v3_apply, val_main_v4_apply, val_main_cst_apply]
    refine congrArg₂ (fun a b : EReal => a * b) (Finset.sum_congr rfl fun d _ => ?_) eighth
    rw [val_main_v0_apply, val_main_v1_apply]
    exact congrArg₂ (fun a b : EReal => a * b) (congrArg q (ei p d)) (congrArg k (ei x d))
  rw [val_main_v12_apply, val_main_call0_v1_apply, val_main_v11_apply, val_main_v9_apply, val_main_v10_apply, val_main_v7_apply, val_main_v8_apply,
    val_main_v6_apply, val_main_v6_apply, val_main_call0_v2_apply, val_main_call0_v0_apply, val_main_cst_0_apply, e5]
  refine (congrArg (fun m => Scalar.select m _ _) (slt_pos x p)).trans ?_
  rw [score]
  by_cases hx : x.val < p.val
  · rw [if_pos hx, if_pos hx]; rfl
  · rw [if_neg hx, if_neg hx]; exact neg_inf

/-- The logarithm of one minus the sigmoid. -/
theorem v14_apply (h : Fin 4) (p x : Fin 16384) : val_main_v14 (F := Ideal) q k (ix3 h p x) = -sp (score q k h p x) := by
  rw [val_main_v14_apply, val_main_call1_v1_apply, val_main_call1_call0_v4_apply, val_main_call1_call0_v6_apply, val_main_call1_call0_v11_apply,
    val_main_call1_call0_v1_apply, val_main_call1_call0_v10_apply, val_main_call1_call0_v9_apply, val_main_call1_call0_v8_apply,
    val_main_call1_call0_v7_apply, val_main_call1_call0_v3_apply, val_main_call1_call0_v0_apply, val_main_call1_call0_v2_apply, val_main_call1_call0_v5_apply,
    val_main_call1_call0_cst_apply,
    val_main_call1_v0_apply, val_main_v13_apply, v12_apply]
  generalize score q k h p x = z
  show -(Scalar.select (Ideal.cmp .une (- -z - Ideal.ofBits .f32 0#32) (- -z - Ideal.ofBits .f32 0#32)) (- -z + Ideal.ofBits .f32 0#32)
    (max (- -z) (Ideal.ofBits .f32 0#32) + Ideal.log (1 + Ideal.exp (-(max (- -z - Ideal.ofBits .f32 0#32) (-(- -z - Ideal.ofBits .f32 0#32))))))) = -sp z
  rw [Ideal.ofBits_zero_f32, neg_neg, sub_zero, sp]
  simp [Ideal.cmp]
  rfl

/-- What the later keys leave. -/
theorem v21_apply (h : Fin 4) (p x : Fin 16384) : val_main_v21 (F := Ideal) q k (ix3 h p x) = -later (score q k h p) x := by
  rw [val_main_v21_apply, later, ← neg_sum _ _ (fun d => by split; exacts [sp_nonneg _, le_refl _])]
  refine Finset.sum_congr rfl fun d _ => ?_
  rw [val_main_v20_apply, val_main_v19_apply, val_main_v17_apply, val_main_v18_apply, val_main_v15_apply, val_main_v16_apply, val_main_v6_apply, val_main_v6_apply]
  refine (congrArg₂ (fun a b : EReal => a * b) (show val_main_v14 (F := Ideal) q k _ = _ from (congrArg _ (funext fun a => Fin.ext (by
    match a with
    | ⟨0, _⟩ => rfl
    | ⟨1, _⟩ => rfl
    | ⟨2, _⟩ => rfl))).trans (v14_apply q k h p d)) (congrArg (FloatOps.uitofp (F := Ideal) .f32) (sgt_pos d x))).trans ?_
  by_cases hx : x.val < d.val
  · rw [if_pos hx, if_pos hx]
    exact (congrArg (_ * ·) bit_one).trans (mul_one _)
  · rw [if_neg hx, if_neg hx]
    exact (congrArg (_ * ·) bit_zero).trans (by simp)

/-- THE REFERENCE'S VALUE. -/
theorem value : val_main_v28 (F := Ideal) q k v = result q k v := by
  funext i
  obtain ⟨p, j, rfl⟩ : ∃ (p : Fin 16384) (j : Fin 256), i = ix2 p j := ⟨i 0, i 1, eq_ix2 i⟩
  rw [val_main_v28_apply]
  show val_main_v27 (F := Ideal) q k v (ix2 p j) = _
  rw [val_main_v27_apply, val_main_v26_apply, val_main_v25_apply]
  show _ = ∑ x : Fin 16384, weight (score q k (headOf j) p) x * v (ix2 x j)
  refine Finset.sum_congr rfl fun x _ => ?_
  rw [val_main_v2_apply, mul_comm]
  refine congrArg₂ (fun a b : EReal => a * b) ?_ (congrArg v (funext fun a => Fin.ext (by
    match a with
    | ⟨0, _⟩ => show ((x.val * 4 + (p.val * 256 + j.val) / 64 % 4) * 64 + (p.val * 256 + j.val) % 64) / 256 = x.val; omega
    | ⟨1, _⟩ => show ((x.val * 4 + (p.val * 256 + j.val) / 64 % 4) * 64 + (p.val * 256 + j.val) % 64) % 256 = j.val; omega)))
  have e : ridx_main_v25 (idx_main_v26 (idx_main_v27 (ix2 p j))) x = ix3 (headOf j) p x := funext fun a => Fin.ext (by
    match a with
    | ⟨0, _⟩ => show (p.val * 256 + j.val) / 64 % 4 = j.val / 64; omega
    | ⟨1, _⟩ => show (p.val * 256 + j.val) / 256 = p.val; omega
    | ⟨2, _⟩ => rfl)
  rw [e, val_main_v24_apply, val_main_v23_apply, val_main_v22_apply, v14_apply, v12_apply, v21_apply]
  rfl

/-- The reference ends with its arguments unchanged and every counter at zero. -/
theorem frame (m : (ℓ : Loc nD τ sig) → Buf (Elt Ideal) ℓ) (ρ : Dev nD → PrngReg) :
    θ_run (defs (F := Ideal)) (onTc (τ := τ) (main (F := Ideal))) ⟨m, fun _ => 0, ρ⟩ (fun r => (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2))
      ∧ r.2.sem = fun _ => 0) :=
  (θ_run defs _ _).mono (fun r h => ⟨fun c => (h c).2, Idealize.ShloMosaic.sem_eq_zero_of_no_sems (by decide) r.2⟩)
    (Value.run (F := Ideal) m ρ)

end Cert.Reference6Ideal.Stick

end
-- ==== Proof.StickValue.lean ====
/- The attention call: the kernel's result array, the reference's, and their equation. -/
module

public import proofs.«01_k».proof.Defs
public import proofs.«01_k».proof.Proof.StickFrame
public import proofs.«01_k».proof.Proof.StickLoop
public import proofs.«01_k».proof.Proof.StickRef
public import Idealize.ShloMosaic.Lib.Pipeline.ValueKit
public import Idealize.ShloMosaic.Lib.Pipeline.Covers

@[expose] public section

set_option maxRecDepth 16384

noncomputable section

namespace Cert.Kernel6Ideal.Stick

open Idealize.ShloMosaic Idealize.ShloMosaic.TcCoe Idealize.SL.Sem
open Cert.Kernel6Ideal Cert.Kernel6Ideal.Gen Cert.Stick

/-- The grid has one axis; the queries' and the output's blocks are the point's own, the others' the whole array. -/
theorem idx_at : ∀ t : Fin grid0.N, (grid0.coords t 0).val = t.val ∧ win0_0.index t = ![t.val, 0] ∧ win0_1.index t = ![0, 0]
    ∧ win0_2.index t = ![0, 0] ∧ win0_3.index t = ![0, 0] ∧ win0_4.index t = ![t.val, 0] := by decide +kernel

variable (m : (ℓ : Loc nD τ sig) → Buf (Elt Ideal) ℓ) (ρ : Dev nD → PrngReg)

/-! What the grid is entered with: the arguments, and the triangle. -/

theorem V_q (c : Dev nD) : V (F := Ideal) m c main_v7 = m ((c : Thread nD τ).loc main_arg0) := by
  dsimp only [V]
  after_results
  rfl

theorem V_k (c : Dev nD) : V (F := Ideal) m c main_v8 = m ((c : Thread nD τ).loc main_arg1) := by
  dsimp only [V]
  after_results
  rfl

theorem V_v (c : Dev nD) : V (F := Ideal) m c main_v9 = m ((c : Thread nD τ).loc main_arg2) := by
  dsimp only [V]
  after_results
  rfl

theorem sgt_place (d x : Fin 256) : IntOp.cmpi .sgt (BitVec.ofNat 32 d.val) (BitVec.ofNat 32 x.val) = if x.val < d.val then 1#1 else 0#1 := by
  have e : ∀ a : Fin 256, (BitVec.ofNat 32 a.val).toInt = a.val := by decide +kernel
  show BitVec.ofBool (BitVec.slt _ _) = _
  rw [BitVec.slt, e, e]
  by_cases h : x.val < d.val <;> simp [h]

theorem V_tri (c : Dev nD) (d x : Fin 256) : (show FVec Ideal S256x256 .bf16 from V (F := Ideal) m c main_v6) (ix2 d x)
    = if x.val < d.val then 1 else 0 := by
  refine Eq.trans (b := FloatOps.uitofp (F := Ideal) .bf16 (IntOp.cmpi .sgt (BitVec.ofNat 32 d.val) (BitVec.ofNat 32 x.val))) ?_ ?_
  · dsimp only [V]
    after_results
    pointwise []
  · rw [sgt_place]
    by_cases h : x.val < d.val
    · rw [if_pos h, if_pos h]; exact bit_one
    · rw [if_neg h, if_neg h]; exact bit_zero

/-- Every block of the result is some point's. -/
theorem covers : (cfg0 (F := Ideal)).win 4 |>.Covers := by
  refine Pipeline.Window.covers_of_index_surj _ rfl (by intro a; match a with | ⟨0, _⟩ => exact (by decide : 0 < 256) | ⟨1, _⟩ => exact (by decide : 0 < 256)) fun β => ?_
  have h0 : (β (0 : Fin 2)).val < 64 := Nat.lt_of_lt_of_eq (β (0 : Fin 2)).isLt (show (16384 + 256 - 1) / 256 = 64 by decide)
  have h1 : (β (1 : Fin 2)).val < 1 := Nat.lt_of_lt_of_eq (β (1 : Fin 2)).isLt (show (256 + 256 - 1) / 256 = 1 by decide)
  refine ⟨(⟨(β (0 : Fin 2)).val, h0⟩ : Fin grid0.N), fun a => ?_⟩
  rw [show ((cfg0 (F := Ideal)).win 4).index _ = _ from (idx_at _).2.2.2.2.2]
  match a with
  | ⟨0, _⟩ => rfl
  | ⟨1, _⟩ => show 0 = (β (1 : Fin 2)).val; omega

/-- THE RESULT ARRAY. -/
theorem array (c : Dev nD) : (dats (F := Ideal) m 0 c).arrAt 4 (cfg0 (F := Ideal)).N
    = result (m ((c : Thread nD τ).loc main_arg0)) (m ((c : Thread nD τ).loc main_arg1)) (m ((c : Thread nD τ).loc main_arg2)) := by
  obtain rfl : c = 0 := Subsingleton.elim _ _
  refine (dats m 0 0).arrAt_eq_of_covers 4 _ covers fun t hf y => ?_
  blk_simp
  rw [after4]
  have ht : t.val < 64 := t.isLt
  obtain ⟨r, j, rfl⟩ : ∃ (r : Fin 256) (j : Fin 256), y = ix2 r j :=
    ⟨(show S256x256.Idx from y) 0, (show S256x256.Idx from y) 1, eq_ix2 (show S256x256.Idx from y)⟩
  obtain ⟨P, hP⟩ : ∃ P : Fin 16384, P.val = 256 * t.val + r.val := ⟨⟨256 * t.val + r.val, by omega⟩, rfl⟩
  obtain ⟨ec, e0, e1, e2, e3, e4⟩ := idx_at t
  have hI : (((cfg0 (F := Ideal)).win 4).blk t).view.emb (ix2 r j) = ix2 P j := by blk_ext [e4, hP]
  refine Eq.trans ?_ (congrArg (result _ _ _) hI).symm
  refine out_apply (grid0.coords t) (iblk m 0 0 t) (iblk m 0 3 t) (iblk m 0 1 t) (iblk m 0 2 t) _ _ _ P r (by rw [ec, hP])
    (fun j => ?_) (fun x j => ?_) (fun x j => ?_) (fun d x => ?_) j
  · refine Eq.trans (b := V (F := Ideal) m 0 main_v7 (ix2 P j)) ?_ (congrFun (V_q m 0) _)
    blk_ext [iblk, e0, hP]
  · refine Eq.trans (b := V (F := Ideal) m 0 main_v8 (ix2 x j)) ?_ (congrFun (V_k m 0) _)
    blk_ext [iblk, e1]
  · refine Eq.trans (b := V (F := Ideal) m 0 main_v9 (ix2 x j)) ?_ (congrFun (V_v m 0) _)
    blk_ext [iblk, e2]
  · refine Eq.trans (b := V (F := Ideal) m 0 main_v6 (ix2 d x)) ?_ (V_tri m 0 d x)
    blk_ext [iblk, e3]

/-- The kernel's run. -/
theorem run : θ_run (defs (F := Ideal)) (onTc (τ := τ) (main (F := Ideal))) ⟨m, fun _ => 0, ρ⟩ fun r => ∀ c : Dev nD,
      r.2.mem ((c.tc : Thread nD τ).loc main_v10) = result (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run (defs (F := Ideal)) _ _).mono (fun _ h c => ⟨((h.1 c).1 4).trans (array m c), h.2.1 c⟩)
    (θ_run_and (run_main m ρ) (frame m ρ))

/-- KERNEL AND REFERENCE COMPUTE THE SAME ARRAY. -/
theorem algebraic : Cert.algebraic_Kernel6Ideal_Reference6Ideal (hKernel6Ideal := Cert.Kernel6Ideal.Gen.facts)
    (hReference6Ideal := Cert.Reference6Ideal.Gen.facts) := by
  intro m g m' g' _ hargs
  refine ⟨_, run m g, ?_⟩
  refine (θ_run Cert.Reference6Ideal.defs _ _).mono (fun r h c => ⟨?_, (h c).2⟩) (Cert.Reference6Ideal.Value.run (F := Ideal) m' g')
  obtain ⟨e0, e1, e2⟩ := hargs c
  refine (h c).1.trans ((Cert.Reference6Ideal.Read.val_main_v28_eq _ _).trans ?_)
  rw [e0, e1, e2]
  exact Cert.Reference6Ideal.Stick.value _ _ _

end Cert.Kernel6Ideal.Stick

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite
public import proofs.«01_k».proof.Proof.Gen.Kernel2
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Kernel2.Frame
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3Ideal
public import proofs.«01_k».proof.Proof.Gen.Kernel3Ideal.Launch
public import proofs.«01_k».proof.Proof.Gen.Kernel3Ideal.Skeleton
public import proofs.«01_k».proof.Proof.Gen.Reference3Ideal
public import proofs.«01_k».proof.Proof.Gen.Reference3Ideal.Run
public import proofs.«01_k».proof.Proof.Gen.Reference3Ideal.Read
public import proofs.«01_k».proof.Proof.Gen.Pre_routed
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Launch
public import proofs.«01_k».proof.Proof.Gen.Kernel6.Skeleton
public import proofs.«01_k».proof.Proof.Gen.Kernel6Ideal
public import proofs.«01_k».proof.Proof.Gen.Kernel6Ideal.Launch
public import proofs.«01_k».proof.Proof.Gen.Kernel6Ideal.Skeleton
public import proofs.«01_k».proof.Proof.Gen.Reference6Ideal
public import proofs.«01_k».proof.Proof.Gen.Reference6Ideal.Run
public import proofs.«01_k».proof.Proof.Gen.Reference6Ideal.Read
public import proofs.«01_k».proof.Proof.Attention
public import proofs.«01_k».proof.Proof.FfnValue
public import proofs.«01_k».proof.Proof.MoeValue
public import proofs.«01_k».proof.Proof.ProjValue
public import proofs.«01_k».proof.Proof.MixValue
public import proofs.«01_k».proof.Proof.StickBitsFrame
public import proofs.«01_k».proof.Proof.StickFrame
public import proofs.«01_k».proof.Proof.StickValue
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts, Cert.Pre_finite.Gen.facts, Cert.Pre_routed.Gen.facts,
  fun m ρ _ => Cert.Kernel.Gen.frame m ρ,
  fun m ρ _ => Cert.KernelIdeal.Gen.frame m ρ,
  fun m ρ _ => Cert.KernelIdeal.Gen.frame m ρ,
  fun m ρ _ => Cert.Attn.reference_frame m ρ,
  fun m ρ _ => Cert.Attn.reference_frame m ρ,
  fun m ρ _ => Cert.Kernel2.Gen.frame m ρ,
  fun m ρ _ => Cert.Kernel2Ideal.Gen.frame m ρ,
  fun m ρ _ => Cert.Reference2Ideal.Ffn.frame m ρ,
  Cert.Kernel3Ideal.Moe.frame_kernel,
  Cert.Kernel3Ideal.Moe.frame_ideal,
  fun m ρ _ => Cert.Reference3Ideal.Moe.frame m ρ,
  fun m ρ _ => Cert.Reference3Ideal.Moe.frame m ρ,
  fun m ρ _ => Cert.Kernel4.Gen.frame m ρ,
  fun m ρ _ => Cert.Kernel4Ideal.Gen.frame m ρ,
  fun m ρ _ => Cert.Reference4Ideal.Proj.frame m ρ,
  fun m ρ _ => Cert.Kernel5.Gen.frame m ρ,
  fun m ρ _ => Cert.Kernel5Ideal.Gen.frame m ρ,
  fun m ρ _ => Cert.Reference5Ideal.Mix.frame m ρ,
  fun m ρ _ => Cert.Kernel6.Stick.frame m ρ,
  fun m ρ _ => Cert.Kernel6Ideal.Stick.frame m ρ,
  fun m ρ _ => Cert.Reference6Ideal.Stick.frame m ρ,
  IdealRules.named_const.statement Cert.KernelIdeal.κ "mask" .f32 0xF149F2CA#32 ⊥ rfl,
  Cert.Attn.algebraic,
  trivial,
  Cert.Swiglu.ffn_algebraic,
  trivial,
  Cert.Kernel3Ideal.Moe.algebraic,
  trivial,
  Cert.Norm.proj_algebraic,
  trivial,
  Cert.Norm.mix_algebraic,
  ⟨IdealRules.named_const.statement Cert.Kernel6Ideal.κ "scale_log2e" .f32 0x3E38AA3B#32 (((8 * (Real.log 2))⁻¹ : ℝ) : EReal) rfl,
    IdealRules.named_const.statement Cert.Kernel6Ideal.κ "masked" .f32 0xC6616BCD#32 ⊥ rfl,
    IdealRules.named_const.statement Cert.Kernel6Ideal.κ "inv_ln2" .f32 0x3FB8AA3B#32 (((Real.log 2)⁻¹ : ℝ) : EReal) rfl,
    IdealRules.named_const.statement Cert.Kernel6Ideal.κ "underflow" .f32 0x43160A50#32 ⊤ rfl⟩,
  Cert.Kernel6Ideal.Stick.algebraic⟩

end Cert.Proof

end
